-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_located [hPre_located : Cert.Pre_located.Facts] (m : (ℓ : Loc Cert.KernelIdeal.nD Cert.KernelIdeal.τ Cert.KernelIdeal.sig) → Buf (Elt Ideal) ℓ) : Prop :=
  ∀ c : Dev Cert.KernelIdeal.nD,
    (Cert.Pre_located.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_located.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_located.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_located.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_located [hPre_located : Cert.Pre_located.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_located.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_located.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_located.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_located.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_graph [hPre_graph : Cert.Pre_graph.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_graph.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_graph.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_graph.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_graph.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_graph.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_graph [hPre_graph : Cert.Pre_graph.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_graph.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_graph.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_graph.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_graph.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_graph.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_scored [hPre_scored : Cert.Pre_scored.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2.1 = (fun _ => 1#1)
    ∧ (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_scored [hPre_scored : Cert.Pre_scored.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2.1 = (fun _ => 1#1)
    ∧ (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_located [hKernelIdeal : Cert.KernelIdeal.Facts] [hPre_located : Cert.Pre_located.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_located m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_located [hReferenceIdeal : Cert.ReferenceIdeal.Facts] [hPre_located : Cert.Pre_located.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_located m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_graph [hKernel2Ideal : Cert.Kernel2Ideal.Facts] [hPre_graph : Cert.Pre_graph.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_graph m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_graph [hReference2Ideal : Cert.Reference2Ideal.Facts] [hPre_graph : Cert.Pre_graph.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_graph m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_scored [hKernel3Ideal : Cert.Kernel3Ideal.Facts] [hPre_scored : Cert.Pre_scored.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_scored m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_scored [hReference3Ideal : Cert.Reference3Ideal.Facts] [hPre_scored : Cert.Pre_scored.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_scored m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_on_first_four [hKernelIdeal : Cert.KernelIdeal.Facts] [hReferenceIdeal : Cert.ReferenceIdeal.Facts] [hOn_first_four : Cert.On_first_four.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 256]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 i = 1#1 → r.2.mem ((c.tc : Thread Cert.KernelIdeal.nD Cert.KernelIdeal.τ).loc Cert.KernelIdeal.main_v13_0) i = v0 c i)
          ∧ (∀ i : (⟨2, ![1, 256]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 i = 1#1 → r.2.mem ((c.tc : Thread Cert.KernelIdeal.nD Cert.KernelIdeal.τ).loc Cert.KernelIdeal.main_v13_1) i = v1 c i)
          ∧ (∀ i : (⟨2, ![1, 1]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 i = 1#1 → r.2.mem ((c.tc : Thread Cert.KernelIdeal.nD Cert.KernelIdeal.τ).loc Cert.KernelIdeal.main_v13_2) i = v2 c i)
          ∧ (∀ i : (⟨2, ![1, 1]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 i = 1#1 → r.2.mem ((c.tc : Thread Cert.KernelIdeal.nD Cert.KernelIdeal.τ).loc Cert.KernelIdeal.main_v13_3) i = v3 c i)
          ∧ (∀ i : (⟨2, ![1, 768]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2 i = 1#1 → r.2.mem ((c.tc : Thread Cert.KernelIdeal.nD Cert.KernelIdeal.τ).loc Cert.KernelIdeal.main_v13_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 256]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 i = 1#1 → r.2.mem ((c.tc : Thread Cert.ReferenceIdeal.nD Cert.ReferenceIdeal.τ).loc Cert.ReferenceIdeal.main_v4_13) i = v0 c i)
          ∧ (∀ i : (⟨2, ![1, 256]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 i = 1#1 → r.2.mem ((c.tc : Thread Cert.ReferenceIdeal.nD Cert.ReferenceIdeal.τ).loc Cert.ReferenceIdeal.main_v70) i = v1 c i)
          ∧ (∀ i : (⟨2, ![1, 1]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 i = 1#1 → r.2.mem ((c.tc : Thread Cert.ReferenceIdeal.nD Cert.ReferenceIdeal.τ).loc Cert.ReferenceIdeal.main_v77) i = v2 c i)
          ∧ (∀ i : (⟨2, ![1, 1]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 i = 1#1 → r.2.mem ((c.tc : Thread Cert.ReferenceIdeal.nD Cert.ReferenceIdeal.τ).loc Cert.ReferenceIdeal.main_v79) i = v3 c i)
          ∧ (∀ i : (⟨2, ![1, 768]⟩ : Shape).Idx, (Cert.On_first_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2 i = 1#1 → r.2.mem ((c.tc : Thread Cert.ReferenceIdeal.nD Cert.ReferenceIdeal.τ).loc Cert.ReferenceIdeal.main_v82) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def algebraic_KernelIdeal_ReferenceIdeal_pre_located [hKernelIdeal : Cert.KernelIdeal.Facts] [hReferenceIdeal : Cert.ReferenceIdeal.Facts] [hPre_located : Cert.Pre_located.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_located m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_13) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def preserves_Kernel2_Kernel2Ideal : Prop :=
  True

def algebraic_Kernel2Ideal_Reference2Ideal_pre_graph [hKernel2Ideal : Cert.Kernel2Ideal.Facts] [hReference2Ideal : Cert.Reference2Ideal.Facts] [hPre_graph : Cert.Pre_graph.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_graph m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v62_0)) (v1 : (c : Dev Cert.Kernel2Ideal.nD) → Buf (Elt Ideal) ((c.tc : Thread Cert.Kernel2Ideal.nD Cert.Kernel2Ideal.τ).loc Cert.Kernel2Ideal.main_v62_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v62_0) = v0 c
          ∧ r.2.mem ((c.tc : Thread Cert.Kernel2Ideal.nD Cert.Kernel2Ideal.τ).loc Cert.Kernel2Ideal.main_v62_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_v124) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_scored [hKernel3Ideal : Cert.Kernel3Ideal.Facts] [hReference3Ideal : Cert.Reference3Ideal.Facts] [hPre_scored : Cert.Pre_scored.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_scored m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_located : Cert.Pre_located.Facts) (hPre_graph : Cert.Pre_graph.Facts) (hPre_scored : Cert.Pre_scored.Facts) (hOn_first_four : Cert.On_first_four.Facts),
    quiescent_Kernel (hKernel := hKernel)
    ∧ quiescent_KernelIdeal (hKernelIdeal := hKernelIdeal)
    ∧ quiescent_KernelIdeal_pre_located (hKernelIdeal := hKernelIdeal) (hPre_located := hPre_located)
    ∧ quiescent_ReferenceIdeal (hReferenceIdeal := hReferenceIdeal)
    ∧ quiescent_ReferenceIdeal_pre_located (hReferenceIdeal := hReferenceIdeal) (hPre_located := hPre_located)
    ∧ quiescent_Kernel2 (hKernel2 := hKernel2)
    ∧ quiescent_Kernel2Ideal (hKernel2Ideal := hKernel2Ideal)
    ∧ quiescent_Kernel2Ideal_pre_graph (hKernel2Ideal := hKernel2Ideal) (hPre_graph := hPre_graph)
    ∧ quiescent_Reference2Ideal (hReference2Ideal := hReference2Ideal)
    ∧ quiescent_Reference2Ideal_pre_graph (hReference2Ideal := hReference2Ideal) (hPre_graph := hPre_graph)
    ∧ quiescent_Kernel3 (hKernel3 := hKernel3)
    ∧ quiescent_Kernel3Ideal (hKernel3Ideal := hKernel3Ideal)
    ∧ quiescent_Kernel3Ideal_pre_scored (hKernel3Ideal := hKernel3Ideal) (hPre_scored := hPre_scored)
    ∧ quiescent_Reference3Ideal (hReference3Ideal := hReference3Ideal)
    ∧ quiescent_Reference3Ideal_pre_scored (hReference3Ideal := hReference3Ideal) (hPre_scored := hPre_scored)
    ∧ preserves_Kernel_KernelIdeal
    ∧ algebraic_KernelIdeal_ReferenceIdeal_on_first_four (hKernelIdeal := hKernelIdeal) (hReferenceIdeal := hReferenceIdeal) (hOn_first_four := hOn_first_four)
    ∧ algebraic_KernelIdeal_ReferenceIdeal_pre_located (hKernelIdeal := hKernelIdeal) (hReferenceIdeal := hReferenceIdeal) (hPre_located := hPre_located)
    ∧ preserves_Kernel2_Kernel2Ideal
    ∧ algebraic_Kernel2Ideal_Reference2Ideal_pre_graph (hKernel2Ideal := hKernel2Ideal) (hReference2Ideal := hReference2Ideal) (hPre_graph := hPre_graph)
    ∧ preserves_Kernel3_Kernel3Ideal
    ∧ algebraic_Kernel3Ideal_Reference3Ideal_pre_scored (hKernel3Ideal := hKernel3Ideal) (hReference3Ideal := hReference3Ideal) (hPre_scored := hPre_scored)
-- ==== On_first_four.lean ====
abbrev S512x8 : Shape := ⟨2, ![512, 8]⟩
abbrev S1x256 : Shape := ⟨2, ![1, 256]⟩
abbrev S1x1 : Shape := ⟨2, ![1, 1]⟩
abbrev S2000x2 : Shape := ⟨2, ![2000, 2]⟩
abbrev S2000 : Shape := ⟨1, ![2000]⟩
abbrev S768x8 : Shape := ⟨2, ![768, 8]⟩
abbrev S768x256 : Shape := ⟨2, ![768, 256]⟩
abbrev S768 : Shape := ⟨1, ![768]⟩
abbrev S768x9 : Shape := ⟨2, ![768, 9]⟩
abbrev S_ : Shape := ⟨0, ![]⟩
abbrev S1x768 : Shape := ⟨2, ![1, 768]⟩

class Facts : Prop where
  bcast_S_S1x256 : S_.BroadcastsInDim S1x256 (![] : Fin 0 → Fin S1x256.rank)
  bcast_S_S1x1 : S_.BroadcastsInDim S1x1 (![] : Fin 0 → Fin S1x1.rank)
  bcast_S_S1x768 : S_.BroadcastsInDim S1x768 (![] : Fin 0 → Fin S1x768.rank)

variable [Facts]

def fn {F : FTy → Type} [FloatOps F] (main_arg0 : FVec F S512x8 .f32) (main_arg1 : FVec F S1x256 .f32) (main_arg2 : FVec F S1x1 .f32) (main_arg3 : FVec F S1x256 .f32) (main_arg4 : FVec F S1x1 .f32) (main_arg5 : FVec F S1x1 .f32) (main_arg6 : FVec F S2000x2 .f32) (main_arg7 : FVec F S2000 .f32) (main_arg8 : FVec F S1x1 .f32) (main_arg9 : FVec F S768x8 .f32) (main_arg10 : FVec F S768x256 .f32) (main_arg11 : FVec F S768 .f32) (main_arg12 : FVec F S768 .f32) (main_arg13 : FVec F S768x9 .f32) (main_arg14 : FVec F S768x256 .f32) (main_arg15 : FVec F S768 .f32) (main_arg16 : FVec F S768 .f32) (main_arg17 : FVec F S768x9 .f32) (main_arg18 : FVec F S768x256 .f32) (main_arg19 : FVec F S768 .f32) (main_arg20 : FVec F S768 .f32) : IVec S1x256 1 × IVec S1x256 1 × IVec S1x1 1 × IVec S1x1 1 × IVec S1x768 1 :=
  let main_c : IVec S_ 1 := constantI S_ 1 1#1
  let main_v0 : IVec S1x256 1 := broadcastInDim S1x256 ![] bcast_S_S1x256 main_c
  let main_c_0 : IVec S_ 1 := constantI S_ 1 1#1
  let main_v1 : IVec S1x256 1 := broadcastInDim S1x256 ![] bcast_S_S1x256 main_c_0
  let main_c_1 : IVec S_ 1 := constantI S_ 1 1#1
  let main_v2 : IVec S1x1 1 := broadcastInDim S1x1 ![] bcast_S_S1x1 main_c_1
  let main_c_2 : IVec S_ 1 := constantI S_ 1 1#1
  let main_v3 : IVec S1x1 1 := broadcastInDim S1x1 ![] bcast_S_S1x1 main_c_2
  let main_c_3 : IVec S_ 1 := constantI S_ 1 0#1
  let main_v4 : IVec S1x768 1 := broadcastInDim S1x768 ![] bcast_S_S1x768 main_c_3
  (main_v0, main_v1, main_v2, main_v3, main_v4)
-- ==== Pre_graph.lean ====
abbrev S4096x4096 : Shape := ⟨2, ![4096, 4096]⟩
abbrev S4096x4 : Shape := ⟨2, ![4096, 4]⟩
abbrev S4x4x4 : Shape := ⟨3, ![4, 4, 4]⟩
abbrev S4x8x1 : Shape := ⟨3, ![4, 8, 1]⟩
abbrev S16x2 : Shape := ⟨2, ![16, 2]⟩
abbrev S_ : Shape := ⟨0, ![]⟩
abbrev S4096 : Shape := ⟨1, ![4096]⟩

class Facts : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S_S4096x4 : S_.BroadcastsInDim S4096x4 (![] : Fin 0 → Fin S4096x4.rank)
  bcast_S_S4x4x4 : S_.BroadcastsInDim S4x4x4 (![] : Fin 0 → Fin S4x4x4.rank)
  bcast_S_S4x8x1 : S_.BroadcastsInDim S4x8x1 (![] : Fin 0 → Fin S4x8x1.rank)

variable [Facts]

def fn {F : FTy → Type} [FloatOps F] (main_arg0 : FVec F S4096x4096 .f32) (main_arg1 : FVec F S4096x4 .f32) (main_arg2 : FVec F S4x4x4 .f32) (main_arg3 : FVec F S4x8x1 .f32) (main_arg4 : FVec F S16x2 .f32) : IVec S4096x4096 1 × IVec S4096 1 × IVec S4096x4 1 × IVec S4x4x4 1 × IVec S4x8x1 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oeq main_arg0 main_v0
  let main_cst_0 : FVec F S_ .f32 := constant S_ .f32 0x3F800000#32
  let main_v2 : FVec F S4096x4096 .f32 := broadcastInDim S4096x4096 ![] bcast_S_S4096x4096 main_cst_0
  let main_v3 : IVec S4096x4096 1 := cmpf .oeq main_arg0 main_v2
  let main_v4 : IVec S4096x4096 1 := ori main_v1 main_v3
  let main_cst_1 : FVec F S_ .f32 := constant S_ .f32 0xFF800000#32
  let main_v5 : FVec F S4096 .f32 := (fun x v => Host.reduce FloatOps.maximumf x v reducesTo_S4096x4096_S4096_d1 h_S_) main_arg0 main_cst_1
  let main_cst_2 : FVec F S_ .f32 := constant S_ .f32 0x00000000#32
  let main_v6 : FVec F S4096 .f32 := broadcastInDim S4096 ![] bcast_S_S4096 main_cst_2
  let main_v7 : IVec S4096 1 := cmpf .ogt main_v5 main_v6
  let main_v8 : FVec F S4096x4 .f32 := Host.absf main_arg1
  let main_cst_3 : FVec F S_ .f32 := constant S_ .f32 0x7F800000#32
  let main_v9 : FVec F S4096x4 .f32 := broadcastInDim S4096x4 ![] bcast_S_S4096x4 main_cst_3
  let main_v10 : IVec S4096x4 1 := cmpf .olt main_v8 main_v9
  let main_v11 : FVec F S4x4x4 .f32 := Host.absf main_arg2
  let main_cst_4 : FVec F S_ .f32 := constant S_ .f32 0x7F800000#32
  let main_v12 : FVec F S4x4x4 .f32 := broadcastInDim S4x4x4 ![] bcast_S_S4x4x4 main_cst_4
  let main_v13 : IVec S4x4x4 1 := cmpf .olt main_v11 main_v12
  let main_v14 : FVec F S4x8x1 .f32 := Host.absf main_arg3
  let main_cst_5 : FVec F S_ .f32 := constant S_ .f32 0x7F800000#32
  let main_v15 : FVec F S4x8x1 .f32 := broadcastInDim S4x8x1 ![] bcast_S_S4x8x1 main_cst_5
  let main_v16 : IVec S4x8x1 1 := cmpf .olt main_v14 main_v15
  (main_v4, main_v7, main_v10, main_v13, main_v16)
-- ==== Pre_located.lean ====
abbrev S512x8 : Shape := ⟨2, ![512, 8]⟩
abbrev S1x256 : Shape := ⟨2, ![1, 256]⟩
abbrev S1x1 : Shape := ⟨2, ![1, 1]⟩
abbrev S2000x2 : Shape := ⟨2, ![2000, 2]⟩
abbrev S2000 : Shape := ⟨1, ![2000]⟩
abbrev S768x8 : Shape := ⟨2, ![768, 8]⟩
abbrev S768x256 : Shape := ⟨2, ![768, 256]⟩
abbrev S768 : Shape := ⟨1, ![768]⟩
abbrev S768x9 : Shape := ⟨2, ![768, 9]⟩
abbrev S_ : Shape := ⟨0, ![]⟩

class Facts : Prop where
  bcast_S_S1x256 : S_.BroadcastsInDim S1x256 (![] : Fin 0 → Fin S1x256.rank)
  bcast_S_S2000x2 : S_.BroadcastsInDim S2000x2 (![] : Fin 0 → Fin S2000x2.rank)
  bcast_S_S2000 : S_.BroadcastsInDim S2000 (![] : Fin 0 → Fin S2000.rank)
  bcast_S_S1x1 : S_.BroadcastsInDim S1x1 (![] : Fin 0 → Fin S1x1.rank)

variable [Facts]

def fn {F : FTy → Type} [FloatOps F] (main_arg0 : FVec F S512x8 .f32) (main_arg1 : FVec F S1x256 .f32) (main_arg2 : FVec F S1x1 .f32) (main_arg3 : FVec F S1x256 .f32) (main_arg4 : FVec F S1x1 .f32) (main_arg5 : FVec F S1x1 .f32) (main_arg6 : FVec F S2000x2 .f32) (main_arg7 : FVec F S2000 .f32) (main_arg8 : FVec F S1x1 .f32) (main_arg9 : FVec F S768x8 .f32) (main_arg10 : FVec F S768x256 .f32) (main_arg11 : FVec F S768 .f32) (main_arg12 : FVec F S768 .f32) (main_arg13 : FVec F S768x9 .f32) (main_arg14 : FVec F S768x256 .f32) (main_arg15 : FVec F S768 .f32) (main_arg16 : FVec F S768 .f32) (main_arg17 : FVec F S768x9 .f32) (main_arg18 : FVec F S768x256 .f32) (main_arg19 : FVec F S768 .f32) (main_arg20 : FVec F S768 .f32) : IVec S1x256 1 × IVec S2000x2 1 × IVec S2000 1 × IVec S1x1 1 :=
  let main_v0 : FVec F S1x256 .f32 := Host.absf main_arg1
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_v3 : FVec F S2000x2 .f32 := Host.absf main_arg6
  let main_cst_0 : FVec F S_ .f32 := constant S_ .f32 0x7F800000#32
  let main_v4 : FVec F S2000x2 .f32 := broadcastInDim S2000x2 ![] bcast_S_S2000x2 main_cst_0
  let main_v5 : IVec S2000x2 1 := cmpf .olt main_v3 main_v4
  let main_v6 : FVec F S2000 .f32 := Host.absf main_arg7
  let main_cst_1 : FVec F S_ .f32 := constant S_ .f32 0x7F800000#32
  let main_v7 : FVec F S2000 .f32 := broadcastInDim S2000 ![] bcast_S_S2000 main_cst_1
  let main_v8 : IVec S2000 1 := cmpf .olt main_v6 main_v7
  let main_v9 : FVec F S1x1 .f32 := Host.absf main_arg8
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  (main_v2, main_v5, main_v8, main_v11)
-- ==== Pre_scored.lean ====
abbrev S_ : Shape := ⟨0, ![]⟩
abbrev S4096x4096 : Shape := ⟨2, ![4096, 4096]⟩
abbrev S4096x2 : Shape := ⟨2, ![4096, 2]⟩
abbrev S1x768 : Shape := ⟨2, ![1, 768]⟩
abbrev S2000x2 : Shape := ⟨2, ![2000, 2]⟩
abbrev S4x1 : Shape := ⟨2, ![4, 1]⟩
abbrev S4096 : Shape := ⟨1, ![4096]⟩

class Facts : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S_S4096x2 : S_.BroadcastsInDim S4096x2 (![] : Fin 0 → Fin S4096x2.rank)
  bcast_S_S1x768 : S_.BroadcastsInDim S1x768 (![] : Fin 0 → Fin S1x768.rank)
  bcast_S_S2000x2 : S_.BroadcastsInDim S2000x2 (![] : Fin 0 → Fin S2000x2.rank)
  bcast_S_S4x1 : S_.BroadcastsInDim S4x1 (![] : Fin 0 → Fin S4x1.rank)

variable [Facts]

def fn_part1 {F : FTy → Type} [FloatOps F] (main_arg5 : FVec F S4x1 .f32) (main_v0 : IVec S_ 1) (main_v5 : IVec S4096x4096 1) (main_v8 : IVec S4096 1) (main_v11 : IVec S4096x2 1) (main_v14 : IVec S1x768 1) (main_v15 : FVec F S2000x2 .f32) (main_cst_5 : FVec F S_ .f32) : IVec S_ 1 × IVec S4096x4096 1 × IVec S4096 1 × IVec S4096x2 1 × IVec S1x768 1 × IVec S2000x2 1 × IVec S4x1 1 :=
  let main_v16 : FVec F S2000x2 .f32 := broadcastInDim S2000x2 ![] bcast_S_S2000x2 main_cst_5
  let main_v17 : IVec S2000x2 1 := cmpf .olt main_v15 main_v16
  let main_v18 : FVec F S4x1 .f32 := Host.absf main_arg5
  let main_cst_6 : FVec F S_ .f32 := constant S_ .f32 0x7F800000#32
  let main_v19 : FVec F S4x1 .f32 := broadcastInDim S4x1 ![] bcast_S_S4x1 main_cst_6
  let main_v20 : IVec S4x1 1 := cmpf .olt main_v18 main_v19
  (main_v0, main_v5, main_v8, main_v11, main_v14, main_v17, main_v20)

def fn {F : FTy → Type} [FloatOps F] (main_arg0 : IVec S_ 32) (main_arg1 : FVec F S4096x4096 .f32) (main_arg2 : FVec F S4096x2 .f32) (main_arg3 : FVec F S1x768 .f32) (main_arg4 : FVec F S2000x2 .f32) (main_arg5 : FVec F S4x1 .f32) : IVec S_ 1 × IVec S4096x4096 1 × IVec S4096 1 × IVec S4096x2 1 × IVec S1x768 1 × IVec S2000x2 1 × IVec S4x1 1 :=
  let main_c : IVec S_ 32 := constantI S_ 32 0#32
  let main_v0 : IVec S_ 1 := cmpi .sge main_arg0 main_c
  let main_cst : FVec F S_ .f32 := constant S_ .f32 0x00000000#32
  let main_v1 : FVec F S4096x4096 .f32 := broadcastInDim S4096x4096 ![] bcast_S_S4096x4096 main_cst
  let main_v2 : IVec S4096x4096 1 := cmpf .oeq main_arg1 main_v1
  let main_cst_0 : FVec F S_ .f32 := constant S_ .f32 0x3F800000#32
  let main_v3 : FVec F S4096x4096 .f32 := broadcastInDim S4096x4096 ![] bcast_S_S4096x4096 main_cst_0
  let main_v4 : IVec S4096x4096 1 := cmpf .oeq main_arg1 main_v3
  let main_v5 : IVec S4096x4096 1 := ori main_v2 main_v4
  let main_cst_1 : FVec F S_ .f32 := constant S_ .f32 0xFF800000#32
  let main_v6 : FVec F S4096 .f32 := (fun x v => Host.reduce FloatOps.maximumf x v reducesTo_S4096x4096_S4096_d1 h_S_) main_arg1 main_cst_1
  let main_cst_2 : FVec F S_ .f32 := constant S_ .f32 0x00000000#32
  let main_v7 : FVec F S4096 .f32 := broadcastInDim S4096 ![] bcast_S_S4096 main_cst_2
  let main_v8 : IVec S4096 1 := cmpf .ogt main_v6 main_v7
  let main_v9 : FVec F S4096x2 .f32 := Host.absf main_arg2
  let main_cst_3 : FVec F S_ .f32 := constant S_ .f32 0x7F800000#32
  let main_v10 : FVec F S4096x2 .f32 := broadcastInDim S4096x2 ![] bcast_S_S4096x2 main_cst_3
  let main_v11 : IVec S4096x2 1 := cmpf .olt main_v9 main_v10
  let main_v12 : FVec F S1x768 .f32 := Host.absf main_arg3
  let main_cst_4 : FVec F S_ .f32 := constant S_ .f32 0x7F800000#32
  let main_v13 : FVec F S1x768 .f32 := broadcastInDim S1x768 ![] bcast_S_S1x768 main_cst_4
  let main_v14 : IVec S1x768 1 := cmpf .olt main_v12 main_v13
  let main_v15 : FVec F S2000x2 .f32 := Host.absf main_arg4
  let main_cst_5 : FVec F S_ .f32 := constant S_ .f32 0x7F800000#32
  fn_part1 (F := F) main_arg5 main_v0 main_v5 main_v8 main_v11 main_v14 main_v15 main_cst_5
-- ==== Kernel.lean ====
abbrev S512x8 : Shape := ⟨2, ![512, 8]⟩
abbrev S1x256 : Shape := ⟨2, ![1, 256]⟩
abbrev S1x1 : Shape := ⟨2, ![1, 1]⟩
abbrev S2000x2 : Shape := ⟨2, ![2000, 2]⟩
abbrev S2000 : Shape := ⟨1, ![2000]⟩
abbrev S768x8 : Shape := ⟨2, ![768, 8]⟩
abbrev S768x256 : Shape := ⟨2, ![768, 256]⟩
abbrev S768 : Shape := ⟨1, ![768]⟩
abbrev S768x9 : Shape := ⟨2, ![768, 9]⟩
abbrev S2000x1 : Shape := ⟨2, ![2000, 1]⟩
abbrev S8x768 : Shape := ⟨2, ![8, 768]⟩
abbrev S9x768 : Shape := ⟨2, ![9, 768]⟩
abbrev S256x768 : Shape := ⟨2, ![256, 768]⟩
abbrev S1x768 : Shape := ⟨2, ![1, 768]⟩
abbrev S512x768 : Shape := ⟨2, ![512, 768]⟩
abbrev S512x1 : Shape := ⟨2, ![512, 1]⟩
abbrev S1x8 : Shape := ⟨2, ![1, 8]⟩
abbrev S511x8 : Shape := ⟨2, ![511, 8]⟩
abbrev S512x6 : Shape := ⟨2, ![512, 6]⟩
abbrev S512 : Shape := ⟨1, ![512]⟩
abbrev S512x9 : Shape := ⟨2, ![512, 9]⟩
abbrev S1x9 : Shape := ⟨2, ![1, 9]⟩
abbrev S1 : Shape := ⟨1, ![1]⟩
abbrev S2000x256 : Shape := ⟨2, ![2000, 256]⟩
abbrev S256 : Shape := ⟨1, ![256]⟩

abbrev nBuf : Space → Nat
  | .hbm => 39
  | .vmem => 29
  | .smem => 0
  | _ => 0

abbrev bufTy : (tb : Table) → Fin (tcTables nBuf tb) → BufTy
  | .hbm, ⟨0, _⟩ => ⟨S512x8, .f32⟩
  | .hbm, ⟨1, _⟩ => ⟨S1x256, .f32⟩
  | .hbm, ⟨2, _⟩ => ⟨S1x1, .f32⟩
  | .hbm, ⟨3, _⟩ => ⟨S1x256, .f32⟩
  | .hbm, ⟨4, _⟩ => ⟨S1x1, .f32⟩
  | .hbm, ⟨5, _⟩ => ⟨S1x1, .f32⟩
  | .hbm, ⟨6, _⟩ => ⟨S2000x2, .f32⟩
  | .hbm, ⟨7, _⟩ => ⟨S2000, .f32⟩
  | .hbm, ⟨8, _⟩ => ⟨S1x1, .f32⟩
  | .hbm, ⟨9, _⟩ => ⟨S768x8, .f32⟩
  | .hbm, ⟨10, _⟩ => ⟨S768x256, .f32⟩
  | .hbm, ⟨11, _⟩ => ⟨S768, .f32⟩
  | .hbm, ⟨12, _⟩ => ⟨S768, .f32⟩
  | .hbm, ⟨13, _⟩ => ⟨S768x9, .f32⟩
  | .hbm, ⟨14, _⟩ => ⟨S768x256, .f32⟩
  | .hbm, ⟨15, _⟩ => ⟨S768, .f32⟩
  | .hbm, ⟨16, _⟩ => ⟨S768, .f32⟩
  | .hbm, ⟨17, _⟩ => ⟨S768x9, .f32⟩
  | .hbm, ⟨18, _⟩ => ⟨S768x256, .f32⟩
  | .hbm, ⟨19, _⟩ => ⟨S768, .f32⟩
  | .hbm, ⟨20, _⟩ => ⟨S768, .f32⟩
  | .hbm, ⟨21, _⟩ => ⟨S2000x1, .f32⟩
  | .hbm, ⟨22, _⟩ => ⟨S8x768, .f32⟩
  | .hbm, ⟨23, _⟩ => ⟨S9x768, .f32⟩
  | .hbm, ⟨24, _⟩ => ⟨S9x768, .f32⟩
  | .hbm, ⟨25, _⟩ => ⟨S256x768, .f32⟩
  | .hbm, ⟨26, _⟩ => ⟨S256x768, .f32⟩
  | .hbm, ⟨27, _⟩ => ⟨S256x768, .f32⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S1x768, .f32⟩
  | .hbm, ⟨34, _⟩ => ⟨S1x256, .f32⟩
  | .hbm, ⟨35, _⟩ => ⟨S1x256, .f32⟩
  | .hbm, ⟨36, _⟩ => ⟨S1x1, .f32⟩
  | .hbm, ⟨37, _⟩ => ⟨S1x1, .f32⟩
  | .hbm, ⟨38, _⟩ => ⟨S1x768, .f32⟩
  | .local _ .vmem, ⟨0, _⟩ => ⟨S512x8, .f32⟩
  | .local _ .vmem, ⟨1, _⟩ => ⟨S1x1, .f32⟩
  | .local _ .vmem, ⟨2, _⟩ => ⟨S1x256, .f32⟩
  | .local _ .vmem, ⟨3, _⟩ => ⟨S1x256, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S2000x2, .f32⟩
  | .local _ .vmem, ⟨8, _⟩ => ⟨S2000x1, .f32⟩
  | .local _ .vmem, ⟨9, _⟩ => ⟨S8x768, .f32⟩
  | .local _ .vmem, ⟨10, _⟩ => ⟨S9x768, .f32⟩
  | .local _ .vmem, ⟨11, _⟩ => ⟨S9x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x768, .f32⟩
  | .local _ .vmem, ⟨19, _⟩ => ⟨S1x768, .f32⟩
  | .local _ .vmem, ⟨20, _⟩ => ⟨S1x768, .f32⟩
  | .local _ .vmem, ⟨21, _⟩ => ⟨S1x256, .f32⟩
  | .local _ .vmem, ⟨22, _⟩ => ⟨S1x256, .f32⟩
  | .local _ .vmem, ⟨23, _⟩ => ⟨S1x1, .f32⟩
  | .local _ .vmem, ⟨24, _⟩ => ⟨S1x1, .f32⟩
  | .local _ .vmem, ⟨25, _⟩ => ⟨S1x768, .f32⟩
  | .local _ .vmem, ⟨26, _⟩ => ⟨S512x768, .f32⟩
  | .local _ .vmem, ⟨27, _⟩ => ⟨S512x768, .f32⟩
  | .local _ .vmem, ⟨28, _⟩ => ⟨S512x1, .f32⟩
  | _, _ => ⟨S512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v13_3 : Ref sig .tc := ⟨.hbm, 37, rfl⟩
abbrev main_v13_4 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

@[reducible] def k0_t1_loop : Scf.Loop 32 :=
  let c0_i32_32 : BitVec 32 := 0#32
  let c512_i32 : BitVec 32 := 512#32
  let v66 : BitVec 32 := Scalar.addi c0_i32_32 c512_i32
  let c1_i32 : BitVec 32 := 1#32
  ⟨c0_i32_32, v66, c1_i32⟩
def k0_off1 (k0_t1 : Fin k0_t1_loop.trips) : Fin 2 → Nat :=
  let c0_i32_32 : BitVec 32 := 0#32
  let c1_i32 : BitVec 32 := 1#32
  let arg29 : BitVec 32 := Scf.iv c0_i32_32 c1_i32 k0_t1
  let v160 : Index := Scalar.indexCast arg29
  let c0_78 : Index := 0#32
  ![v160.toNat, 0]
def k0_off2 (k0_t1 : Fin k0_t1_loop.trips) : Fin 2 → Nat :=
  let c0_i32_32 : BitVec 32 := 0#32
  let c1_i32 : BitVec 32 := 1#32
  let arg29 : BitVec 32 := Scf.iv c0_i32_32 c1_i32 k0_t1
  let v164 : Index := Scalar.indexCast arg29
  let c0_80 : Index := 0#32
  ![v164.toNat, 0]
abbrev stage0_0 : Fin 1 → Memref sig .tc .vmem S512x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2000x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2000x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== ReferenceIdeal.lean ====
abbrev S512x8 : Shape := ⟨2, ![512, 8]⟩
abbrev S1x256 : Shape := ⟨2, ![1, 256]⟩
abbrev S1x1 : Shape := ⟨2, ![1, 1]⟩
abbrev S2000x2 : Shape := ⟨2, ![2000, 2]⟩
abbrev S2000 : Shape := ⟨1, ![2000]⟩
abbrev S768x8 : Shape := ⟨2, ![768, 8]⟩
abbrev S768x256 : Shape := ⟨2, ![768, 256]⟩
abbrev S768 : Shape := ⟨1, ![768]⟩
abbrev S768x9 : Shape := ⟨2, ![768, 9]⟩
abbrev S1x8 : Shape := ⟨2, ![1, 8]⟩
abbrev S511x8 : Shape := ⟨2, ![511, 8]⟩
abbrev S512 : Shape := ⟨1, ![512]⟩
abbrev S_ : Shape := ⟨0, ![]⟩
abbrev S8 : Shape := ⟨1, ![8]⟩
abbrev S1 : Shape := ⟨1, ![1]⟩
abbrev S6 : Shape := ⟨1, ![6]⟩
abbrev S8x768 : Shape := ⟨2, ![8, 768]⟩
abbrev S1x768 : Shape := ⟨2, ![1, 768]⟩
abbrev S256x768 : Shape := ⟨2, ![256, 768]⟩
abbrev S1x9 : Shape := ⟨2, ![1, 9]⟩
abbrev S9x768 : Shape := ⟨2, ![9, 768]⟩
abbrev S256x1 : Shape := ⟨2, ![256, 1]⟩
abbrev S1x256x1 : Shape := ⟨3, ![1, 256, 1]⟩
abbrev S2000x1x2 : Shape := ⟨3, ![2000, 1, 2]⟩
abbrev S2000x256x2 : Shape := ⟨3, ![2000, 256, 2]⟩
abbrev S2000x1x1 : Shape := ⟨3, ![2000, 1, 1]⟩
abbrev S256x2 : Shape := ⟨2, ![256, 2]⟩
abbrev S1x256x2 : Shape := ⟨3, ![1, 256, 2]⟩
abbrev S256 : Shape := ⟨1, ![256]⟩

abbrev nBuf : Space → Nat
  | .hbm => 235
  | .vmem => 0
  | .smem => 0
  | _ => 0

abbrev hbmTy0_0 (i : Nat) : BufTy := match i % 128 with
  | 0 => ⟨S512x8, .f32⟩
  | 1 => ⟨S1x256, .f32⟩
  | 2 => ⟨S1x1, .f32⟩
  | 3 => ⟨S1x256, .f32⟩
  | 4 => ⟨S1x1, .f32⟩
  | 5 => ⟨S1x1, .f32⟩
  | 6 => ⟨S2000x2, .f32⟩
  | 7 => ⟨S2000, .f32⟩
  | 8 => ⟨S1x1, .f32⟩
  | 9 => ⟨S768x8, .f32⟩
  | 10 => ⟨S768x256, .f32⟩
  | 11 => ⟨S768, .f32⟩
  | 12 => ⟨S768, .f32⟩
  | 13 => ⟨S768x9, .f32⟩
  | 14 => ⟨S768x256, .f32⟩
  | 15 => ⟨S768, .f32⟩
  | 16 => ⟨S768, .f32⟩
  | 17 => ⟨S768x9, .f32⟩
  | 18 => ⟨S768x256, .f32⟩
  | 19 => ⟨S768, .f32⟩
  | 20 => ⟨S768, .f32⟩
  | 21 => ⟨S1x8, .f32⟩
  | 22 => ⟨S511x8, .f32⟩
  | 23 => ⟨S512x8, .f32⟩
  | 24 => ⟨S512, .i32⟩
  | 25 => ⟨S_, .i32⟩
  | 26 => ⟨S512x8, .f32⟩
  | 27 => ⟨S512x8, .f32⟩
  | 28 => ⟨S512, .i32⟩
  | 29 => ⟨S768x8, .f32⟩
  | 30 => ⟨S768, .f32⟩
  | 31 => ⟨S768x256, .f32⟩
  | 32 => ⟨S768, .f32⟩
  | 33 => ⟨S1x1, .f32⟩
  | 34 => ⟨S768x9, .f32⟩
  | 35 => ⟨S768, .f32⟩
  | 36 => ⟨S768x256, .f32⟩
  | 37 => ⟨S768, .f32⟩
  | 38 => ⟨S_, .i32⟩
  | 39 => ⟨S1x256, .f32⟩
  | 40 => ⟨S_, .i32⟩
  | 41 => ⟨S_, .i1⟩
  | 42 => ⟨S_, .i32⟩
  | 43 => ⟨S1x8, .f32⟩
  | 44 => ⟨S8, .f32⟩
  | 45 => ⟨S_, .i32⟩
  | 46 => ⟨S1x8, .f32⟩
  | 47 => ⟨S8, .f32⟩
  | 48 => ⟨S1, .i32⟩
  | 49 => ⟨S_, .i32⟩
  | 50 => ⟨S_, .i32⟩
  | 51 => ⟨S_, .i1⟩
  | 52 => ⟨S6, .f32⟩
  | 53 => ⟨S6, .f32⟩
  | 54 => ⟨S6, .i1⟩
  | 55 => ⟨S_, .i1⟩
  | 56 => ⟨S_, .i1⟩
  | 57 => ⟨S_, .i1⟩
  | 58 => ⟨S1x8, .f32⟩
  | 59 => ⟨S8x768, .f32⟩
  | 60 => ⟨S1x768, .f32⟩
  | 61 => ⟨S1x768, .f32⟩
  | 62 => ⟨S1x768, .f32⟩
  | 63 => ⟨S256x768, .f32⟩
  | 64 => ⟨S1x768, .f32⟩
  | 65 => ⟨S1x768, .f32⟩
  | 66 => ⟨S1x768, .f32⟩
  | 67 => ⟨S1x256, .f32⟩
  | 68 => ⟨S1x256, .f32⟩
  | 69 => ⟨S1x256, .f32⟩
  | 70 => ⟨S1x256, .f32⟩
  | 71 => ⟨S1x256, .f32⟩
  | 72 => ⟨S_, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S_, .f32⟩
  | 84 => ⟨S1x256, .f32⟩
  | 85 => ⟨S1x256, .f32⟩
  | 86 => ⟨S_, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S_, .f32⟩
  | 95 => ⟨S1x256, .f32⟩
  | 96 => ⟨S1x256, .f32⟩
  | 97 => ⟨S1x256, .f32⟩
  | 98 => ⟨S1x256, .f32⟩
  | 99 => ⟨S1x256, .f32⟩
  | 100 => ⟨S1x8, .f32⟩
  | 101 => ⟨S1x9, .f32⟩
  | 102 => ⟨S9x768, .f32⟩
  | 103 => ⟨S1x768, .f32⟩
  | 104 => ⟨S1x768, .f32⟩
  | 105 => ⟨S1x768, .f32⟩
  | 106 => ⟨S256x768, .f32⟩
  | 107 => ⟨S1x768, .f32⟩
  | 108 => ⟨S1x768, .f32⟩
  | 109 => ⟨S1x768, .f32⟩
  | 110 => ⟨S1x256, .f32⟩
  | 111 => ⟨S1x256, .f32⟩
  | 112 => ⟨S1x256, .f32⟩
  | 113 => ⟨S1x256, .f32⟩
  | 114 => ⟨S1x256, .f32⟩
  | 115 => ⟨S_, .f32⟩
  | 116 => ⟨S1x256, .f32⟩
  | 117 => ⟨S1x256, .f32⟩
  | 118 => ⟨S_, .f32⟩
  | 119 => ⟨S1x256, .f32⟩
  | 120 => ⟨S1x256, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S_, .f32⟩
  | 127 => ⟨S1x256, .f32⟩
  | _ => ⟨S512x8, .f32⟩

abbrev hbmTy0_1 (i : Nat) : BufTy := match i % 128 with
  | 0 => ⟨S1x256, .f32⟩
  | 1 => ⟨S_, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S_, .f32⟩
  | 10 => ⟨S1x256, .f32⟩
  | 11 => ⟨S1x256, .f32⟩
  | 12 => ⟨S1x256, .f32⟩
  | 13 => ⟨S1x256, .f32⟩
  | 14 => ⟨S1x256, .f32⟩
  | 15 => ⟨S1x256, .f32⟩
  | 16 => ⟨S_, .i32⟩
  | 17 => ⟨S_, .i32⟩
  | 18 => ⟨S256x1, .f32⟩
  | 19 => ⟨S256x1, .f32⟩
  | 20 => ⟨S256x1, .f32⟩
  | 21 => ⟨S2000, .f32⟩
  | 22 => ⟨S_, .f32⟩
  | 23 => ⟨S2000, .f32⟩
  | 24 => ⟨S2000, .f32⟩
  | 25 => ⟨S2000, .f32⟩
  | 26 => ⟨S1x256x1, .f32⟩
  | 27 => ⟨S2000x1x2, .f32⟩
  | 28 => ⟨S2000x256x2, .f32⟩
  | 29 => ⟨S2000x256x2, .f32⟩
  | 30 => ⟨S2000x256x2, .f32⟩
  | 31 => ⟨S2000x1x1, .f32⟩
  | 32 => ⟨S2000x256x2, .f32⟩
  | 33 => ⟨S2000x256x2, .f32⟩
  | 34 => ⟨S2000x256x2, .f32⟩
  | 35 => ⟨S_, .f32⟩
  | 36 => ⟨S256x2, .f32⟩
  | 37 => ⟨S1x256x2, .f32⟩
  | 38 => ⟨S2000x256x2, .f32⟩
  | 39 => ⟨S2000x256x2, .f32⟩
  | 40 => ⟨S2000x1x2, .f32⟩
  | 41 => ⟨S2000x256x2, .f32⟩
  | 42 => ⟨S2000x256x2, .f32⟩
  | 43 => ⟨S_, .f32⟩
  | 44 => ⟨S256x2, .f32⟩
  | 45 => ⟨S_, .f32⟩
  | 46 => ⟨S256, .f32⟩
  | 47 => ⟨S1x256, .f32⟩
  | 48 => ⟨S1x8, .f32⟩
  | 49 => ⟨S8, .f32⟩
  | 50 => ⟨S1x8, .f32⟩
  | 51 => ⟨S1x9, .f32⟩
  | 52 => ⟨S9x768, .f32⟩
  | 53 => ⟨S1x768, .f32⟩
  | 54 => ⟨S1x768, .f32⟩
  | 55 => ⟨S1x768, .f32⟩
  | 56 => ⟨S256x768, .f32⟩
  | 57 => ⟨S1x768, .f32⟩
  | 58 => ⟨S1x768, .f32⟩
  | 59 => ⟨S1x768, .f32⟩
  | 60 => ⟨S1x256, .f32⟩
  | 61 => ⟨S1x256, .f32⟩
  | 62 => ⟨S1x256, .f32⟩
  | 63 => ⟨S1x256, .f32⟩
  | 64 => ⟨S1x256, .f32⟩
  | 65 => ⟨S_, .f32⟩
  | 66 => ⟨S1x256, .f32⟩
  | 67 => ⟨S1x256, .f32⟩
  | 68 => ⟨S_, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S1x256, .f32⟩
  | 75 => ⟨S1x256, .f32⟩
  | 76 => ⟨S_, .f32⟩
  | 77 => ⟨S1x256, .f32⟩
  | 78 => ⟨S1x256, .f32⟩
  | 79 => ⟨S_, .f32⟩
  | 80 => ⟨S1x256, .f32⟩
  | 81 => ⟨S1x256, .f32⟩
  | 82 => ⟨S1x256, .f32⟩
  | 83 => ⟨S1x256, .f32⟩
  | 84 => ⟨S1x256, .f32⟩
  | 85 => ⟨S1x256, .f32⟩
  | 86 => ⟨S1x256, .f32⟩
  | 87 => ⟨S_, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S_, .f32⟩
  | 95 => ⟨S1, .f32⟩
  | 96 => ⟨S1x1, .f32⟩
  | 97 => ⟨S_, .f32⟩
  | 98 => ⟨S1x1, .f32⟩
  | 99 => ⟨S1x1, .f32⟩
  | 100 => ⟨S1x1, .f32⟩
  | 101 => ⟨S1x1, .f32⟩
  | 102 => ⟨S1x1, .f32⟩
  | 103 => ⟨S1x1, .f32⟩
  | 104 => ⟨S1x256, .f32⟩
  | 105 => ⟨S1x256, .f32⟩
  | 106 => ⟨S1x768, .f32⟩
  | _ => ⟨S512x8, .f32⟩

abbrev hbmTy (i : Nat) : BufTy := match i / 128 with
  | 0 => hbmTy0_0 i
  | 1 => hbmTy0_1 i
  | _ => ⟨S512x8, .f32⟩

abbrev bufTy : (tb : Table) → Fin (tcTables nBuf tb) → BufTy
  | .hbm, ⟨i, _⟩ => hbmTy i
  | _, _ => ⟨S512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4_0 : Ref sig .tc := ⟨.hbm, 26, rfl⟩
abbrev main_v4_1 : Ref sig .tc := ⟨.hbm, 27, rfl⟩
abbrev main_v4_2 : Ref sig .tc := ⟨.hbm, 28, rfl⟩
abbrev main_v4_3 : Ref sig .tc := ⟨.hbm, 29, rfl⟩
abbrev main_v4_4 : Ref sig .tc := ⟨.hbm, 30, rfl⟩
abbrev main_v4_5 : Ref sig .tc := ⟨.hbm, 31, rfl⟩
abbrev main_v4_6 : Ref sig .tc := ⟨.hbm, 32, rfl⟩
abbrev main_v4_7 : Ref sig .tc := ⟨.hbm, 33, rfl⟩
abbrev main_v4_8 : Ref sig .tc := ⟨.hbm, 34, rfl⟩
abbrev main_v4_9 : Ref sig .tc := ⟨.hbm, 35, rfl⟩
abbrev main_v4_10 : Ref sig .tc := ⟨.hbm, 36, rfl⟩
abbrev main_v4_11 : Ref sig .tc := ⟨.hbm, 37, rfl⟩
abbrev main_v4_12 : Ref sig .tc := ⟨.hbm, 38, rfl⟩
abbrev main_v4_13 : Ref sig .tc := ⟨.hbm, 39, rfl⟩
abbrev main_while0c_c_23 : Ref sig .tc := ⟨.hbm, 40, rfl⟩
abbrev main_while0c_v83 : Ref sig .tc := ⟨.hbm, 41, rfl⟩
abbrev main_while0b_call0_c : Ref sig .tc := ⟨.hbm, 42, rfl⟩
abbrev main_while0b_call0_v0 : Ref sig .tc := ⟨.hbm, 43, rfl⟩
abbrev main_while0b_v83 : Ref sig .tc := ⟨.hbm, 44, rfl⟩
abbrev main_while0b_call1_c : Ref sig .tc := ⟨.hbm, 45, rfl⟩
abbrev main_while0b_call1_v0 : Ref sig .tc := ⟨.hbm, 46, rfl⟩
abbrev main_while0b_v84 : Ref sig .tc := ⟨.hbm, 47, rfl⟩
abbrev main_while0b_call2_v0 : Ref sig .tc := ⟨.hbm, 48, rfl⟩
abbrev main_while0b_v85 : Ref sig .tc := ⟨.hbm, 49, rfl⟩
abbrev main_while0b_c_23 : Ref sig .tc := ⟨.hbm, 50, rfl⟩
abbrev main_while0b_v86 : Ref sig .tc := ⟨.hbm, 51, rfl⟩
abbrev main_while0b_v87 : Ref sig .tc := ⟨.hbm, 52, rfl⟩
abbrev main_while0b_v88 : Ref sig .tc := ⟨.hbm, 53, rfl⟩
abbrev main_while0b_v89 : Ref sig .tc := ⟨.hbm, 54, rfl⟩
abbrev main_while0b_c_24 : Ref sig .tc := ⟨.hbm, 55, rfl⟩
abbrev main_while0b_v90 : Ref sig .tc := ⟨.hbm, 56, rfl⟩
abbrev main_while0b_v91 : Ref sig .tc := ⟨.hbm, 57, rfl⟩
abbrev main_while0b_v92 : Ref sig .tc := ⟨.hbm, 58, rfl⟩
abbrev main_while0b_v93 : Ref sig .tc := ⟨.hbm, 59, rfl⟩
abbrev main_while0b_v94 : Ref sig .tc := ⟨.hbm, 60, rfl⟩
abbrev main_while0b_v95 : Ref sig .tc := ⟨.hbm, 61, rfl⟩
abbrev main_while0b_v96 : Ref sig .tc := ⟨.hbm, 62, rfl⟩
abbrev main_while0b_v97 : Ref sig .tc := ⟨.hbm, 63, rfl⟩
abbrev main_while0b_v98 : Ref sig .tc := ⟨.hbm, 64, rfl⟩
abbrev main_while0b_v99 : Ref sig .tc := ⟨.hbm, 65, rfl⟩
abbrev main_while0b_v100 : Ref sig .tc := ⟨.hbm, 66, rfl⟩
abbrev main_while0b_v101 : Ref sig .tc := ⟨.hbm, 67, rfl⟩
abbrev main_while0b_v102 : Ref sig .tc := ⟨.hbm, 68, rfl⟩
abbrev main_while0b_v103 : Ref sig .tc := ⟨.hbm, 69, rfl⟩
abbrev main_while0b_v104 : Ref sig .tc := ⟨.hbm, 70, rfl⟩
abbrev main_while0b_v105 : Ref sig .tc := ⟨.hbm, 71, rfl⟩
abbrev main_while0b_cst_25 : Ref sig .tc := ⟨.hbm, 72, rfl⟩
abbrev main_while0b_v106 : Ref sig .tc := ⟨.hbm, 73, rfl⟩
abbrev main_while0b_v107 : Ref sig .tc := ⟨.hbm, 74, rfl⟩
abbrev main_while0b_cst_26 : Ref sig .tc := ⟨.hbm, 75, rfl⟩
abbrev main_while0b_v108 : Ref sig .tc := ⟨.hbm, 76, rfl⟩
abbrev main_while0b_v109 : Ref sig .tc := ⟨.hbm, 77, rfl⟩
abbrev main_while0b_v110 : Ref sig .tc := ⟨.hbm, 78, rfl⟩
abbrev main_while0b_v111 : Ref sig .tc := ⟨.hbm, 79, rfl⟩
abbrev main_while0b_v112 : Ref sig .tc := ⟨.hbm, 80, rfl⟩
abbrev main_while0b_v113 : Ref sig .tc := ⟨.hbm, 81, rfl⟩
abbrev main_while0b_v114 : Ref sig .tc := ⟨.hbm, 82, rfl⟩
abbrev main_while0b_cst_27 : Ref sig .tc := ⟨.hbm, 83, rfl⟩
abbrev main_while0b_v115 : Ref sig .tc := ⟨.hbm, 84, rfl⟩
abbrev main_while0b_v116 : Ref sig .tc := ⟨.hbm, 85, rfl⟩
abbrev main_while0b_cst_28 : Ref sig .tc := ⟨.hbm, 86, rfl⟩
abbrev main_while0b_v117 : Ref sig .tc := ⟨.hbm, 87, rfl⟩
abbrev main_while0b_v118 : Ref sig .tc := ⟨.hbm, 88, rfl⟩
abbrev main_while0b_v119 : Ref sig .tc := ⟨.hbm, 89, rfl⟩
abbrev main_while0b_v120 : Ref sig .tc := ⟨.hbm, 90, rfl⟩
abbrev main_while0b_v121 : Ref sig .tc := ⟨.hbm, 91, rfl⟩
abbrev main_while0b_v122 : Ref sig .tc := ⟨.hbm, 92, rfl⟩
abbrev main_while0b_v123 : Ref sig .tc := ⟨.hbm, 93, rfl⟩
abbrev main_while0b_cst_29 : Ref sig .tc := ⟨.hbm, 94, rfl⟩
abbrev main_while0b_v124 : Ref sig .tc := ⟨.hbm, 95, rfl⟩
abbrev main_while0b_v125 : Ref sig .tc := ⟨.hbm, 96, rfl⟩
abbrev main_while0b_v126 : Ref sig .tc := ⟨.hbm, 97, rfl⟩
abbrev main_while0b_v127 : Ref sig .tc := ⟨.hbm, 98, rfl⟩
abbrev main_while0b_v128 : Ref sig .tc := ⟨.hbm, 99, rfl⟩
abbrev main_while0b_v129 : Ref sig .tc := ⟨.hbm, 100, rfl⟩
abbrev main_while0b_v130 : Ref sig .tc := ⟨.hbm, 101, rfl⟩
abbrev main_while0b_v131 : Ref sig .tc := ⟨.hbm, 102, rfl⟩
abbrev main_while0b_v132 : Ref sig .tc := ⟨.hbm, 103, rfl⟩
abbrev main_while0b_v133 : Ref sig .tc := ⟨.hbm, 104, rfl⟩
abbrev main_while0b_v134 : Ref sig .tc := ⟨.hbm, 105, rfl⟩
abbrev main_while0b_v135 : Ref sig .tc := ⟨.hbm, 106, rfl⟩
abbrev main_while0b_v136 : Ref sig .tc := ⟨.hbm, 107, rfl⟩
abbrev main_while0b_v137 : Ref sig .tc := ⟨.hbm, 108, rfl⟩
abbrev main_while0b_v138 : Ref sig .tc := ⟨.hbm, 109, rfl⟩
abbrev main_while0b_v139 : Ref sig .tc := ⟨.hbm, 110, rfl⟩
abbrev main_while0b_v140 : Ref sig .tc := ⟨.hbm, 111, rfl⟩
abbrev main_while0b_v141 : Ref sig .tc := ⟨.hbm, 112, rfl⟩
abbrev main_while0b_v142 : Ref sig .tc := ⟨.hbm, 113, rfl⟩
abbrev main_while0b_v143 : Ref sig .tc := ⟨.hbm, 114, rfl⟩
abbrev main_while0b_cst_30 : Ref sig .tc := ⟨.hbm, 115, rfl⟩
abbrev main_while0b_v144 : Ref sig .tc := ⟨.hbm, 116, rfl⟩
abbrev main_while0b_v145 : Ref sig .tc := ⟨.hbm, 117, rfl⟩
abbrev main_while0b_cst_31 : Ref sig .tc := ⟨.hbm, 118, rfl⟩
abbrev main_while0b_v146 : Ref sig .tc := ⟨.hbm, 119, rfl⟩
abbrev main_while0b_v147 : Ref sig .tc := ⟨.hbm, 120, rfl⟩
abbrev main_while0b_v148 : Ref sig .tc := ⟨.hbm, 121, rfl⟩
abbrev main_while0b_v149 : Ref sig .tc := ⟨.hbm, 122, rfl⟩
abbrev main_while0b_v150 : Ref sig .tc := ⟨.hbm, 123, rfl⟩
abbrev main_while0b_v151 : Ref sig .tc := ⟨.hbm, 124, rfl⟩
abbrev main_while0b_v152 : Ref sig .tc := ⟨.hbm, 125, rfl⟩
abbrev main_while0b_cst_32 : Ref sig .tc := ⟨.hbm, 126, rfl⟩
abbrev main_while0b_v153 : Ref sig .tc := ⟨.hbm, 127, rfl⟩
abbrev main_while0b_v154 : Ref sig .tc := ⟨.hbm, 128, rfl⟩
abbrev main_while0b_cst_33 : Ref sig .tc := ⟨.hbm, 129, rfl⟩
abbrev main_while0b_v155 : Ref sig .tc := ⟨.hbm, 130, rfl⟩
abbrev main_while0b_v156 : Ref sig .tc := ⟨.hbm, 131, rfl⟩
abbrev main_while0b_v157 : Ref sig .tc := ⟨.hbm, 132, rfl⟩
abbrev main_while0b_v158 : Ref sig .tc := ⟨.hbm, 133, rfl⟩
abbrev main_while0b_v159 : Ref sig .tc := ⟨.hbm, 134, rfl⟩
abbrev main_while0b_v160 : Ref sig .tc := ⟨.hbm, 135, rfl⟩
abbrev main_while0b_v161 : Ref sig .tc := ⟨.hbm, 136, rfl⟩
abbrev main_while0b_cst_34 : Ref sig .tc := ⟨.hbm, 137, rfl⟩
abbrev main_while0b_v162 : Ref sig .tc := ⟨.hbm, 138, rfl⟩
abbrev main_while0b_v163 : Ref sig .tc := ⟨.hbm, 139, rfl⟩
abbrev main_while0b_v164 : Ref sig .tc := ⟨.hbm, 140, rfl⟩
abbrev main_while0b_v165 : Ref sig .tc := ⟨.hbm, 141, rfl⟩
abbrev main_while0b_v166 : Ref sig .tc := ⟨.hbm, 142, rfl⟩
abbrev main_while0b_v167 : Ref sig .tc := ⟨.hbm, 143, rfl⟩
abbrev main_while0b_c_35 : Ref sig .tc := ⟨.hbm, 144, rfl⟩
abbrev main_while0b_v168 : Ref sig .tc := ⟨.hbm, 145, rfl⟩
abbrev main_v5 : Ref sig .tc := ⟨.hbm, 146, rfl⟩
abbrev main_v6 : Ref sig .tc := ⟨.hbm, 147, rfl⟩
abbrev main_v7 : Ref sig .tc := ⟨.hbm, 148, rfl⟩
abbrev main_v8 : Ref sig .tc := ⟨.hbm, 149, rfl⟩
abbrev main_cst : Ref sig .tc := ⟨.hbm, 150, rfl⟩
abbrev main_v9 : Ref sig .tc := ⟨.hbm, 151, rfl⟩
abbrev main_v10 : Ref sig .tc := ⟨.hbm, 152, rfl⟩
abbrev main_v11 : Ref sig .tc := ⟨.hbm, 153, rfl⟩
abbrev main_v12 : Ref sig .tc := ⟨.hbm, 154, rfl⟩
abbrev main_v13 : Ref sig .tc := ⟨.hbm, 155, rfl⟩
abbrev main_v14 : Ref sig .tc := ⟨.hbm, 156, rfl⟩
abbrev main_v15 : Ref sig .tc := ⟨.hbm, 157, rfl⟩
abbrev main_v16 : Ref sig .tc := ⟨.hbm, 158, rfl⟩
abbrev main_v17 : Ref sig .tc := ⟨.hbm, 159, rfl⟩
abbrev main_v18 : Ref sig .tc := ⟨.hbm, 160, rfl⟩
abbrev main_v19 : Ref sig .tc := ⟨.hbm, 161, rfl⟩
abbrev main_v20 : Ref sig .tc := ⟨.hbm, 162, rfl⟩
abbrev main_cst_0 : Ref sig .tc := ⟨.hbm, 163, rfl⟩
abbrev main_v21 : Ref sig .tc := ⟨.hbm, 164, rfl⟩
abbrev main_v22 : Ref sig .tc := ⟨.hbm, 165, rfl⟩
abbrev main_v23 : Ref sig .tc := ⟨.hbm, 166, rfl⟩
abbrev main_v24 : Ref sig .tc := ⟨.hbm, 167, rfl⟩
abbrev main_v25 : Ref sig .tc := ⟨.hbm, 168, rfl⟩
abbrev main_v26 : Ref sig .tc := ⟨.hbm, 169, rfl⟩
abbrev main_v27 : Ref sig .tc := ⟨.hbm, 170, rfl⟩
abbrev main_cst_1 : Ref sig .tc := ⟨.hbm, 171, rfl⟩
abbrev main_v28 : Ref sig .tc := ⟨.hbm, 172, rfl⟩
abbrev main_cst_2 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev main_v33 : Ref sig .tc := ⟨.hbm, 178, rfl⟩
abbrev main_v34 : Ref sig .tc := ⟨.hbm, 179, rfl⟩
abbrev main_v35 : Ref sig .tc := ⟨.hbm, 180, rfl⟩
abbrev main_v36 : Ref sig .tc := ⟨.hbm, 181, rfl⟩
abbrev main_v37 : Ref sig .tc := ⟨.hbm, 182, rfl⟩
abbrev main_v38 : Ref sig .tc := ⟨.hbm, 183, rfl⟩
abbrev main_v39 : Ref sig .tc := ⟨.hbm, 184, rfl⟩
abbrev main_v40 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_v47 : Ref sig .tc := ⟨.hbm, 192, rfl⟩
abbrev main_cst_3 : Ref sig .tc := ⟨.hbm, 193, rfl⟩
abbrev main_v48 : Ref sig .tc := ⟨.hbm, 194, rfl⟩
abbrev main_v49 : Ref sig .tc := ⟨.hbm, 195, rfl⟩
abbrev main_cst_4 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_cst_5 : Ref sig .tc := ⟨.hbm, 204, rfl⟩
abbrev main_v57 : Ref sig .tc := ⟨.hbm, 205, rfl⟩
abbrev main_v58 : Ref sig .tc := ⟨.hbm, 206, rfl⟩
abbrev main_cst_6 : Ref sig .tc := ⟨.hbm, 207, rfl⟩
abbrev main_v59 : Ref sig .tc := ⟨.hbm, 208, rfl⟩
abbrev main_v60 : Ref sig .tc := ⟨.hbm, 209, rfl⟩
abbrev main_v61 : Ref sig .tc := ⟨.hbm, 210, rfl⟩
abbrev main_v62 : Ref sig .tc := ⟨.hbm, 211, rfl⟩
abbrev main_v63 : Ref sig .tc := ⟨.hbm, 212, rfl⟩
abbrev main_v64 : Ref sig .tc := ⟨.hbm, 213, rfl⟩
abbrev main_v65 : Ref sig .tc := ⟨.hbm, 214, rfl⟩
abbrev main_cst_7 : Ref sig .tc := ⟨.hbm, 215, rfl⟩
abbrev main_v66 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_v70 : Ref sig .tc := ⟨.hbm, 220, rfl⟩
abbrev main_v71 : Ref sig .tc := ⟨.hbm, 221, rfl⟩
abbrev main_cst_8 : Ref sig .tc := ⟨.hbm, 222, rfl⟩
abbrev main_v72 : Ref sig .tc := ⟨.hbm, 223, rfl⟩
abbrev main_v73 : Ref sig .tc := ⟨.hbm, 224, rfl⟩
abbrev main_cst_9 : Ref sig .tc := ⟨.hbm, 225, rfl⟩
abbrev main_v74 : Ref sig .tc := ⟨.hbm, 226, rfl⟩
abbrev main_v75 : Ref sig .tc := ⟨.hbm, 227, rfl⟩
abbrev main_v76 : Ref sig .tc := ⟨.hbm, 228, rfl⟩
abbrev main_v77 : Ref sig .tc := ⟨.hbm, 229, rfl⟩
abbrev main_v78 : Ref sig .tc := ⟨.hbm, 230, rfl⟩
abbrev main_v79 : Ref sig .tc := ⟨.hbm, 231, rfl⟩
abbrev main_v80 : Ref sig .tc := ⟨.hbm, 232, rfl⟩
abbrev main_v81 : Ref sig .tc := ⟨.hbm, 233, rfl⟩
abbrev main_v82 : Ref sig .tc := ⟨.hbm, 234, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S4096x4096 : Shape := ⟨2, ![4096, 4096]⟩
abbrev S4096x4 : Shape := ⟨2, ![4096, 4]⟩
abbrev S4x4x4 : Shape := ⟨3, ![4, 4, 4]⟩
abbrev S4x8x1 : Shape := ⟨3, ![4, 8, 1]⟩
abbrev S16x2 : Shape := ⟨2, ![16, 2]⟩
abbrev S1x4x4 : Shape := ⟨3, ![1, 4, 4]⟩
abbrev S4x4 : Shape := ⟨2, ![4, 4]⟩
abbrev S4x16 : Shape := ⟨2, ![4, 16]⟩
abbrev S_ : Shape := ⟨0, ![]⟩
abbrev S16x4 : Shape := ⟨2, ![16, 4]⟩
abbrev S1x4x1 : Shape := ⟨3, ![1, 4, 1]⟩
abbrev S4 : Shape := ⟨1, ![4]⟩
abbrev S1 : Shape := ⟨1, ![1]⟩
abbrev S2 : Shape := ⟨1, ![2]⟩
abbrev S4x4096 : Shape := ⟨2, ![4, 4096]⟩
abbrev S4096x2 : Shape := ⟨2, ![4096, 2]⟩
abbrev S2x4096 : Shape := ⟨2, ![2, 4096]⟩
abbrev S256x4096 : Shape := ⟨2, ![256, 4096]⟩
abbrev S256x4 : Shape := ⟨2, ![256, 4]⟩
abbrev S256x2 : Shape := ⟨2, ![256, 2]⟩
abbrev S2x256 : Shape := ⟨2, ![2, 256]⟩
abbrev S4096x16 : Shape := ⟨2, ![4096, 16]⟩
abbrev S16x4096 : Shape := ⟨2, ![16, 4096]⟩
abbrev S256x16 : Shape := ⟨2, ![256, 16]⟩
abbrev S4096x1 : Shape := ⟨2, ![4096, 1]⟩
abbrev S256x1 : Shape := ⟨2, ![256, 1]⟩
abbrev S1x4096 : Shape := ⟨2, ![1, 4096]⟩
abbrev S4096x5 : Shape := ⟨2, ![4096, 5]⟩
abbrev S256x5 : Shape := ⟨2, ![256, 5]⟩

abbrev nBuf : Space → Nat
  | .hbm => 87
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4, .f32⟩
  | .hbm, ⟨2, _⟩ => ⟨S4x4x4, .f32⟩
  | .hbm, ⟨3, _⟩ => ⟨S4x8x1, .f32⟩
  | .hbm, ⟨4, _⟩ => ⟨S16x2, .f32⟩
  | .hbm, ⟨5, _⟩ => ⟨S1x4x4, .f32⟩
  | .hbm, ⟨6, _⟩ => ⟨S4x4, .f32⟩
  | .hbm, ⟨7, _⟩ => ⟨S1x4x4, .f32⟩
  | .hbm, ⟨8, _⟩ => ⟨S4x4, .f32⟩
  | .hbm, ⟨9, _⟩ => ⟨S1x4x4, .f32⟩
  | .hbm, ⟨10, _⟩ => ⟨S4x4, .f32⟩
  | .hbm, ⟨11, _⟩ => ⟨S1x4x4, .f32⟩
  | .hbm, ⟨12, _⟩ => ⟨S4x4, .f32⟩
  | .hbm, ⟨13, _⟩ => ⟨S4x16, .f32⟩
  | .hbm, ⟨14, _⟩ => ⟨S_, .f32⟩
  | .hbm, ⟨15, _⟩ => ⟨S16x4, .f32⟩
  | .hbm, ⟨16, _⟩ => ⟨S_, .f32⟩
  | .hbm, ⟨17, _⟩ => ⟨S16x4, .f32⟩
  | .hbm, ⟨18, _⟩ => ⟨S1x4x1, .f32⟩
  | .hbm, ⟨19, _⟩ => ⟨S4, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S16x4, .f32⟩
  | .hbm, ⟨26, _⟩ => ⟨S1x4x1, .f32⟩
  | .hbm, ⟨27, _⟩ => ⟨S4, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S16x4, .f32⟩
  | .hbm, ⟨34, _⟩ => ⟨S1x4x1, .f32⟩
  | .hbm, ⟨35, _⟩ => ⟨S4, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S16x4, .f32⟩
  | .hbm, ⟨42, _⟩ => ⟨S1x4x1, .f32⟩
  | .hbm, ⟨43, _⟩ => ⟨S4, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S16x4, .f32⟩
  | .hbm, ⟨50, _⟩ => ⟨S1x4x1, .f32⟩
  | .hbm, ⟨51, _⟩ => ⟨S4, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S16x4, .f32⟩
  | .hbm, ⟨58, _⟩ => ⟨S1x4x1, .f32⟩
  | .hbm, ⟨59, _⟩ => ⟨S4, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S16x4, .f32⟩
  | .hbm, ⟨66, _⟩ => ⟨S1x4x1, .f32⟩
  | .hbm, ⟨67, _⟩ => ⟨S4, .f32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S16x4, .f32⟩
  | .hbm, ⟨74, _⟩ => ⟨S1x4x1, .f32⟩
  | .hbm, ⟨75, _⟩ => ⟨S4, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S16x4, .f32⟩
  | .hbm, ⟨82, _⟩ => ⟨S4x4096, .f32⟩
  | .hbm, ⟨83, _⟩ => ⟨S16x4, .f32⟩
  | .hbm, ⟨84, _⟩ => ⟨S4x16, .f32⟩
  | .hbm, ⟨85, _⟩ => ⟨S4096x2, .f32⟩
  | .hbm, ⟨86, _⟩ => ⟨S2x4096, .f32⟩
  | .local _ .vmem, ⟨0, _⟩ => ⟨S256x4096, .f32⟩
  | .local _ .vmem, ⟨1, _⟩ => ⟨S256x4096, .f32⟩
  | .local _ .vmem, ⟨2, _⟩ => ⟨S4096x4, .f32⟩
  | .local _ .vmem, ⟨3, _⟩ => ⟨S256x4, .f32⟩
  | .local _ .vmem, ⟨4, _⟩ => ⟨S256x4, .f32⟩
  | .local _ .vmem, ⟨5, _⟩ => ⟨S4x4096, .f32⟩
  | .local _ .vmem, ⟨6, _⟩ => ⟨S4x16, .f32⟩
  | .local _ .vmem, ⟨7, _⟩ => ⟨S16x4, .f32⟩
  | .local _ .vmem, ⟨8, _⟩ => ⟨S16x4, .f32⟩
  | .local _ .vmem, ⟨9, _⟩ => ⟨S4x16, .f32⟩
  | .local _ .vmem, ⟨10, _⟩ => ⟨S16x2, .f32⟩
  | .local _ .vmem, ⟨11, _⟩ => ⟨S256x2, .f32⟩
  | .local _ .vmem, ⟨12, _⟩ => ⟨S256x2, .f32⟩
  | .local _ .vmem, ⟨13, _⟩ => ⟨S2x256, .f32⟩
  | .local _ .vmem, ⟨14, _⟩ => ⟨S2x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_c_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_14 : Ref sig .tc := ⟨.hbm, 76, rfl⟩
abbrev main_v55 : Ref sig .tc := ⟨.hbm, 77, rfl⟩
abbrev main_c_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4096x4096 : Shape := ⟨2, ![4096, 4096]⟩
abbrev S4096x4 : Shape := ⟨2, ![4096, 4]⟩
abbrev S4x4x4 : Shape := ⟨3, ![4, 4, 4]⟩
abbrev S4x8x1 : Shape := ⟨3, ![4, 8, 1]⟩
abbrev S16x2 : Shape := ⟨2, ![16, 2]⟩
abbrev S_ : Shape := ⟨0, ![]⟩
abbrev S1x4x4 : Shape := ⟨3, ![1, 4, 4]⟩
abbrev S4x4 : Shape := ⟨2, ![4, 4]⟩
abbrev S1x8x1 : Shape := ⟨3, ![1, 8, 1]⟩
abbrev S8x1 : Shape := ⟨2, ![8, 1]⟩
abbrev S4x1 : Shape := ⟨2, ![4, 1]⟩
abbrev S4096x1 : Shape := ⟨2, ![4096, 1]⟩
abbrev S1x4096 : Shape := ⟨2, ![1, 4096]⟩
abbrev S4096 : Shape := ⟨1, ![4096]⟩
abbrev S4096x16 : Shape := ⟨2, ![4096, 16]⟩
abbrev S4096x2 : Shape := ⟨2, ![4096, 2]⟩
abbrev S2x4096 : Shape := ⟨2, ![2, 4096]⟩

abbrev nBuf : Space → Nat
  | .hbm => 239
  | .vmem => 0
  | .smem => 0
  | _ => 0

abbrev hbmTy0_0 (i : Nat) : BufTy := match i % 128 with
  | 0 => ⟨S4096x4096, .f32⟩
  | 1 => ⟨S4096x4, .f32⟩
  | 2 => ⟨S4x4x4, .f32⟩
  | 3 => ⟨S4x8x1, .f32⟩
  | 4 => ⟨S16x2, .f32⟩
  | 5 => ⟨S_, .f32⟩
  | 6 => ⟨S4096x4096, .f32⟩
  | 7 => ⟨S4096x4096, .i1⟩
  | 8 => ⟨S1x4x4, .f32⟩
  | 9 => ⟨S4x4, .f32⟩
  | 10 => ⟨S4096x4, .f32⟩
  | 11 => ⟨S1x8x1, .f32⟩
  | 12 => ⟨S8x1, .f32⟩
  | 13 => ⟨S4x1, .f32⟩
  | 14 => ⟨S4096x1, .f32⟩
  | 15 => ⟨S1x8x1, .f32⟩
  | 16 => ⟨S8x1, .f32⟩
  | 17 => ⟨S4x1, .f32⟩
  | 18 => ⟨S4096x1, .f32⟩
  | 19 => ⟨S1x4096, .f32⟩
  | 20 => ⟨S4096x4096, .f32⟩
  | 21 => ⟨S4096x4096, .f32⟩
  | 22 => ⟨S4096x4096, .f32⟩
  | 23 => ⟨S_, .f32⟩
  | 24 => ⟨S_, .f32⟩
  | 25 => ⟨S4096x4096, .f32⟩
  | 26 => ⟨S4096x4096, .i1⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S_, .f32⟩
  | 33 => ⟨S4096x4096, .f32⟩
  | 34 => ⟨S4096x4096, .f32⟩
  | 35 => ⟨S_, .f32⟩
  | 36 => ⟨S4096, .f32⟩
  | 37 => ⟨S_, .f32⟩
  | 38 => ⟨S4096, .f32⟩
  | 39 => ⟨S4096, .f32⟩
  | 40 => ⟨S4096x1, .f32⟩
  | 41 => ⟨S4096x4096, .f32⟩
  | 42 => ⟨S4096x4096, .f32⟩
  | 43 => ⟨S4096x4096, .f32⟩
  | 44 => ⟨S_, .f32⟩
  | 45 => ⟨S4096, .f32⟩
  | 46 => ⟨S4096x1, .f32⟩
  | 47 => ⟨S4096x4096, .f32⟩
  | 48 => ⟨S4096x4096, .f32⟩
  | 49 => ⟨S4096x4, .f32⟩
  | 50 => ⟨S_, .f32⟩
  | 51 => ⟨S4096x4, .f32⟩
  | 52 => ⟨S4096x4, .i1⟩
  | 53 => ⟨S_, .f32⟩
  | 54 => ⟨S4096x4, .f32⟩
  | 55 => ⟨S4096x4, .i1⟩
  | 56 => ⟨S_, .f32⟩
  | 57 => ⟨S_, .f32⟩
  | 58 => ⟨S4096x4, .f32⟩
  | 59 => ⟨S4096x4, .f32⟩
  | 60 => ⟨S4096x4, .f32⟩
  | 61 => ⟨S_, .f32⟩
  | 62 => ⟨S4096x4, .f32⟩
  | 63 => ⟨S4096x4, .f32⟩
  | 64 => ⟨S4096x4, .f32⟩
  | 65 => ⟨S1x4x4, .f32⟩
  | 66 => ⟨S4x4, .f32⟩
  | 67 => ⟨S4096x4, .f32⟩
  | 68 => ⟨S1x8x1, .f32⟩
  | 69 => ⟨S8x1, .f32⟩
  | 70 => ⟨S4x1, .f32⟩
  | 71 => ⟨S4096x1, .f32⟩
  | 72 => ⟨S1x8x1, .f32⟩
  | 73 => ⟨S8x1, .f32⟩
  | 74 => ⟨S4x1, .f32⟩
  | 75 => ⟨S4096x1, .f32⟩
  | 76 => ⟨S1x4096, .f32⟩
  | 77 => ⟨S4096x4096, .f32⟩
  | 78 => ⟨S4096x4096, .f32⟩
  | 79 => ⟨S4096x4096, .f32⟩
  | 80 => ⟨S_, .f32⟩
  | 81 => ⟨S_, .f32⟩
  | 82 => ⟨S4096x4096, .f32⟩
  | 83 => ⟨S4096x4096, .i1⟩
  | 84 => ⟨S_, .f32⟩
  | 85 => ⟨S4096x4096, .f32⟩
  | 86 => ⟨S4096x4096, .f32⟩
  | 87 => ⟨S4096x4096, .f32⟩
  | 88 => ⟨S_, .f32⟩
  | 89 => ⟨S_, .f32⟩
  | 90 => ⟨S4096x4096, .f32⟩
  | 91 => ⟨S4096x4096, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1, .f32⟩
  | 98 => ⟨S4096x4096, .f32⟩
  | 99 => ⟨S4096x4096, .f32⟩
  | 100 => ⟨S4096x4096, .f32⟩
  | 101 => ⟨S_, .f32⟩
  | 102 => ⟨S4096, .f32⟩
  | 103 => ⟨S4096x1, .f32⟩
  | 104 => ⟨S4096x4096, .f32⟩
  | 105 => ⟨S4096x4096, .f32⟩
  | 106 => ⟨S4096x4, .f32⟩
  | 107 => ⟨S_, .f32⟩
  | 108 => ⟨S4096x4, .f32⟩
  | 109 => ⟨S4096x4, .i1⟩
  | 110 => ⟨S_, .f32⟩
  | 111 => ⟨S4096x4, .f32⟩
  | 112 => ⟨S4096x4, .i1⟩
  | 113 => ⟨S_, .f32⟩
  | 114 => ⟨S_, .f32⟩
  | 115 => ⟨S4096x4, .f32⟩
  | 116 => ⟨S4096x4, .f32⟩
  | 117 => ⟨S4096x4, .f32⟩
  | 118 => ⟨S_, .f32⟩
  | 119 => ⟨S4096x4, .f32⟩
  | 120 => ⟨S4096x4, .f32⟩
  | 121 => ⟨S4096x4, .f32⟩
  | 122 => ⟨S1x4x4, .f32⟩
  | 123 => ⟨S4x4, .f32⟩
  | 124 => ⟨S4096x4, .f32⟩
  | 125 => ⟨S1x8x1, .f32⟩
  | 126 => ⟨S8x1, .f32⟩
  | 127 => ⟨S4x1, .f32⟩
  | _ => ⟨S4096x4096, .f32⟩

abbrev hbmTy0_1 (i : Nat) : BufTy := match i % 128 with
  | 0 => ⟨S4096x1, .f32⟩
  | 1 => ⟨S1x8x1, .f32⟩
  | 2 => ⟨S8x1, .f32⟩
  | 3 => ⟨S4x1, .f32⟩
  | 4 => ⟨S4096x1, .f32⟩
  | 5 => ⟨S1x4096, .f32⟩
  | 6 => ⟨S4096x4096, .f32⟩
  | 7 => ⟨S4096x4096, .f32⟩
  | 8 => ⟨S4096x4096, .f32⟩
  | 9 => ⟨S_, .f32⟩
  | 10 => ⟨S_, .f32⟩
  | 11 => ⟨S4096x4096, .f32⟩
  | 12 => ⟨S4096x4096, .i1⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S4096x4096, .f32⟩
  | 20 => ⟨S4096x4096, .f32⟩
  | 21 => ⟨S_, .f32⟩
  | 22 => ⟨S4096, .f32⟩
  | 23 => ⟨S_, .f32⟩
  | 24 => ⟨S4096, .f32⟩
  | 25 => ⟨S4096, .f32⟩
  | 26 => ⟨S4096x1, .f32⟩
  | 27 => ⟨S4096x4096, .f32⟩
  | 28 => ⟨S4096x4096, .f32⟩
  | 29 => ⟨S4096x4096, .f32⟩
  | 30 => ⟨S_, .f32⟩
  | 31 => ⟨S4096, .f32⟩
  | 32 => ⟨S4096x1, .f32⟩
  | 33 => ⟨S4096x4096, .f32⟩
  | 34 => ⟨S4096x4096, .f32⟩
  | 35 => ⟨S4096x4, .f32⟩
  | 36 => ⟨S_, .f32⟩
  | 37 => ⟨S4096x4, .f32⟩
  | 38 => ⟨S4096x4, .i1⟩
  | 39 => ⟨S_, .f32⟩
  | 40 => ⟨S4096x4, .f32⟩
  | 41 => ⟨S4096x4, .i1⟩
  | 42 => ⟨S_, .f32⟩
  | 43 => ⟨S_, .f32⟩
  | 44 => ⟨S4096x4, .f32⟩
  | 45 => ⟨S4096x4, .f32⟩
  | 46 => ⟨S4096x4, .f32⟩
  | 47 => ⟨S_, .f32⟩
  | 48 => ⟨S4096x4, .f32⟩
  | 49 => ⟨S4096x4, .f32⟩
  | 50 => ⟨S4096x4, .f32⟩
  | 51 => ⟨S1x4x4, .f32⟩
  | 52 => ⟨S4x4, .f32⟩
  | 53 => ⟨S4096x4, .f32⟩
  | 54 => ⟨S1x8x1, .f32⟩
  | 55 => ⟨S8x1, .f32⟩
  | 56 => ⟨S4x1, .f32⟩
  | 57 => ⟨S4096x1, .f32⟩
  | 58 => ⟨S1x8x1, .f32⟩
  | 59 => ⟨S8x1, .f32⟩
  | 60 => ⟨S4x1, .f32⟩
  | 61 => ⟨S4096x1, .f32⟩
  | 62 => ⟨S1x4096, .f32⟩
  | 63 => ⟨S4096x4096, .f32⟩
  | 64 => ⟨S4096x4096, .f32⟩
  | 65 => ⟨S4096x4096, .f32⟩
  | 66 => ⟨S_, .f32⟩
  | 67 => ⟨S_, .f32⟩
  | 68 => ⟨S4096x4096, .f32⟩
  | 69 => ⟨S4096x4096, .i1⟩
  | 70 => ⟨S_, .f32⟩
  | 71 => ⟨S4096x4096, .f32⟩
  | 72 => ⟨S4096x4096, .f32⟩
  | 73 => ⟨S4096x4096, .f32⟩
  | 74 => ⟨S_, .f32⟩
  | 75 => ⟨S_, .f32⟩
  | 76 => ⟨S4096x4096, .f32⟩
  | 77 => ⟨S4096x4096, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1, .f32⟩
  | 84 => ⟨S4096x4096, .f32⟩
  | 85 => ⟨S4096x4096, .f32⟩
  | 86 => ⟨S4096x4096, .f32⟩
  | 87 => ⟨S_, .f32⟩
  | 88 => ⟨S4096, .f32⟩
  | 89 => ⟨S4096x1, .f32⟩
  | 90 => ⟨S4096x4096, .f32⟩
  | 91 => ⟨S4096x4096, .f32⟩
  | 92 => ⟨S4096x4, .f32⟩
  | 93 => ⟨S_, .f32⟩
  | 94 => ⟨S4096x4, .f32⟩
  | 95 => ⟨S4096x4, .i1⟩
  | 96 => ⟨S_, .f32⟩
  | 97 => ⟨S4096x4, .f32⟩
  | 98 => ⟨S4096x4, .i1⟩
  | 99 => ⟨S_, .f32⟩
  | 100 => ⟨S_, .f32⟩
  | 101 => ⟨S4096x4, .f32⟩
  | 102 => ⟨S4096x4, .f32⟩
  | 103 => ⟨S4096x4, .f32⟩
  | 104 => ⟨S_, .f32⟩
  | 105 => ⟨S4096x4, .f32⟩
  | 106 => ⟨S4096x4, .f32⟩
  | 107 => ⟨S4096x4, .f32⟩
  | 108 => ⟨S4096x16, .f32⟩
  | 109 => ⟨S4096x2, .f32⟩
  | 110 => ⟨S2x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_cst_0 : Ref sig .tc := ⟨.hbm, 53, rfl⟩
abbrev main_call2_v2 : Ref sig .tc := ⟨.hbm, 54, rfl⟩
abbrev main_call2_v3 : Ref sig .tc := ⟨.hbm, 55, rfl⟩
abbrev main_call2_cst_1 : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_v4 : Ref sig .tc := ⟨.hbm, 59, rfl⟩
abbrev main_call2_v5 : Ref sig .tc := ⟨.hbm, 60, rfl⟩
abbrev main_call2_cst_2 : Ref sig .tc := ⟨.hbm, 61, rfl⟩
abbrev main_call2_v6 : Ref sig .tc := ⟨.hbm, 62, rfl⟩
abbrev main_call2_v7 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_5 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v47 : Ref sig .tc := ⟨.hbm, 87, rfl⟩
abbrev main_cst_6 : Ref sig .tc := ⟨.hbm, 88, rfl⟩
abbrev main_call4_v0 : Ref sig .tc := ⟨.hbm, 89, rfl⟩
abbrev main_call4_v1 : Ref sig .tc := ⟨.hbm, 90, rfl⟩
abbrev main_v48 : Ref sig .tc := ⟨.hbm, 91, rfl⟩
abbrev main_cst_7 : Ref sig .tc := ⟨.hbm, 92, rfl⟩
abbrev main_v49 : Ref sig .tc := ⟨.hbm, 93, rfl⟩
abbrev main_cst_8 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_9 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call5_cst : Ref sig .tc := ⟨.hbm, 107, rfl⟩
abbrev main_call5_v0 : Ref sig .tc := ⟨.hbm, 108, rfl⟩
abbrev main_call5_v1 : Ref sig .tc := ⟨.hbm, 109, rfl⟩
abbrev main_call5_cst_0 : Ref sig .tc := ⟨.hbm, 110, rfl⟩
abbrev main_call5_v2 : Ref sig .tc := ⟨.hbm, 111, rfl⟩
abbrev main_call5_v3 : Ref sig .tc := ⟨.hbm, 112, rfl⟩
abbrev main_call5_cst_1 : Ref sig .tc := ⟨.hbm, 113, rfl⟩
abbrev main_call5_call0_v0 : Ref sig .tc := ⟨.hbm, 114, rfl⟩
abbrev main_call5_call0_v1 : Ref sig .tc := ⟨.hbm, 115, rfl⟩
abbrev main_call5_v4 : Ref sig .tc := ⟨.hbm, 116, rfl⟩
abbrev main_call5_v5 : Ref sig .tc := ⟨.hbm, 117, rfl⟩
abbrev main_call5_cst_2 : Ref sig .tc := ⟨.hbm, 118, rfl⟩
abbrev main_call5_v6 : Ref sig .tc := ⟨.hbm, 119, rfl⟩
abbrev main_call5_v7 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_cst_10 : Ref sig .tc := ⟨.hbm, 137, rfl⟩
abbrev main_call6_cst : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_v77 : Ref sig .tc := ⟨.hbm, 144, rfl⟩
abbrev main_cst_11 : Ref sig .tc := ⟨.hbm, 145, rfl⟩
abbrev main_call7_v0 : Ref sig .tc := ⟨.hbm, 146, rfl⟩
abbrev main_call7_v1 : Ref sig .tc := ⟨.hbm, 147, rfl⟩
abbrev main_v78 : Ref sig .tc := ⟨.hbm, 148, rfl⟩
abbrev main_cst_12 : Ref sig .tc := ⟨.hbm, 149, rfl⟩
abbrev main_v79 : Ref sig .tc := ⟨.hbm, 150, rfl⟩
abbrev main_cst_13 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_14 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_call8_cst : Ref sig .tc := ⟨.hbm, 164, rfl⟩
abbrev main_call8_v0 : Ref sig .tc := ⟨.hbm, 165, rfl⟩
abbrev main_call8_v1 : Ref sig .tc := ⟨.hbm, 166, rfl⟩
abbrev main_call8_cst_0 : Ref sig .tc := ⟨.hbm, 167, rfl⟩
abbrev main_call8_v2 : Ref sig .tc := ⟨.hbm, 168, rfl⟩
abbrev main_call8_v3 : Ref sig .tc := ⟨.hbm, 169, rfl⟩
abbrev main_call8_cst_1 : Ref sig .tc := ⟨.hbm, 170, rfl⟩
abbrev main_call8_call0_v0 : Ref sig .tc := ⟨.hbm, 171, rfl⟩
abbrev main_call8_call0_v1 : Ref sig .tc := ⟨.hbm, 172, rfl⟩
abbrev main_call8_v4 : Ref sig .tc := ⟨.hbm, 173, rfl⟩
abbrev main_call8_v5 : Ref sig .tc := ⟨.hbm, 174, rfl⟩
abbrev main_call8_cst_2 : Ref sig .tc := ⟨.hbm, 175, rfl⟩
abbrev main_call8_v6 : Ref sig .tc := ⟨.hbm, 176, rfl⟩
abbrev main_call8_v7 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_cst_15 : Ref sig .tc := ⟨.hbm, 194, rfl⟩
abbrev main_call9_cst : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_call9_v3 : Ref sig .tc := ⟨.hbm, 199, rfl⟩
abbrev main_call9_v4 : Ref sig .tc := ⟨.hbm, 200, rfl⟩
abbrev main_v107 : Ref sig .tc := ⟨.hbm, 201, rfl⟩
abbrev main_cst_16 : Ref sig .tc := ⟨.hbm, 202, rfl⟩
abbrev main_call10_v0 : Ref sig .tc := ⟨.hbm, 203, rfl⟩
abbrev main_call10_v1 : Ref sig .tc := ⟨.hbm, 204, rfl⟩
abbrev main_v108 : Ref sig .tc := ⟨.hbm, 205, rfl⟩
abbrev main_cst_17 : Ref sig .tc := ⟨.hbm, 206, rfl⟩
abbrev main_v109 : Ref sig .tc := ⟨.hbm, 207, rfl⟩
abbrev main_cst_18 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_cst_19 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_call11_cst : Ref sig .tc := ⟨.hbm, 221, rfl⟩
abbrev main_call11_v0 : Ref sig .tc := ⟨.hbm, 222, rfl⟩
abbrev main_call11_v1 : Ref sig .tc := ⟨.hbm, 223, rfl⟩
abbrev main_call11_cst_0 : Ref sig .tc := ⟨.hbm, 224, rfl⟩
abbrev main_call11_v2 : Ref sig .tc := ⟨.hbm, 225, rfl⟩
abbrev main_call11_v3 : Ref sig .tc := ⟨.hbm, 226, rfl⟩
abbrev main_call11_cst_1 : Ref sig .tc := ⟨.hbm, 227, rfl⟩
abbrev main_call11_call0_v0 : Ref sig .tc := ⟨.hbm, 228, rfl⟩
abbrev main_call11_call0_v1 : Ref sig .tc := ⟨.hbm, 229, rfl⟩
abbrev main_call11_v4 : Ref sig .tc := ⟨.hbm, 230, rfl⟩
abbrev main_call11_v5 : Ref sig .tc := ⟨.hbm, 231, rfl⟩
abbrev main_call11_cst_2 : Ref sig .tc := ⟨.hbm, 232, rfl⟩
abbrev main_call11_v6 : Ref sig .tc := ⟨.hbm, 233, rfl⟩
abbrev main_call11_v7 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩

abbrev nD : Nat := 1
abbrev τ : Topo := Topo.v7x

variable {F : FTy → Type} [FloatOps F]
-- ==== Kernel3.lean ====
abbrev S_ : Shape := ⟨0, ![]⟩
abbrev S4096x4096 : Shape := ⟨2, ![4096, 4096]⟩
abbrev S4096x2 : Shape := ⟨2, ![4096, 2]⟩
abbrev S1x768 : Shape := ⟨2, ![1, 768]⟩
abbrev S2000x2 : Shape := ⟨2, ![2000, 2]⟩
abbrev S4x1 : Shape := ⟨2, ![4, 1]⟩
abbrev S2x4096 : Shape := ⟨2, ![2, 4096]⟩
abbrev S1 : Shape := ⟨1, ![1]⟩
abbrev S2x1 : Shape := ⟨2, ![2, 1]⟩
abbrev S1x2 : Shape := ⟨2, ![1, 2]⟩
abbrev S1x1 : Shape := ⟨2, ![1, 1]⟩
abbrev S256x4096 : Shape := ⟨2, ![256, 4096]⟩
abbrev S256x2 : Shape := ⟨2, ![256, 2]⟩
abbrev S256x1 : Shape := ⟨2, ![256, 1]⟩
abbrev S1x4096 : Shape := ⟨2, ![1, 4096]⟩
abbrev S4096x1 : Shape := ⟨2, ![4096, 1]⟩
abbrev S4096x3 : Shape := ⟨2, ![4096, 3]⟩
abbrev S256x3 : Shape := ⟨2, ![256, 3]⟩
abbrev S256 : Shape := ⟨1, ![256]⟩
abbrev S1x1x768 : Shape := ⟨3, ![1, 1, 768]⟩
abbrev S1x1x1 : Shape := ⟨3, ![1, 1, 1]⟩
abbrev S2000x1 : Shape := ⟨2, ![2000, 1]⟩
abbrev S1x2000x1 : Shape := ⟨3, ![1, 2000, 1]⟩

abbrev nBuf : Space → Nat
  | .hbm => 11
  | .vmem => 12
  | .smem => 1
  | _ => 0

abbrev bufTy : (tb : Table) → Fin (tcTables nBuf tb) → BufTy
  | .hbm, ⟨0, _⟩ => ⟨S_, .i32⟩
  | .hbm, ⟨1, _⟩ => ⟨S4096x4096, .f32⟩
  | .hbm, ⟨2, _⟩ => ⟨S4096x2, .f32⟩
  | .hbm, ⟨3, _⟩ => ⟨S1x768, .f32⟩
  | .hbm, ⟨4, _⟩ => ⟨S2000x2, .f32⟩
  | .hbm, ⟨5, _⟩ => ⟨S4x1, .f32⟩
  | .hbm, ⟨6, _⟩ => ⟨S2x4096, .f32⟩
  | .hbm, ⟨7, _⟩ => ⟨S2x1, .f32⟩
  | .hbm, ⟨8, _⟩ => ⟨S2x1, .f32⟩
  | .hbm, ⟨9, _⟩ => ⟨S1x2, .f32⟩
  | .hbm, ⟨10, _⟩ => ⟨S1x1, .i32⟩
  | .local _ .vmem, ⟨0, _⟩ => ⟨S256x4096, .f32⟩
  | .local _ .vmem, ⟨1, _⟩ => ⟨S256x4096, .f32⟩
  | .local _ .vmem, ⟨2, _⟩ => ⟨S4096x2, .f32⟩
  | .local _ .vmem, ⟨3, _⟩ => ⟨S256x2, .f32⟩
  | .local _ .vmem, ⟨4, _⟩ => ⟨S256x2, .f32⟩
  | .local _ .vmem, ⟨5, _⟩ => ⟨S2x4096, .f32⟩
  | .local _ .vmem, ⟨6, _⟩ => ⟨S2x1, .f32⟩
  | .local _ .vmem, ⟨7, _⟩ => ⟨S1x2, .f32⟩
  | .local _ .vmem, ⟨8, _⟩ => ⟨S1x768, .f32⟩
  | .local _ .vmem, ⟨9, _⟩ => ⟨S2000x2, .f32⟩
  | .local _ .vmem, ⟨10, _⟩ => ⟨S1x1, .i32⟩
  | .local _ .vmem, ⟨11, _⟩ => ⟨S4096x2, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c256_i32 : BitVec 32 := 256#32
  let v50 : BitVec 32 := Scalar.muli arg0 c256_i32
  let v51 : Index := Scalar.indexCast v50
  let c0_20 : Index := 0#32
  ![v51.toNat, 0]
def k0_cond1 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32 : BitVec 32 := 0#32
  let v57 : BitVec 1 := Scalar.cmpi .ne v56 c0_i32
  v57

def k0_off2 (v58 : BitVec 32) : Fin 2 → Nat :=
  let c2096_i32 : BitVec 32 := 2096#32
  let c0_i32_22 : BitVec 32 := 0#32
  let v59 : BitVec 32 := Scalar.maxsi c0_i32_22 v58
  let v60 : BitVec 32 := Scalar.minsi c2096_i32 v59
  let v61 : Index := Scalar.indexCast v60
  let c0_23 : Index := 0#32
  ![v61.toNat, 0]

def k0_chk1 (i : grid0.Coords) (v58 : BitVec 32) : Prop :=
  (∀ (k0_h1 : k0_cond1 i = 1#1), ∀ a, (k0_off2 v58) a + S2000x2.size a ≤ S4096x2.size a)
theorem k0_off2_inb : ∀ (i : grid0.Coords) (v58 : BitVec 32) (k0_hw1 : k0_chk1 i v58), ∀ (k0_h1 : k0_cond1 i = 1#1), ∀ a, (k0_off2 v58) a + S2000x2.size a ≤ S4096x2.size a := fun i v58 k0_hw1 k0_h1 => k0_hw1 k0_h1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2000x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S_ : Shape := ⟨0, ![]⟩
abbrev S4096x4096 : Shape := ⟨2, ![4096, 4096]⟩
abbrev S4096x2 : Shape := ⟨2, ![4096, 2]⟩
abbrev S1x768 : Shape := ⟨2, ![1, 768]⟩
abbrev S2000x2 : Shape := ⟨2, ![2000, 2]⟩
abbrev S4x1 : Shape := ⟨2, ![4, 1]⟩
abbrev S2x1 : Shape := ⟨2, ![2, 1]⟩
abbrev S4096x1 : Shape := ⟨2, ![4096, 1]⟩
abbrev S1x4096 : Shape := ⟨2, ![1, 4096]⟩
abbrev S4096 : Shape := ⟨1, ![4096]⟩
abbrev S2000x2x1 : Shape := ⟨3, ![2000, 2, 1]⟩
abbrev S768 : Shape := ⟨1, ![768]⟩
abbrev S1x1x768 : Shape := ⟨3, ![1, 1, 768]⟩
abbrev S2000x2x768 : Shape := ⟨3, ![2000, 2, 768]⟩
abbrev S2000 : Shape := ⟨1, ![2000]⟩
abbrev S1 : Shape := ⟨1, ![1]⟩
abbrev S1x2000 : Shape := ⟨2, ![1, 2000]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S_, .i32⟩
  | .hbm, ⟨1, _⟩ => ⟨S4096x4096, .f32⟩
  | .hbm, ⟨2, _⟩ => ⟨S4096x2, .f32⟩
  | .hbm, ⟨3, _⟩ => ⟨S1x768, .f32⟩
  | .hbm, ⟨4, _⟩ => ⟨S2000x2, .f32⟩
  | .hbm, ⟨5, _⟩ => ⟨S4x1, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S2x1, .f32⟩
  | .hbm, ⟨10, _⟩ => ⟨S4096x1, .f32⟩
  | .hbm, ⟨11, _⟩ => ⟨S2x1, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x2, .f32⟩
  | .hbm, ⟨44, _⟩ => ⟨S_, .f32⟩
  | .hbm, ⟨45, _⟩ => ⟨S4096x2, .f32⟩
  | .hbm, ⟨46, _⟩ => ⟨S4096x2, .i1⟩
  | .hbm, ⟨47, _⟩ => ⟨S_, .f32⟩
  | .hbm, ⟨48, _⟩ => ⟨S4096x2, .f32⟩
  | .hbm, ⟨49, _⟩ => ⟨S4096x2, .i1⟩
  | .hbm, ⟨50, _⟩ => ⟨S_, .f32⟩
  | .hbm, ⟨51, _⟩ => ⟨S_, .f32⟩
  | .hbm, ⟨52, _⟩ => ⟨S4096x2, .f32⟩
  | .hbm, ⟨53, _⟩ => ⟨S4096x2, .f32⟩
  | .hbm, ⟨54, _⟩ => ⟨S4096x2, .f32⟩
  | .hbm, ⟨55, _⟩ => ⟨S_, .f32⟩
  | .hbm, ⟨56, _⟩ => ⟨S4096x2, .f32⟩
  | .hbm, ⟨57, _⟩ => ⟨S4096x2, .f32⟩
  | .hbm, ⟨58, _⟩ => ⟨S4096x2, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1, .f32⟩
  | .hbm, ⟨65, _⟩ => ⟨S4096x2, .f32⟩
  | .hbm, ⟨66, _⟩ => ⟨S4096x2, .f32⟩
  | .hbm, ⟨67, _⟩ => ⟨S4096x2, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1, .f32⟩
  | .hbm, ⟨72, _⟩ => ⟨S4096x2, .f32⟩
  | .hbm, ⟨73, _⟩ => ⟨S4096x2, .f32⟩
  | .hbm, ⟨74, _⟩ => ⟨S2000x2x1, .f32⟩
  | .hbm, ⟨75, _⟩ => ⟨S768, .f32⟩
  | .hbm, ⟨76, _⟩ => ⟨S1x1x768, .f32⟩
  | .hbm, ⟨77, _⟩ => ⟨S2000x2x768, .f32⟩
  | .hbm, ⟨78, _⟩ => ⟨S2000x2x768, .f32⟩
  | .hbm, ⟨79, _⟩ => ⟨S2000x2x768, .f32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S2000x2, .f32⟩
  | .hbm, ⟨87, _⟩ => ⟨S2000x2x1, .f32⟩
  | .hbm, ⟨88, _⟩ => ⟨S2000x2x768, .f32⟩
  | .hbm, ⟨89, _⟩ => ⟨S2000x2x768, .f32⟩
  | .hbm, ⟨90, _⟩ => ⟨S_, .f32⟩
  | .hbm, ⟨91, _⟩ => ⟨S2000, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1, .f32⟩
  | .hbm, ⟨97, _⟩ => ⟨S2000, .f32⟩
  | .hbm, ⟨98, _⟩ => ⟨S2000, .f32⟩
  | .hbm, ⟨99, _⟩ => ⟨S2000, .f32⟩
  | .hbm, ⟨100, _⟩ => ⟨S_, .f32⟩
  | .hbm, ⟨101, _⟩ => ⟨S_, .f32⟩
  | .hbm, ⟨102, _⟩ => ⟨S1, .f32⟩
  | .hbm, ⟨103, _⟩ => ⟨S2000, .f32⟩
  | .hbm, ⟨104, _⟩ => ⟨S2000, .f32⟩
  | .hbm, ⟨105, _⟩ => ⟨S1x2000, .f32⟩
  | .hbm, ⟨106, _⟩ => ⟨S1x2000, .i32⟩
  | .hbm, ⟨107, _⟩ => ⟨S_, .f32⟩
  | .hbm, ⟨108, _⟩ => ⟨S_, .i32⟩
  | .hbm, ⟨109, _⟩ => ⟨S1, .f32⟩
  | .hbm, ⟨110, _⟩ => ⟨S1, .i32⟩
  | .hbm, ⟨111, _⟩ => ⟨S1x1, .i32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_call2_cst_1 : Ref sig .tc := ⟨.hbm, 50, rfl⟩
abbrev main_call2_call0_v0 : Ref sig .tc := ⟨.hbm, 51, rfl⟩
abbrev main_call2_call0_v1 : Ref sig .tc := ⟨.hbm, 52, rfl⟩
abbrev main_call2_v4 : Ref sig .tc := ⟨.hbm, 53, rfl⟩
abbrev main_call2_v5 : Ref sig .tc := ⟨.hbm, 54, rfl⟩
abbrev main_call2_cst_2 : Ref sig .tc := ⟨.hbm, 55, rfl⟩
abbrev main_call2_v6 : Ref sig .tc := ⟨.hbm, 56, rfl⟩
abbrev main_call2_v7 : Ref sig .tc := ⟨.hbm, 57, rfl⟩
abbrev main_v24 : Ref sig .tc := ⟨.hbm, 58, rfl⟩
abbrev main_call3_cst : Ref sig .tc := ⟨.hbm, 59, rfl⟩
abbrev main_call3_v0 : Ref sig .tc := ⟨.hbm, 60, rfl⟩
abbrev main_call3_cst_0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_cst_1 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c : Ref sig .tc := ⟨.hbm, 80, rfl⟩
abbrev main_v32 : Ref sig .tc := ⟨.hbm, 81, rfl⟩
abbrev main_c_5 : Ref sig .tc := ⟨.hbm, 82, rfl⟩
abbrev main_v33 : Ref sig .tc := ⟨.hbm, 83, rfl⟩
abbrev main_v34 : Ref sig .tc := ⟨.hbm, 84, rfl⟩
abbrev main_c_6 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_cst_8 : Ref sig .tc := ⟨.hbm, 92, rfl⟩
abbrev main_v40 : Ref sig .tc := ⟨.hbm, 93, rfl⟩
abbrev main_cst_9 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_10 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_call4_v0 : Ref sig .tc := ⟨.hbm, 106, rfl⟩
abbrev main_call4_cst : Ref sig .tc := ⟨.hbm, 107, rfl⟩
abbrev main_call4_c : Ref sig .tc := ⟨.hbm, 108, rfl⟩
abbrev main_call4_v1_0 : Ref sig .tc := ⟨.hbm, 109, rfl⟩
abbrev main_v51 : Ref sig .tc := ⟨.hbm, 110, rfl⟩
abbrev main_v52 : Ref sig .tc := ⟨.hbm, 111, rfl⟩

abbrev nD : Nat := 1
abbrev τ : Topo := Topo.v7x

variable {F : FTy → Type} [FloatOps F]
-- ==== Proof.Seq.RunKernelIdeal.lean ====
/-
  The recurrent call's body: the counted loop's state is one recurrence over the scratch rows, and the body's triple with every
  output named over the operand blocks.
-/
module

public import proofs.«01_k».proof.Proof.Gen.KernelIdeal.Frame.Runs
public import Idealize.ShloMosaic.Lib.Pipeline.Value

@[expose] public section

set_option maxRecDepth 16384

noncomputable section

namespace Cert.KernelIdeal.Seq

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The recurrent state before step `k`: the start state, then one gated step per row of the three scratch buffers. -/
def hst (G B : Vec F S512x768 .f32) (s : Vec F S512x1 .f32) (w1 w2 : Vec F S256x768 .f32) (h0 : Vec F S1x256 .f32) : ℕ → Vec F S1x256 .f32
  | 0 => h0
  | k + 1 => if hk : k < k0_t1_loop.trips then
      k0_pay7 w1 w2 (hst G B s w1 w2 h0 k)
        (View.ld G (Rect.unit (s := S512x768) (k0_off1 ⟨k, hk⟩) S1x768.size (k0_off1_inb ⟨k, hk⟩)))
        (View.ld B (Rect.unit (s := S512x768) (k0_off1 ⟨k, hk⟩) S1x768.size (k0_off1_inb ⟨k, hk⟩)))
        (View.ld s (Rect.unit (s := S512x1) (k0_off2 ⟨k, hk⟩) S1x1.size (k0_off2_inb ⟨k, hk⟩)))
    else hst G B s w1 w2 h0 k

/-- The loop's state is that recurrence over the scratch buffers' contents. -/
theorem st_eq (𝒱 : Variants) (c : Dev nD) (bd : Option 𝒱.V) (arg0 : Memref sig .tc .vmem S512x8 .f32) (harg0 : arg0.IsWhole) (arg1 : Memref sig .tc .vmem S1x1 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S2000x2 .f32) (harg7 : arg7.IsWhole) (arg8 : Memref sig .tc .vmem S2000x1 .f32) (harg8 : arg8.IsWhole) (arg9 : Memref sig .tc .vmem S8x768 .f32) (harg9 : arg9.IsWhole) (arg10 : Memref sig .tc .vmem S9x768 .f32) (harg10 : arg10.IsWhole) (arg11 : Memref sig .tc .vmem S9x768 .f32) (harg11 : arg11.IsWhole) (arg12 : Memref sig .tc .vmem S256x768 .f32) (harg12 : arg12.IsWhole) (arg13 : Memref sig .tc .vmem S256x768 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768 .f32) (harg18 : arg18.IsWhole) (arg19 : Memref sig .tc .vmem S1x768 .f32) (harg19 : arg19.IsWhole) (arg20 : Memref sig .tc .vmem S1x768 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .vmem S1x1 .f32) (harg24 : arg24.IsWhole) (arg25 : Memref sig .tc .vmem S1x768 .f32) (harg25 : arg25.IsWhole) (arg26 : Memref sig .tc .vmem S512x768 .f32) (harg26 : arg26.IsWhole) (arg27 : Memref sig .tc .vmem S512x768 .f32) (harg27 : arg27.IsWhole) (arg28 : Memref sig .tc .vmem S512x1 .f32) (harg28 : arg28.IsWhole) (v0 : Vec F S512x8 .f32) (v1 : Vec F S1x1 .f32) (v16 : FVec F S512x1 .f32) (v38 : FVec F S512x768 .f32) (v39 : Vec F S512x768 .f32) (v61 : Vec F S256x768 .f32) (v63 : Vec F S256x768 .f32) (X_arg26 : BufTy.Contents (Elt F) arg26.view.ty) (X_arg27 : BufTy.Contents (Elt F) arg27.view.ty) (X_arg28 : BufTy.Contents (Elt F) arg28.view.ty) (init : Vec F S1x256 .f32) (n : ℕ) (hn : n ≤ k0_t1_loop.trips) :
    st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v1 v16 v38 v39 v61 v63 X_arg26 X_arg27 X_arg28 init n = hst (arg26.view.read (Elt F) X_arg26) (arg27.view.read (Elt F) X_arg27) (arg28.view.read (Elt F) X_arg28) v61 v63 init n := by
  induction n with
  | zero => rw [st_k0_t1_zero]; rfl
  | succ k ih =>
    have hk : k < k0_t1_loop.trips := hn
    have e := st_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v1 v16 v38 v39 v61 v63 X_arg26 X_arg27 X_arg28 init ⟨k, hk⟩
    refine e.trans ?_
    rw [show hst (arg26.view.read (Elt F) X_arg26) (arg27.view.read (Elt F) X_arg27) (arg28.view.read (Elt F) X_arg28) v61 v63 init (k+1) = _ from dif_pos hk, ← ih (Nat.le_of_lt hk)]
    unfold tripR_k0_t1
    unfold trip_k0_t1
    rfl

/-- Reading back a store that fills its whole buffer. -/
theorem readFull {S : Shape} {e : EltTy} {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

theorem zero2 : (![0, 0] : Fin 2 → Nat) = fun _ => 0 := funext fun a => by fin_cases a <;> rfl

/-- The recurrent state after the whole sequence, over the operand blocks. -/
def hV (x0 : Vec F S512x8 .f32) (x1 : Vec F S1x1 .f32) (x2 : Vec F S1x256 .f32) (x3 : Vec F S1x256 .f32) (x4 : Vec F S1x1 .f32) (x5 : Vec F S1x1 .f32) (x6 : Vec F S1x1 .f32) (x7 : Vec F S2000x2 .f32) (x8 : Vec F S2000x1 .f32) (x9 : Vec F S8x768 .f32) (x10 : Vec F S9x768 .f32) (x11 : Vec F S9x768 .f32) (x12 : Vec F S256x768 .f32) (x13 : Vec F S256x768 .f32) (x14 : Vec F S256x768 .f32) (x15 : Vec F S1x768 .f32) (x16 : Vec F S1x768 .f32) (x17 : Vec F S1x768 .f32) (x18 : Vec F S1x768 .f32) (x19 : Vec F S1x768 .f32) (x20 : Vec F S1x768 .f32) : Vec F S1x256 .f32 :=
  hst (k0_pay4 (k0_pay3 x0 x1 x9 x15 x10 x16)) (k0_pay5 (k0_pay2 x0) x18 x19) (k0_pay6 (k0_pay2 x0)) x12 x13 x2 k0_t1_loop.trips
/-- The period state. -/
def phV (x0 : Vec F S512x8 .f32) (x1 : Vec F S1x1 .f32) (x2 : Vec F S1x256 .f32) (x3 : Vec F S1x256 .f32) (x4 : Vec F S1x1 .f32) (x5 : Vec F S1x1 .f32) (x6 : Vec F S1x1 .f32) (x7 : Vec F S2000x2 .f32) (x8 : Vec F S2000x1 .f32) (x9 : Vec F S8x768 .f32) (x10 : Vec F S9x768 .f32) (x11 : Vec F S9x768 .f32) (x12 : Vec F S256x768 .f32) (x13 : Vec F S256x768 .f32) (x14 : Vec F S256x768 .f32) (x15 : Vec F S1x768 .f32) (x16 : Vec F S1x768 .f32) (x17 : Vec F S1x768 .f32) (x18 : Vec F S1x768 .f32) (x19 : Vec F S1x768 .f32) (x20 : Vec F S1x768 .f32) : Vec F S1x256 .f32 := k0_pay9 (k0_pay8 x0 x1 x11) x17 x3 x14 x20 x3
/-- The updated normaliser. -/
def qV (x0 : Vec F S512x8 .f32) (x1 : Vec F S1x1 .f32) (x2 : Vec F S1x256 .f32) (x3 : Vec F S1x256 .f32) (x4 : Vec F S1x1 .f32) (x5 : Vec F S1x1 .f32) (x6 : Vec F S1x1 .f32) (x7 : Vec F S2000x2 .f32) (x8 : Vec F S2000x1 .f32) (x9 : Vec F S8x768 .f32) (x10 : Vec F S9x768 .f32) (x11 : Vec F S9x768 .f32) (x12 : Vec F S256x768 .f32) (x13 : Vec F S256x768 .f32) (x14 : Vec F S256x768 .f32) (x15 : Vec F S1x768 .f32) (x16 : Vec F S1x768 .f32) (x17 : Vec F S1x768 .f32) (x18 : Vec F S1x768 .f32) (x19 : Vec F S1x768 .f32) (x20 : Vec F S1x768 .f32) : Vec F S1x1 .f32 := k0_pay11 (hV x0 x1 x2 x3 x4 x5 x6 x7 x8 x9 x10 x11 x12 x13 x14 x15 x16 x17 x18 x19 x20) (k0_pay8 x0 x1 x11) x17 x3 x14 x20 x3 x4
/-- The updated attention weight. -/
def aV (x0 : Vec F S512x8 .f32) (x1 : Vec F S1x1 .f32) (x2 : Vec F S1x256 .f32) (x3 : Vec F S1x256 .f32) (x4 : Vec F S1x1 .f32) (x5 : Vec F S1x1 .f32) (x6 : Vec F S1x1 .f32) (x7 : Vec F S2000x2 .f32) (x8 : Vec F S2000x1 .f32) (x9 : Vec F S8x768 .f32) (x10 : Vec F S9x768 .f32) (x11 : Vec F S9x768 .f32) (x12 : Vec F S256x768 .f32) (x13 : Vec F S256x768 .f32) (x14 : Vec F S256x768 .f32) (x15 : Vec F S1x768 .f32) (x16 : Vec F S1x768 .f32) (x17 : Vec F S1x768 .f32) (x18 : Vec F S1x768 .f32) (x19 : Vec F S1x768 .f32) (x20 : Vec F S1x768 .f32) : Vec F S1x1 .f32 := k0_pay12 (hV x0 x1 x2 x3 x4 x5 x6 x7 x8 x9 x10 x11 x12 x13 x14 x15 x16 x17 x18 x19 x20) (k0_pay8 x0 x1 x11) x17 x3 x14 x20 x3 x4 x5
/-- The joined feature row. -/
def mV (x0 : Vec F S512x8 .f32) (x1 : Vec F S1x1 .f32) (x2 : Vec F S1x256 .f32) (x3 : Vec F S1x256 .f32) (x4 : Vec F S1x1 .f32) (x5 : Vec F S1x1 .f32) (x6 : Vec F S1x1 .f32) (x7 : Vec F S2000x2 .f32) (x8 : Vec F S2000x1 .f32) (x9 : Vec F S8x768 .f32) (x10 : Vec F S9x768 .f32) (x11 : Vec F S9x768 .f32) (x12 : Vec F S256x768 .f32) (x13 : Vec F S256x768 .f32) (x14 : Vec F S256x768 .f32) (x15 : Vec F S1x768 .f32) (x16 : Vec F S1x768 .f32) (x17 : Vec F S1x768 .f32) (x18 : Vec F S1x768 .f32) (x19 : Vec F S1x768 .f32) (x20 : Vec F S1x768 .f32) : Vec F S1x768 .f32 :=
  k0_pay1 (hV x0 x1 x2 x3 x4 x5 x6 x7 x8 x9 x10 x11 x12 x13 x14 x15 x16 x17 x18 x19 x20) (k0_pay13 (hV x0 x1 x2 x3 x4 x5 x6 x7 x8 x9 x10 x11 x12 x13 x14 x15 x16 x17 x18 x19 x20) (k0_pay8 x0 x1 x11) x17 x3 x14 x20 x3 x4 x5)
    (k0_pay14 (hV x0 x1 x2 x3 x4 x5 x6 x7 x8 x9 x10 x11 x12 x13 x14 x15 x16 x17 x18 x19 x20) x6 x8 (View.ld x7 (Rect.unit (s := S2000x2) ![0, 0] S2000x1.size inb_S2000x2_S2000x1_0_0)) (View.ld x7 (Rect.unit (s := S2000x2) ![0, 1] S2000x1.size inb_S2000x2_S2000x1_0_1)))

/-- Owning a whole buffer at a value is owning its cells at the contents that read as the value. -/
theorem owns_open {S : Shape} {e : EltTy} {sp : Space} (c : Dev nD) (a : Memref sig .tc sp S e) (ha : a.IsWhole) (x : S.Idx → Elt F e) :
    (owns (c : Thread nD τ) a fullShare x : sProp 𝕄) ⊢ iprop(a.view.loc (c : Thread nD τ) ↦[a.view.set]{fullShare} ha.unread x) := by
  unfold owns
  iintro ⟨%f, %hf, H⟩
  obtain rfl := ha.eq_unread hf
  iexact H

theorem owns_any {S : Shape} {e : EltTy} {sp : Space} (c : Dev nD) (a : Memref sig .tc sp S e) :
    (iprop(∃ d, owns (c : Thread nD τ) a fullShare d) : sProp 𝕄) ⊢ iprop(∃ d, (a.view.loc (c : Thread nD τ) ↦[a.view.set]{fullShare} d)) := by
  unfold owns
  iintro ⟨%d, %f, %hf, H⟩
  iexists _; iexact H

theorem owns_close {S : Shape} {e : EltTy} {sp : Space} (c : Dev nD) (a : Memref sig .tc sp S e) (ha : a.IsWhole) (x : S.Idx → Elt F e) :
    (iprop(a.view.loc (c : Thread nD τ) ↦[a.view.set]{fullShare} ha.unread x) : sProp 𝕄) ⊢ owns (c : Thread nD τ) a fullShare x := by
  unfold owns
  iintro H
  iexists _; isplitr
  · ipureintro; exact ha.read_unread _
  iexact H

set_option maxHeartbeats 1000000 in
/-- The body's triple: the operand buffers at their contents, the outputs and scratch buffers at anything; it runs to the
    outputs at the named values over the operands. -/
theorem seqRun (c : Dev nD) (arg0 : Memref sig .tc .vmem S512x8 .f32) (harg0 : arg0.IsWhole) (arg1 : Memref sig .tc .vmem S1x1 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S2000x2 .f32) (harg7 : arg7.IsWhole) (arg8 : Memref sig .tc .vmem S2000x1 .f32) (harg8 : arg8.IsWhole) (arg9 : Memref sig .tc .vmem S8x768 .f32) (harg9 : arg9.IsWhole) (arg10 : Memref sig .tc .vmem S9x768 .f32) (harg10 : arg10.IsWhole) (arg11 : Memref sig .tc .vmem S9x768 .f32) (harg11 : arg11.IsWhole) (arg12 : Memref sig .tc .vmem S256x768 .f32) (harg12 : arg12.IsWhole) (arg13 : Memref sig .tc .vmem S256x768 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768 .f32) (harg18 : arg18.IsWhole) (arg19 : Memref sig .tc .vmem S1x768 .f32) (harg19 : arg19.IsWhole) (arg20 : Memref sig .tc .vmem S1x768 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x1 .f32) (harg23 : arg23.IsWhole) (arg24 : Memref sig .tc .vmem S1x1 .f32) (harg24 : arg24.IsWhole) (arg25 : Memref sig .tc .vmem S1x768 .f32) (harg25 : arg25.IsWhole) (arg26 : Memref sig .tc .vmem S512x768 .f32) (harg26 : arg26.IsWhole) (arg27 : Memref sig .tc .vmem S512x768 .f32) (harg27 : arg27.IsWhole) (arg28 : Memref sig .tc .vmem S512x1 .f32) (harg28 : arg28.IsWhole)
    (x0 : Vec F S512x8 .f32) (x1 : Vec F S1x1 .f32) (x2 : Vec F S1x256 .f32) (x3 : Vec F S1x256 .f32) (x4 : Vec F S1x1 .f32) (x5 : Vec F S1x1 .f32) (x6 : Vec F S1x1 .f32) (x7 : Vec F S2000x2 .f32) (x8 : Vec F S2000x1 .f32) (x9 : Vec F S8x768 .f32) (x10 : Vec F S9x768 .f32) (x11 : Vec F S9x768 .f32) (x12 : Vec F S256x768 .f32) (x13 : Vec F S256x768 .f32) (x14 : Vec F S256x768 .f32) (x15 : Vec F S1x768 .f32) (x16 : Vec F S1x768 .f32) (x17 : Vec F S1x768 .f32) (x18 : Vec F S1x768 .f32) (x19 : Vec F S1x768 .f32) (x20 : Vec F S1x768 .f32) (E : Set ℕ) (K : PUnit → sProp 𝕄) :
    iprop((arg0.view.loc (c : Thread nD τ) ↦[arg0.view.set]{fullShare} (harg0.unread x0)) ∗ (arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} (harg13.unread x13)) ∗ (arg14.view.loc (c : Thread nD τ) ↦[arg14.view.set]{fullShare} (harg14.unread x14)) ∗ (arg15.view.loc (c : Thread nD τ) ↦[arg15.view.set]{fullShare} (harg15.unread x15)) ∗ (arg16.view.loc (c : Thread nD τ) ↦[arg16.view.set]{fullShare} (harg16.unread x16)) ∗ (arg17.view.loc (c : Thread nD τ) ↦[arg17.view.set]{fullShare} (harg17.unread x17)) ∗ (arg18.view.loc (c : Thread nD τ) ↦[arg18.view.set]{fullShare} (harg18.unread x18)) ∗ (arg19.view.loc (c : Thread nD τ) ↦[arg19.view.set]{fullShare} (harg19.unread x19)) ∗ (arg20.view.loc (c : Thread nD τ) ↦[arg20.view.set]{fullShare} (harg20.unread x20)) ∗ (∃ d, (arg21.view.loc (c : Thread nD τ) ↦[arg21.view.set]{fullShare} d)) ∗ (∃ d, (arg22.view.loc (c : Thread nD τ) ↦[arg22.view.set]{fullShare} d)) ∗ (∃ d, (arg23.view.loc (c : Thread nD τ) ↦[arg23.view.set]{fullShare} d)) ∗ (∃ d, (arg24.view.loc (c : Thread nD τ) ↦[arg24.view.set]{fullShare} d)) ∗ (∃ d, (arg25.view.loc (c : Thread nD τ) ↦[arg25.view.set]{fullShare} d)) ∗ (∃ d, (arg26.view.loc (c : Thread nD τ) ↦[arg26.view.set]{fullShare} d)) ∗ (∃ d, (arg27.view.loc (c : Thread nD τ) ↦[arg27.view.set]{fullShare} d)) ∗ (∃ d, (arg28.view.loc (c : Thread nD τ) ↦[arg28.view.set]{fullShare} d)) ∗ (((arg0.view.loc (c : Thread nD τ) ↦[arg0.view.set]{fullShare} (harg0.unread x0)) ∗ (arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} (harg13.unread x13)) ∗ (arg14.view.loc (c : Thread nD τ) ↦[arg14.view.set]{fullShare} (harg14.unread x14)) ∗ (arg15.view.loc (c : Thread nD τ) ↦[arg15.view.set]{fullShare} (harg15.unread x15)) ∗ (arg16.view.loc (c : Thread nD τ) ↦[arg16.view.set]{fullShare} (harg16.unread x16)) ∗ (arg17.view.loc (c : Thread nD τ) ↦[arg17.view.set]{fullShare} (harg17.unread x17)) ∗ (arg18.view.loc (c : Thread nD τ) ↦[arg18.view.set]{fullShare} (harg18.unread x18)) ∗ (arg19.view.loc (c : Thread nD τ) ↦[arg19.view.set]{fullShare} (harg19.unread x19)) ∗ (arg20.view.loc (c : Thread nD τ) ↦[arg20.view.set]{fullShare} (harg20.unread x20)) ∗ owns (c : Thread nD τ) arg21 fullShare (hV x0 x1 x2 x3 x4 x5 x6 x7 x8 x9 x10 x11 x12 x13 x14 x15 x16 x17 x18 x19 x20) ∗ owns (c : Thread nD τ) arg22 fullShare (phV x0 x1 x2 x3 x4 x5 x6 x7 x8 x9 x10 x11 x12 x13 x14 x15 x16 x17 x18 x19 x20) ∗ owns (c : Thread nD τ) arg23 fullShare (qV x0 x1 x2 x3 x4 x5 x6 x7 x8 x9 x10 x11 x12 x13 x14 x15 x16 x17 x18 x19 x20) ∗ owns (c : Thread nD τ) arg24 fullShare (aV x0 x1 x2 x3 x4 x5 x6 x7 x8 x9 x10 x11 x12 x13 x14 x15 x16 x17 x18 x19 x20) ∗ owns (c : Thread nD τ) arg25 fullShare (mV x0 x1 x2 x3 x4 x5 x6 x7 x8 x9 x10 x11 x12 x13 x14 x15 x16 x17 x18 x19 x20) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0__seq_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨H0, H1, H2, H3, H4, H5, H6, H7, H8, H9, H10, H11, H12, H13, H14, H15, H16, H17, H18, H19, H20, ⟨%f21, H21⟩, ⟨%f22, H22⟩, ⟨%f23, H23⟩, ⟨%f24, H24⟩, ⟨%f25, H25⟩, ⟨%f26, H26⟩, ⟨%f27, H27⟩, ⟨%f28, H28⟩, Hk⟩
  simp only [cc0__seq_kernel_eq_skeleton]; unfold cc0__seq_kernel_skel
  simp only [k0_part1_eq_skeleton, k0_part2_eq_skeleton, k0_part3_eq_skeleton, k0_part4_eq_skeleton]
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro
    refine (readFull _ _ zero2 _ _).trans ?_
    sl_unfold_words
    unfold hV
    simp only [st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _)]
    simp only [readFull (S := S512x768) _ _ zero2, readFull (S := S512x1) _ _ zero2, View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x1) zero2, View.ld_unit_zero (S := S1x256) zero2, View.ld_unit_zero (S := S1x768) zero2, View.ld_unit_zero (S := S2000x1) zero2, View.ld_unit_zero (S := S256x768) zero2, View.ld_unit_zero (S := S512x8) zero2, View.ld_unit_zero (S := S8x768) zero2, View.ld_unit_zero (S := S9x768) zero2, shapeCast_self]
    (try rfl)
  isplitl [H22]
  · unfold owns; iexists _; isplitr
    swap; · iexact H22
    ipureintro
    refine (readFull _ _ zero2 _ _).trans ?_
    sl_unfold_words
    unfold phV

    simp only [readFull (S := S512x768) _ _ zero2, readFull (S := S512x1) _ _ zero2, View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x1) zero2, View.ld_unit_zero (S := S1x256) zero2, View.ld_unit_zero (S := S1x768) zero2, View.ld_unit_zero (S := S2000x1) zero2, View.ld_unit_zero (S := S256x768) zero2, View.ld_unit_zero (S := S512x8) zero2, View.ld_unit_zero (S := S8x768) zero2, View.ld_unit_zero (S := S9x768) zero2, shapeCast_self]
    (try rfl)
  isplitl [H23]
  · unfold owns; iexists _; isplitr
    swap; · iexact H23
    ipureintro
    refine (readFull _ _ zero2 _ _).trans ?_
    sl_unfold_words
    unfold qV hV
    simp only [st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _)]
    simp only [readFull (S := S512x768) _ _ zero2, readFull (S := S512x1) _ _ zero2, View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x1) zero2, View.ld_unit_zero (S := S1x256) zero2, View.ld_unit_zero (S := S1x768) zero2, View.ld_unit_zero (S := S2000x1) zero2, View.ld_unit_zero (S := S256x768) zero2, View.ld_unit_zero (S := S512x8) zero2, View.ld_unit_zero (S := S8x768) zero2, View.ld_unit_zero (S := S9x768) zero2, shapeCast_self]
    (try rfl)
  isplitl [H24]
  · unfold owns; iexists _; isplitr
    swap; · iexact H24
    ipureintro
    refine (readFull _ _ zero2 _ _).trans ?_
    sl_unfold_words
    unfold aV hV
    simp only [st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _)]
    simp only [readFull (S := S512x768) _ _ zero2, readFull (S := S512x1) _ _ zero2, View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x1) zero2, View.ld_unit_zero (S := S1x256) zero2, View.ld_unit_zero (S := S1x768) zero2, View.ld_unit_zero (S := S2000x1) zero2, View.ld_unit_zero (S := S256x768) zero2, View.ld_unit_zero (S := S512x8) zero2, View.ld_unit_zero (S := S8x768) zero2, View.ld_unit_zero (S := S9x768) zero2, shapeCast_self]
    (try rfl)
  isplitl [H25]
  · unfold owns; iexists _; isplitr
    swap; · iexact H25
    ipureintro
    refine (readFull _ _ zero2 _ _).trans ?_
    sl_unfold_words
    unfold mV hV
    simp only [st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _)]
    simp only [readFull (S := S512x768) _ _ zero2, readFull (S := S512x1) _ _ zero2, View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x1) zero2, View.ld_unit_zero (S := S1x256) zero2, View.ld_unit_zero (S := S1x768) zero2, View.ld_unit_zero (S := S2000x1) zero2, View.ld_unit_zero (S := S256x768) zero2, View.ld_unit_zero (S := S512x8) zero2, View.ld_unit_zero (S := S8x768) zero2, View.ld_unit_zero (S := S9x768) zero2, shapeCast_self]
    (try rfl)
  isplitl [H26]
  · unfold owns; iexists _, _; isplitr; swap; · iexact H26
    ipureintro; rfl
  isplitl [H27]
  · unfold owns; iexists _, _; isplitr; swap; · iexact H27
    ipureintro; rfl
  unfold owns; iexists _, _; isplitr; swap; · iexact H28
  ipureintro; rfl

end Cert.KernelIdeal.Seq
-- ==== Proof.Seq.FrameKernelIdeal.lean ====
/-
  The recurrent call's launch: the proof data of its one pipeline (every operand's block as the region finds it, every output
  at its named value over the operand blocks), the body obligation from the body's triple, the run of @main, and the frame.
-/
module

public import proofs.«01_k».proof.Proof.Seq.RunKernelIdeal
public import Idealize.ShloMosaic.Lib.Claim

@[expose] public section

set_option maxRecDepth 16384

noncomputable section

namespace Cert.KernelIdeal.Seq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What window 21's buffer holds after the body at point `t`. -/
def outAt21 (c : Dev nD) (t : Fin cfg0.N) : Vec F S1x256 .f32 :=
  hV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- What window 22's buffer holds after the body at point `t`. -/
def outAt22 (c : Dev nD) (t : Fin cfg0.N) : Vec F S1x256 .f32 :=
  phV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- What window 23's buffer holds after the body at point `t`. -/
def outAt23 (c : Dev nD) (t : Fin cfg0.N) : Vec F S1x1 .f32 :=
  qV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- What window 24's buffer holds after the body at point `t`. -/
def outAt24 (c : Dev nD) (t : Fin cfg0.N) : Vec F S1x1 .f32 :=
  aV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- What window 25's buffer holds after the body at point `t`. -/
def outAt25 (c : Dev nD) (t : Fin cfg0.N) : Vec F S1x768 .f32 :=
  mV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => outAt21 m c t
    | ⟨22, _⟩ => outAt22 m c t
    | ⟨23, _⟩ => outAt23 m c t
    | ⟨24, _⟩ => outAt24 m c t
    | ⟨25, _⟩ => outAt25 m c t
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = outAt21 m c t := by dsimp only [dats]
theorem after0_22 (c : Dev nD) (t : Fin cfg0.N) : (dats m 0 c).after 22 t = outAt22 m c t := by dsimp only [dats]
theorem after0_23 (c : Dev nD) (t : Fin cfg0.N) : (dats m 0 c).after 23 t = outAt23 m c t := by dsimp only [dats]
theorem after0_24 (c : Dev nD) (t : Fin cfg0.N) : (dats m 0 c).after 24 t = outAt24 m c t := by dsimp only [dats]
theorem after0_25 (c : Dev nD) (t : Fin cfg0.N) : (dats m 0 c).after 25 t = outAt25 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 1600000 in
/-- The body at any point: the inputs' memrefs hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outAt21 outAt22 outAt23 outAt24 outAt25
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (seqRun c _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) Set.univ _)
  isplitl [H0]; · iapply (owns_open c _ _ _); iexact H0
  isplitl [H1]; · iapply (owns_open c _ _ _); iexact H1
  isplitl [H2]; · iapply (owns_open c _ _ _); iexact H2
  isplitl [H3]; · iapply (owns_open c _ _ _); iexact H3
  isplitl [H4]; · iapply (owns_open c _ _ _); iexact H4
  isplitl [H5]; · iapply (owns_open c _ _ _); iexact H5
  isplitl [H6]; · iapply (owns_open c _ _ _); iexact H6
  isplitl [H7]; · iapply (owns_open c _ _ _); iexact H7
  isplitl [H8]; · iapply (owns_open c _ _ _); iexact H8
  isplitl [H9]; · iapply (owns_open c _ _ _); iexact H9
  isplitl [H10]; · iapply (owns_open c _ _ _); iexact H10
  isplitl [H11]; · iapply (owns_open c _ _ _); iexact H11
  isplitl [H12]; · iapply (owns_open c _ _ _); iexact H12
  isplitl [H13]; · iapply (owns_open c _ _ _); iexact H13
  isplitl [H14]; · iapply (owns_open c _ _ _); iexact H14
  isplitl [H15]; · iapply (owns_open c _ _ _); iexact H15
  isplitl [H16]; · iapply (owns_open c _ _ _); iexact H16
  isplitl [H17]; · iapply (owns_open c _ _ _); iexact H17
  isplitl [H18]; · iapply (owns_open c _ _ _); iexact H18
  isplitl [H19]; · iapply (owns_open c _ _ _); iexact H19
  isplitl [H20]; · iapply (owns_open c _ _ _); iexact H20
  isplitl [H21]; · iapply (owns_any c _); iexists _; iexact H21
  isplitl [H22]; · iapply (owns_any c _); iexists _; iexact H22
  isplitl [H23]; · iapply (owns_any c _); iexists _; iexact H23
  isplitl [H24]; · iapply (owns_any c _); iexists _; iexact H24
  isplitl [H25]; · iapply (owns_any c _); iexists _; iexact H25
  isplitl [HS0]; · iapply (owns_any c _); iexact HS0
  isplitl [HS1]; · iapply (owns_any c _); iexact HS1
  isplitl [HS2]; · iapply (owns_any c _); iexact HS2
  iintro ⟨H0, H1, H2, H3, H4, H5, H6, H7, H8, H9, H10, H11, H12, H13, H14, H15, H16, H17, H18, H19, H20, H21, H22, H23, H24, H25, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iapply (owns_close c _ _ _); iexact H0
  isplitl [H1]; · iapply (owns_close c _ _ _); iexact H1
  isplitl [H2]; · iapply (owns_close c _ _ _); iexact H2
  isplitl [H3]; · iapply (owns_close c _ _ _); iexact H3
  isplitl [H4]; · iapply (owns_close c _ _ _); iexact H4
  isplitl [H5]; · iapply (owns_close c _ _ _); iexact H5
  isplitl [H6]; · iapply (owns_close c _ _ _); iexact H6
  isplitl [H7]; · iapply (owns_close c _ _ _); iexact H7
  isplitl [H8]; · iapply (owns_close c _ _ _); iexact H8
  isplitl [H9]; · iapply (owns_close c _ _ _); iexact H9
  isplitl [H10]; · iapply (owns_close c _ _ _); iexact H10
  isplitl [H11]; · iapply (owns_close c _ _ _); iexact H11
  isplitl [H12]; · iapply (owns_close c _ _ _); iexact H12
  isplitl [H13]; · iapply (owns_close c _ _ _); iexact H13
  isplitl [H14]; · iapply (owns_close c _ _ _); iexact H14
  isplitl [H15]; · iapply (owns_close c _ _ _); iexact H15
  isplitl [H16]; · iapply (owns_close c _ _ _); iexact H16
  isplitl [H17]; · iapply (owns_close c _ _ _); iexact H17
  isplitl [H18]; · iapply (owns_close c _ _ _); iexact H18
  isplitl [H19]; · iapply (owns_close c _ _ _); iexact H19
  isplitl [H20]; · iapply (owns_close c _ _ _); iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.KernelIdeal.Seq

end
-- ==== Proof.Seq.Spec.lean ====
/-
  The recurrent call's mathematics over plain indices: one gated step, the row-equality test that chooses between the two
  cells, and the state before each row.
-/
module

public import Idealize.ShloMosaic.Lib.Pipeline.ValueKit

@[expose] public section

noncomputable section

namespace Cert.Seq

open Idealize.ShloMosaic

/-- A gated recurrent cell of an input row `gi` and a hidden row `gh`: reset, update and candidate thirds. -/
def gru (gi gh : Fin 768 → EReal) (h : Fin 256 → EReal) (j : Fin 256) : EReal :=
  (1 - Ideal.logistic (gi ⟨256 + j, by omega⟩ + gh ⟨256 + j, by omega⟩)) *
      Ideal.tanh (gi ⟨512 + j, by omega⟩ +
        Ideal.logistic (gi ⟨j, by omega⟩ + gh ⟨j, by omega⟩) * gh ⟨512 + j, by omega⟩) +
    Ideal.logistic (gi ⟨256 + j, by omega⟩ + gh ⟨256 + j, by omega⟩) * h j

/-- The input row of the first cell at row `k`. -/
def gi1 (x : Fin 512 → Fin 8 → EReal) (w : Fin 768 → Fin 8 → EReal) (b : Fin 768 → EReal) (k : Fin 512) (q : Fin 768) :
    EReal := ∑ c, x k c * w q c + b q

/-- The input row of the cells that also read the user. -/
def gi2 (x : Fin 512 → Fin 8 → EReal) (u : EReal) (w : Fin 768 → Fin 9 → EReal) (b : Fin 768 → EReal) (k : Fin 512)
    (q : Fin 768) : EReal :=
  ∑ _c : Fin 1, u * w q 0 + ∑ c : Fin 8, x k c * w q ⟨1 + c, by omega⟩ + b q

/-- The hidden row of a cell. -/
def gh (h : Fin 256 → EReal) (w : Fin 768 → Fin 256 → EReal) (b : Fin 768 → EReal) (q : Fin 768) : EReal :=
  ∑ c, h c * w q c + b q

/-- Row `k` repeats the row before it in its first six places, or is the first row. -/
def Same (x : Fin 512 → Fin 8 → EReal) (k : Fin 512) : Prop :=
  k.val = 0 ∨ ∀ i : Fin 6, x k ⟨i, by omega⟩ = x ⟨k - 1, by omega⟩ ⟨i, by omega⟩

open Classical in
/-- The state before row `k`. -/
def hid (x : Fin 512 → Fin 8 → EReal) (u : EReal) (wi1 : Fin 768 → Fin 8 → EReal) (wh1 : Fin 768 → Fin 256 → EReal)
    (bi1 bh1 : Fin 768 → EReal) (wi2 : Fin 768 → Fin 9 → EReal) (wh2 : Fin 768 → Fin 256 → EReal) (bi2 bh2 : Fin 768 → EReal)
    (h0 : Fin 256 → EReal) : ℕ → Fin 256 → EReal
  | 0 => h0
  | k + 1 => fun j => if hk : k < 512 then
      if Same x ⟨k, hk⟩ then
        gru (gi1 x wi1 bi1 ⟨k, hk⟩) (gh (hid x u wi1 wh1 bi1 bh1 wi2 wh2 bi2 bh2 h0 k) wh1 bh1)
          (hid x u wi1 wh1 bi1 bh1 wi2 wh2 bi2 bh2 h0 k) j
      else
        gru (gi2 x u wi2 bi2 ⟨k, hk⟩) (gh (hid x u wi1 wh1 bi1 bh1 wi2 wh2 bi2 bh2 h0 k) wh2 bh2)
          (hid x u wi1 wh1 bi1 bh1 wi2 wh2 bi2 bh2 h0 k) j
    else hid x u wi1 wh1 bi1 bh1 wi2 wh2 bi2 bh2 h0 k j

theorem half_f32 : Ideal.ofBits .f32 0x3F000000#32 = ((1 / 2 : ℝ) : EReal) := by
  simp [Ideal.ofBits, Ideal.ieee, -EReal.coe_mul]
  norm_num

theorem infinity_f32 : Ideal.ofBits .f32 0x7F800000#32 = ⊤ := by
  simp [Ideal.ofBits, Ideal.ieee]

theorem half_lt_one : ((1 / 2 : ℝ) : EReal) < 1 := by
  rw [show (1 : EReal) = ((1 : ℝ) : EReal) from rfl, EReal.coe_lt_coe_iff]; norm_num

/-- A truth value as a number is above one half exactly when it holds. -/
theorem half_lt_truth (p : Prop) [Decidable p] :
    ((1 / 2 : ℝ) : EReal) < FloatOps.sitofp (F := Ideal) .f32 (BitVec.setWidth 32 (BitVec.ofBool (decide p))) ↔ p := by
  have e : FloatOps.sitofp (F := Ideal) .f32 (BitVec.setWidth 32 (BitVec.ofBool (decide p)))
      = (((BitVec.setWidth 32 (BitVec.ofBool (decide p))).toInt : ℝ) : EReal) := rfl
  rw [e, EReal.coe_lt_coe_iff]
  by_cases h : p
  · simp [h]; norm_num
  · simp [h]

theorem word_zero_iff (k : ℕ) (hk : k < 512) : (BitVec.ofNat 32 k = 0#32) ↔ k = 0 := by
  constructor
  · intro h
    have := congrArg BitVec.toNat h
    simp at this
    omega
  · rintro rfl; rfl

/-- The kernel's test: the first row counts as a repeat, a later row when the least of its six comparisons is above one half. -/
theorem kernel_test (k : ℕ) (hk : k < 512) (p : Fin 6 → Prop) [∀ i, Decidable (p i)] :
    ((1 / 2 : ℝ) : EReal) < Scalar.select (IntOp.cmpi .eq (BitVec.ofNat 32 k) 0#32) (1 : EReal)
      (Finset.fold min ⊤ (fun i => (FloatOps.sitofp (F := Ideal) .f32 (BitVec.setWidth 32 (BitVec.ofBool (decide (p i)))) : EReal)) Finset.univ)
    ↔ (k = 0 ∨ ∀ i, p i) := by
  by_cases h : k = 0
  · subst h
    simp only [true_or, iff_true]
    exact half_lt_one
  · have hc : IntOp.cmpi .eq (BitVec.ofNat 32 k) 0#32 = 0#1 := by
      have : (BitVec.ofNat 32 k == 0#32) = false := beq_eq_false_iff_ne.2 fun e => h ((word_zero_iff k hk).1 e)
      simp [IntOp.cmpi, this]
    rw [hc, show ∀ a b : EReal, Scalar.select 0#1 a b = b from fun _ _ => rfl, Finset.lt_fold_min]
    simp only [h, false_or, Finset.mem_univ, true_implies, half_lt_truth]
    exact and_iff_right (EReal.coe_lt_top _)

theorem and_bit (q r : Prop) [Decidable q] [Decidable r] :
    IntOp.andi (BitVec.ofBool (decide q)) (BitVec.ofBool (decide r)) = BitVec.ofBool (decide (q ∧ r)) := by
  by_cases h1 : q <;> by_cases h2 : r <;> simp [IntOp.andi, h1, h2]

open Classical in
theorem fold_and {ι : Type} [DecidableEq ι] (s : Finset ι) (p : ι → Prop) [∀ i, Decidable (p i)] :
    Finset.fold IntOp.andi (1#1) (fun i => BitVec.ofBool (decide (p i))) s = BitVec.ofBool (decide (∀ i ∈ s, p i)) := by
  induction s using Finset.induction_on with
  | empty => simp
  | insert a s ha ih =>
    rw [Finset.fold_insert ha, ih, and_bit]
    simp only [Finset.forall_mem_insert]

/-- The reference's test: the row number is zero, or all six comparisons hold. -/
theorem reference_test {α : Type} (k : ℕ) (hk : k < 512) (p : Fin 6 → Bool) (a b : α) :
    Scalar.select (IntOp.ori (IntOp.cmpi .eq (BitVec.ofNat 32 k) 0#32)
      (Finset.fold IntOp.andi (1#1) (fun i => BitVec.ofBool (p i)) Finset.univ)) a b
    = if k = 0 ∨ ∀ i, p i = true then a else b := by
  have e : (fun i => BitVec.ofBool (p i)) = fun i => BitVec.ofBool (decide (p i = true)) := by
    funext i; cases p i <;> rfl
  rw [e, fold_and]
  by_cases h : k = 0
  · subst h
    by_cases h2 : ∀ i, p i = true <;> simp [h2, IntOp.cmpi, IntOp.ori, Scalar.select, select]
  · have : (BitVec.ofNat 32 k == 0#32) = false := beq_eq_false_iff_ne.2 fun e => h ((word_zero_iff k hk).1 e)
    by_cases h2 : ∀ i, p i = true <;> simp [h, h2, this, IntOp.cmpi, IntOp.ori, Scalar.select, select]

/-- The exponential of two states' agreement. -/
def agree (h p : Fin 256 → EReal) : EReal :=
  Ideal.exp (Ideal.div (∑ j : Fin 256, h j * p j) (Ideal.ofBits .f32 0x43800000#32))

/-- The first running sum after a step. -/
def sumS (q g : EReal) : EReal := q + g

/-- The second running sum after a step. -/
def ratioS (a q g : EReal) : EReal := a + Ideal.div g (sumS q g)

end Cert.Seq
-- ==== Proof.Seq.StepKernel.lean ====
/-
  The recurrent call's loop state over plain indices.
-/
module

public import proofs.«01_k».proof.Proof.Seq.RunKernelIdeal
public import proofs.«01_k».proof.Proof.Seq.Spec

@[expose] public section

set_option maxRecDepth 16384

noncomputable section

namespace Cert.KernelIdeal.Seq

open Cert.KernelIdeal Cert.KernelIdeal.Gen Idealize.ShloMosaic Idealize.ShloMosaic.TcCoe Cert.Seq

theorem trips_eq : k0_t1_loop.trips = 512 := by decide +kernel

theorem test_at (x : Vec Ideal S512x8 .f32) (k : Fin 512) :
    (Ideal.ofBits .f32 0x3F000000#32 < k0_pay2 (F := Ideal) x (ix2 k 0)) ↔ Same (fun a b => x (ix2 a b)) k := by
  pointwise [k0_pay2]
  rw [half_f32, infinity_f32]
  refine (kernel_test k.val k.isLt _).trans (or_congr_right' fun hk => forall_congr' fun i => ?_)
  have hk' : ¬ k.val < 1 := by omega
  simp only [dif_neg hk']

/-- The chosen input row of the scratch buffer. -/
theorem pay3_at (x : Vec Ideal S512x8 .f32) (u : Vec Ideal S1x1 .f32) (w1 : Vec Ideal S8x768 .f32) (b1 : Vec Ideal S1x768 .f32)
    (w2 : Vec Ideal S9x768 .f32) (b2 : Vec Ideal S1x768 .f32) (k : Fin 512) (q : Fin 768) [Decidable (Same (fun a b => x (ix2 a b)) k)] :
    k0_pay4 (F := Ideal) (k0_pay3 x u w1 b1 w2 b2) (ix2 k q) =
      if Same (fun a b => x (ix2 a b)) k then
        gi1 (fun a b => x (ix2 a b)) (fun a b => w1 (ix2 b a)) (fun a => b1 (ix2 0 a)) k q
      else gi2 (fun a b => x (ix2 a b)) (u (ix2 0 0)) (fun a b => w2 (ix2 b a)) (fun a => b2 (ix2 0 a)) k q := by
  pointwise [k0_pay4, k0_pay3]
  simp only [test_at]
  rfl

/-- The chosen bias row of the scratch buffer. -/
theorem pay5_at (x : Vec Ideal S512x8 .f32) (b1 b2 : Vec Ideal S1x768 .f32)
    (k : Fin 512) (q : Fin 768) [Decidable (Same (fun a b => x (ix2 a b)) k)] :
    k0_pay5 (F := Ideal) (k0_pay2 x) b1 b2 (ix2 k q) =
      if Same (fun a b => x (ix2 a b)) k then b1 (ix2 0 q) else b2 (ix2 0 q) := by
  pointwise [k0_pay5]
  simp only [test_at]

theorem row_at (G : Vec Ideal S512x768 .f32) (k : ℕ) (hk : k < k0_t1_loop.trips) (hk' : k < 512) (q : Fin 768) :
    View.ld G (Rect.unit (s := S512x768) (k0_off1 ⟨k, hk⟩) S1x768.size (k0_off1_inb ⟨k, hk⟩)) (ix2 0 q) = G (ix2 ⟨k, hk'⟩ q) := by
  refine View.ld_unit_apply_of _ _ _ _ _ _ fun a => ?_
  refine Eq.trans ?_ (congrArg (· + _) (congrFun (k0_off1_eq ⟨k, hk⟩) a).symm)
  fin_cases a
  · exact (Nat.add_zero k).symm
  · exact (Nat.zero_add _).symm

theorem flag_at (s : Vec Ideal S512x1 .f32) (k : ℕ) (hk : k < k0_t1_loop.trips) (hk' : k < 512) :
    View.ld s (Rect.unit (s := S512x1) (k0_off2 ⟨k, hk⟩) S1x1.size (k0_off2_inb ⟨k, hk⟩)) (ix2 0 0) = s (ix2 ⟨k, hk'⟩ 0) := by
  refine View.ld_unit_apply_of _ _ _ _ _ _ fun a => ?_
  refine Eq.trans ?_ (congrArg (· + _) (congrFun (k0_off2_eq ⟨k, hk⟩) a).symm)
  fin_cases a
  · exact (Nat.add_zero k).symm
  · exact (Nat.zero_add _).symm

theorem pay6_at (s : Vec Ideal S512x1 .f32) (k : Fin 512) : k0_pay6 (F := Ideal) s (ix2 k 0) = s (ix2 k 0) := by
  pointwise [k0_pay6]

/-- One step of the loop, from a chosen input row, a chosen bias row and the test. -/
theorem pay7_at (w1 w2 : Vec Ideal S256x768 .f32) (h : Vec Ideal S1x256 .f32) (g b : Vec Ideal S1x768 .f32) (s : Vec Ideal S1x1 .f32)
    (j : Fin 256) :
    k0_pay7 (F := Ideal) w1 w2 h g b s (ix2 0 j) = gru (fun q => g (ix2 0 q))
      (fun q => (if Ideal.ofBits .f32 0x3F000000#32 < s (ix2 0 0) then ∑ c, h (ix2 0 c) * w1 (ix2 c q) else ∑ c, h (ix2 0 c) * w2 (ix2 c q)) + b (ix2 0 q))
      (fun q => h (ix2 0 q)) j := by
  pointwise [k0_pay7]
  rfl

/-- One step of the loop is one gated step of the chosen cell. -/
theorem step_at (w1 w2 : Vec Ideal S256x768 .f32) (h : Vec Ideal S1x256 .f32) (g b : Vec Ideal S1x768 .f32) (s : Vec Ideal S1x1 .f32)
    (p : Prop) [Decidable p] (g1 g2 b1 b2 : Fin 768 → EReal) (h' : Fin 256 → EReal)
    (hs : Ideal.ofBits .f32 0x3F000000#32 < s (ix2 0 0) ↔ p)
    (hg : ∀ q, g (ix2 0 q) = if p then g1 q else g2 q) (hb : ∀ q, b (ix2 0 q) = if p then b1 q else b2 q)
    (hh : ∀ q, h (ix2 0 q) = h' q) (j : Fin 256) :
    k0_pay7 (F := Ideal) w1 w2 h g b s (ix2 0 j) =
      if p then gru g1 (gh h' (fun a b => w1 (ix2 b a)) b1) h' j else gru g2 (gh h' (fun a b => w2 (ix2 b a)) b2) h' j := by
  rw [pay7_at]
  simp only [hs, hg, hb, hh]
  by_cases hp : p
  · simp only [if_pos hp]; rfl
  · simp only [if_neg hp]; rfl

/-- The loop's state is the plain recurrence. -/
theorem hst_at (x : Vec Ideal S512x8 .f32) (u : Vec Ideal S1x1 .f32) (w1 : Vec Ideal S8x768 .f32) (b1 : Vec Ideal S1x768 .f32)
    (w2 : Vec Ideal S9x768 .f32) (b2 : Vec Ideal S1x768 .f32) (c1 c2 : Vec Ideal S1x768 .f32) (v1 v2 : Vec Ideal S256x768 .f32)
    (h0 : Vec Ideal S1x256 .f32) (k : ℕ) (j : Fin 256) :
    hst (k0_pay4 (k0_pay3 x u w1 b1 w2 b2)) (k0_pay5 (k0_pay2 x) c1 c2) (k0_pay6 (k0_pay2 x)) v1 v2 h0 k (ix2 0 j)
      = hid (fun a b => x (ix2 a b)) (u (ix2 0 0)) (fun a b => w1 (ix2 b a)) (fun a b => v1 (ix2 b a)) (fun a => b1 (ix2 0 a))
          (fun a => c1 (ix2 0 a)) (fun a b => w2 (ix2 b a)) (fun a b => v2 (ix2 b a)) (fun a => b2 (ix2 0 a)) (fun a => c2 (ix2 0 a))
          (fun a => h0 (ix2 0 a)) k j := by
  classical
  induction k generalizing j with
  | zero => rfl
  | succ k ih =>
    by_cases hk : k < 512
    · have hk1 : k < k0_t1_loop.trips := by rw [trips_eq]; exact hk
      simp only [hst, hid, dif_pos hk, dif_pos hk1]
      exact step_at v1 v2 _ _ _ _ (Same (fun a b => x (ix2 a b)) ⟨k, hk⟩) _ _ _ _ _
        ((iff_of_eq (congrArg _ ((flag_at _ k hk1 hk).trans (pay6_at _ ⟨k, hk⟩)))).trans (test_at x ⟨k, hk⟩))
        (fun q => (row_at _ k hk1 hk q).trans (pay3_at x u w1 b1 w2 b2 ⟨k, hk⟩ q))
        (fun q => (row_at _ k hk1 hk q).trans (pay5_at x c1 c2 ⟨k, hk⟩ q)) ih j
    · have hk1 : ¬ k < k0_t1_loop.trips := by rw [trips_eq]; exact hk
      simp only [hst, hid, dif_neg hk, dif_neg hk1]
      exact ih j

end Cert.KernelIdeal.Seq
-- ==== Proof.Seq.Value.lean ====
/-
  The operand blocks and the results of the recurrent call, over the launch's arguments.
-/
module

public import proofs.«01_k».proof.Proof.Seq.FrameKernelIdeal
public import proofs.«01_k».proof.Proof.Seq.StepKernel

@[expose] public section

set_option maxRecDepth 16384

noncomputable section

namespace Cert.KernelIdeal.Seq

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window's block is its whole array. -/
theorem idxA : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0])

/-- Every prepared operand's block is its whole array. -/
theorem idxB : ∀ t : Fin cfg0.N, win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, win0_9.index t = ![0, 0] ∧ win0_10.index t = ![0, 0] ∧ win0_11.index t = ![0, 0] ∧ win0_12.index t = ![0, 0] ∧ win0_13.index t = ![0, 0] ∧ win0_14.index t = ![0, 0])

/-- Every prepared bias's block is its whole array. -/
theorem idxC : ∀ t : Fin cfg0.N, win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, win0_15.index t = ![0, 0] ∧ win0_16.index t = ![0, 0] ∧ win0_17.index t = ![0, 0] ∧ win0_18.index t = ![0, 0] ∧ win0_19.index t = ![0, 0] ∧ win0_20.index t = ![0, 0])

theorem iblk0 (c : Dev nD) : iblk m c 0 t0_0 = m ((c : Thread nD τ).loc main_arg0) := by blk_ext! [iblk, V, idxA t0_0]
theorem iblk1 (c : Dev nD) : iblk m c 1 t0_0 = m ((c : Thread nD τ).loc main_arg2) := by blk_ext! [iblk, V, idxA t0_0]
theorem iblk2 (c : Dev nD) : iblk m c 2 t0_0 = m ((c : Thread nD τ).loc main_arg1) := by blk_ext! [iblk, V, idxA t0_0]
theorem iblk3 (c : Dev nD) : iblk m c 3 t0_0 = m ((c : Thread nD τ).loc main_arg3) := by blk_ext! [iblk, V, idxA t0_0]
theorem iblk4 (c : Dev nD) : iblk m c 4 t0_0 = m ((c : Thread nD τ).loc main_arg4) := by blk_ext! [iblk, V, idxA t0_0]
theorem iblk5 (c : Dev nD) : iblk m c 5 t0_0 = m ((c : Thread nD τ).loc main_arg5) := by blk_ext! [iblk, V, idxA t0_0]
theorem iblk6 (c : Dev nD) : iblk m c 6 t0_0 = m ((c : Thread nD τ).loc main_arg8) := by blk_ext! [iblk, V, idxA t0_0]
theorem iblk7 (c : Dev nD) : iblk m c 7 t0_0 = m ((c : Thread nD τ).loc main_arg6) := by blk_ext! [iblk, V, idxA t0_0]
theorem iblk9 (c : Dev nD) (a : Fin 8) (b : Fin 768) : iblk m c 9 t0_0 (ix2 a b) = m ((c : Thread nD τ).loc main_arg9) (ix2 b a) := by
  blk_simp [iblk]
  entry_read
  pointwise
  blk_ext! [idxA t0_0, idxB t0_0, idxC t0_0]
theorem iblk10 (c : Dev nD) (a : Fin 9) (b : Fin 768) : iblk m c 10 t0_0 (ix2 a b) = m ((c : Thread nD τ).loc main_arg13) (ix2 b a) := by
  blk_simp [iblk]
  entry_read
  pointwise
  blk_ext! [idxA t0_0, idxB t0_0, idxC t0_0]
theorem iblk11 (c : Dev nD) (a : Fin 9) (b : Fin 768) : iblk m c 11 t0_0 (ix2 a b) = m ((c : Thread nD τ).loc main_arg17) (ix2 b a) := by
  blk_simp [iblk]
  entry_read
  pointwise
  blk_ext! [idxA t0_0, idxB t0_0, idxC t0_0]
theorem iblk12 (c : Dev nD) (a : Fin 256) (b : Fin 768) : iblk m c 12 t0_0 (ix2 a b) = m ((c : Thread nD τ).loc main_arg10) (ix2 b a) := by
  blk_simp [iblk]
  entry_read
  pointwise
  blk_ext! [idxA t0_0, idxB t0_0, idxC t0_0]
theorem iblk13 (c : Dev nD) (a : Fin 256) (b : Fin 768) : iblk m c 13 t0_0 (ix2 a b) = m ((c : Thread nD τ).loc main_arg14) (ix2 b a) := by
  blk_simp [iblk]
  entry_read
  pointwise
  blk_ext! [idxA t0_0, idxB t0_0, idxC t0_0]
theorem iblk14 (c : Dev nD) (a : Fin 256) (b : Fin 768) : iblk m c 14 t0_0 (ix2 a b) = m ((c : Thread nD τ).loc main_arg18) (ix2 b a) := by
  blk_simp [iblk]
  entry_read
  pointwise
  blk_ext! [idxA t0_0, idxB t0_0, idxC t0_0]
theorem iblk15 (c : Dev nD) (b : Fin 768) : iblk m c 15 t0_0 (ix2 0 b) = m ((c : Thread nD τ).loc main_arg11) (ix1 b) := by
  blk_simp [iblk]
  entry_read
  pointwise
  blk_ext! [idxA t0_0, idxB t0_0, idxC t0_0]
theorem iblk16 (c : Dev nD) (b : Fin 768) : iblk m c 16 t0_0 (ix2 0 b) = m ((c : Thread nD τ).loc main_arg15) (ix1 b) := by
  blk_simp [iblk]
  entry_read
  pointwise
  blk_ext! [idxA t0_0, idxB t0_0, idxC t0_0]
theorem iblk17 (c : Dev nD) (b : Fin 768) : iblk m c 17 t0_0 (ix2 0 b) = m ((c : Thread nD τ).loc main_arg19) (ix1 b) := by
  blk_simp [iblk]
  entry_read
  pointwise
  blk_ext! [idxA t0_0, idxB t0_0, idxC t0_0]
theorem iblk18 (c : Dev nD) (b : Fin 768) : iblk m c 18 t0_0 (ix2 0 b) = m ((c : Thread nD τ).loc main_arg12) (ix1 b) := by
  blk_simp [iblk]
  entry_read
  pointwise
  blk_ext! [idxA t0_0, idxB t0_0, idxC t0_0]
theorem iblk19 (c : Dev nD) (b : Fin 768) : iblk m c 19 t0_0 (ix2 0 b) = m ((c : Thread nD τ).loc main_arg16) (ix1 b) := by
  blk_simp [iblk]
  entry_read
  pointwise
  blk_ext! [idxA t0_0, idxB t0_0, idxC t0_0]
theorem iblk20 (c : Dev nD) (b : Fin 768) : iblk m c 20 t0_0 (ix2 0 b) = m ((c : Thread nD τ).loc main_arg20) (ix1 b) := by
  blk_simp [iblk]
  entry_read
  pointwise
  blk_ext! [idxA t0_0, idxB t0_0, idxC t0_0]
theorem iblk8 (c : Dev nD) (b : Fin 2000) : iblk m c 8 t0_0 (ix2 b 0) = m ((c : Thread nD τ).loc main_arg7) (ix1 b) := by
  blk_simp [iblk]
  entry_read
  pointwise
  blk_ext! [idxA t0_0, idxB t0_0, idxC t0_0]

theorem final21 (c : Dev nD) : (dats m 0 c).arrAt 21 cfg0.N = outAt21 m c t0_0 := by
  refine (dats m 0 c).arrAt_eq_of_after_last 21 t0_0 (by decide +kernel) _ fun j => ?_
  blk_simp
  rw [after0_21]

theorem final22 (c : Dev nD) : (dats m 0 c).arrAt 22 cfg0.N = outAt22 m c t0_0 := by
  refine (dats m 0 c).arrAt_eq_of_after_last 22 t0_0 (by decide +kernel) _ fun j => ?_
  blk_simp
  rw [after0_22]

theorem final23 (c : Dev nD) : (dats m 0 c).arrAt 23 cfg0.N = outAt23 m c t0_0 := by
  refine (dats m 0 c).arrAt_eq_of_after_last 23 t0_0 (by decide +kernel) _ fun j => ?_
  blk_simp
  rw [after0_23]

theorem final24 (c : Dev nD) : (dats m 0 c).arrAt 24 cfg0.N = outAt24 m c t0_0 := by
  refine (dats m 0 c).arrAt_eq_of_after_last 24 t0_0 (by decide +kernel) _ fun j => ?_
  blk_simp
  rw [after0_24]

theorem final25 (c : Dev nD) : (dats m 0 c).arrAt 25 cfg0.N = outAt25 m c t0_0 := by
  refine (dats m 0 c).arrAt_eq_of_after_last 25 t0_0 (by decide +kernel) _ fun j => ?_
  blk_simp
  rw [after0_25]

end Cert.KernelIdeal.Seq
-- ==== Proof.Seq.ResKernel.lean ====
/-
  The recurrent call's results over plain indices.
-/
module

public import proofs.«01_k».proof.Proof.Seq.Value

@[expose] public section

set_option maxRecDepth 16384

noncomputable section

namespace Cert.KernelIdeal.Seq

open Cert.KernelIdeal Cert.KernelIdeal.Gen Idealize.ShloMosaic Idealize.ShloMosaic.TcCoe Idealize.SL.Sem Cert.Seq

variable (m : (ℓ : Loc nD τ sig) → Buf (Elt Ideal) ℓ)

/-- The recurrent state over the launch's arguments. -/
abbrev hidOf (c : Dev nD) : ℕ → Fin 256 → EReal :=
  hid (fun a b => m ((c : Thread nD τ).loc main_arg0) (ix2 a b)) (m ((c : Thread nD τ).loc main_arg2) (ix2 0 0))
        (fun a b => m ((c : Thread nD τ).loc main_arg9) (ix2 a b)) (fun a b => m ((c : Thread nD τ).loc main_arg10) (ix2 a b))
        (fun a => m ((c : Thread nD τ).loc main_arg11) (ix1 a)) (fun a => m ((c : Thread nD τ).loc main_arg12) (ix1 a))
        (fun a b => m ((c : Thread nD τ).loc main_arg13) (ix2 a b)) (fun a b => m ((c : Thread nD τ).loc main_arg14) (ix2 a b))
        (fun a => m ((c : Thread nD τ).loc main_arg15) (ix1 a)) (fun a => m ((c : Thread nD τ).loc main_arg16) (ix1 a))
        (fun a => m ((c : Thread nD τ).loc main_arg1) (ix2 0 a))

theorem out21_at (c : Dev nD) (j : Fin 256) : outAt21 m c t0_0 (ix2 0 j) = hidOf m c 512 j := by
  unfold outAt21 hV
  rw [trips_eq, hst_at]
  simp only [iblk0, iblk1, iblk2, iblk9, iblk10, iblk12, iblk13, iblk15, iblk16, iblk18, iblk19]

theorem pay9_at (x : Vec Ideal S512x8 .f32) (u : Vec Ideal S1x1 .f32) (w : Vec Ideal S9x768 .f32) (b : Vec Ideal S1x768 .f32)
    (p : Vec Ideal S1x256 .f32) (v : Vec Ideal S256x768 .f32) (d : Vec Ideal S1x768 .f32) (j : Fin 256) :
    k0_pay9 (F := Ideal) (k0_pay8 x u w) b p v d p (ix2 0 j) =
      gru (gi2 (fun a b => x (ix2 a b)) (u (ix2 0 0)) (fun a b => w (ix2 b a)) (fun a => b (ix2 0 a)) 511)
        (gh (fun a => p (ix2 0 a)) (fun a b => v (ix2 b a)) (fun a => d (ix2 0 a))) (fun a => p (ix2 0 a)) j := by
  pointwise [k0_pay9, k0_pay8]
  rfl

theorem pay10_at (h : Vec Ideal S1x256 .f32) (x : Vec Ideal S1x768 .f32) (b : Vec Ideal S1x768 .f32)
    (p : Vec Ideal S1x256 .f32) (v : Vec Ideal S256x768 .f32) (d : Vec Ideal S1x768 .f32) (i : S1x1.Idx) :
    k0_pay10 (F := Ideal) h x b p v d p i =
      Ideal.exp (Ideal.div (∑ j : Fin 256, h (ix2 0 j) * k0_pay9 x b p v d p (ix2 0 j)) (Ideal.ofBits .f32 0x43800000#32)) := by
  pointwise [k0_pay10]

/-- The refreshed period state over the launch's arguments. -/
abbrev phOf (c : Dev nD) : Fin 256 → EReal :=
  gru (gi2 (fun a b => m ((c : Thread nD τ).loc main_arg0) (ix2 a b)) (m ((c : Thread nD τ).loc main_arg2) (ix2 0 0))
        (fun a b => m ((c : Thread nD τ).loc main_arg17) (ix2 a b)) (fun a => m ((c : Thread nD τ).loc main_arg19) (ix1 a)) 511)
      (gh (fun a => m ((c : Thread nD τ).loc main_arg3) (ix2 0 a)) (fun a b => m ((c : Thread nD τ).loc main_arg18) (ix2 a b))
        (fun a => m ((c : Thread nD τ).loc main_arg20) (ix1 a)))
      (fun a => m ((c : Thread nD τ).loc main_arg3) (ix2 0 a))

theorem out22_at (c : Dev nD) (j : Fin 256) : outAt22 m c t0_0 (ix2 0 j) = phOf m c j := by
  unfold outAt22 phV
  rw [pay9_at]
  simp only [iblk0, iblk1, iblk11, iblk3, iblk14, iblk17, iblk20]

theorem hp_at (c : Dev nD) (i : S1x1.Idx) :
    k0_pay10 (outAt21 m c t0_0) (k0_pay8 (iblk m c 0 t0_0) (iblk m c 1 t0_0) (iblk m c 11 t0_0)) (iblk m c 17 t0_0) (iblk m c 3 t0_0)
        (iblk m c 14 t0_0) (iblk m c 20 t0_0) (iblk m c 3 t0_0) i = agree (hidOf m c 512) (phOf m c) := by
  rw [pay10_at]
  refine congrArg (fun s => Ideal.exp (Ideal.div s _)) (Finset.sum_congr rfl fun j _ => ?_)
  rw [out21_at]
  exact congrArg _ (out22_at m c j)

theorem out23_at (c : Dev nD) (i : S1x1.Idx) :
    outAt23 m c t0_0 i = sumS (m ((c : Thread nD τ).loc main_arg4) i) (agree (hidOf m c 512) (phOf m c)) := by
  rw [← hp_at m c i]
  unfold outAt23 qV k0_pay11
  pointwise
  rw [iblk4]
  rfl

theorem out24_at (c : Dev nD) (i : S1x1.Idx) :
    outAt24 m c t0_0 i = ratioS (m ((c : Thread nD τ).loc main_arg5) i) (m ((c : Thread nD τ).loc main_arg4) i)
      (agree (hidOf m c 512) (phOf m c)) := by
  unfold ratioS
  rw [← out23_at m c i, ← hp_at m c i]
  unfold outAt24 aV k0_pay12
  pointwise
  rw [iblk5]
  rfl

end Cert.KernelIdeal.Seq
-- ==== Proof.Seq.StepReference.lean ====
/-
  The reference's loop state over plain indices.
-/
module

public import proofs.«01_k».proof.Proof.Gen.ReferenceIdeal.Run
public import proofs.«01_k».proof.Proof.Seq.Spec
public import Idealize.ShloMosaic.Lib.Claim

@[expose] public section

set_option maxRecDepth 16384

noncomputable section

namespace Cert.ReferenceIdeal.Seq

open Cert.ReferenceIdeal Cert.ReferenceIdeal.Gen Cert.ReferenceIdeal.Value Idealize.ShloMosaic Idealize.ShloMosaic.TcCoe Idealize.SL.Sem Cert.Seq
open Idealize.ShloMosaic.HostLoop Idealize.ShloMosaic.StableHlo

variable (m : (ℓ : Loc nD τ sig) → Buf (Elt Ideal) ℓ)

/-- What the loop carries before trip `k`, of the launch's arguments: the counter and the operands. -/
structure Carried (c : Dev nD) (k : ℕ) (V : Valuation τ sig (Elt Ideal)) : Prop where
  b0 : V (Proc.devRef .tc main_v4_0) = m ((c.tc : Thread nD τ).loc main_arg0)
  b1 : V (Proc.devRef .tc main_v4_1) = concatenate S512x8 0 [⟨S1x8, extractStridedSlice S1x8 ![0, 0] (m ((c.tc : Thread nD τ).loc main_arg0)) Gen.slices_S512x8_S1x8_0_0⟩, ⟨S511x8, extractStridedSlice S511x8 ![0, 0] (m ((c.tc : Thread nD τ).loc main_arg0)) Gen.slices_S512x8_S511x8_0_0⟩] Gen.concatenates_S1x8_S511x8_S512x8_d0
  b2 : V (Proc.devRef .tc main_v4_2) = iotaInDim S512 32 0
  b3 : V (Proc.devRef .tc main_v4_3) = m ((c.tc : Thread nD τ).loc main_arg9)
  b4 : V (Proc.devRef .tc main_v4_4) = m ((c.tc : Thread nD τ).loc main_arg11)
  b5 : V (Proc.devRef .tc main_v4_5) = m ((c.tc : Thread nD τ).loc main_arg10)
  b6 : V (Proc.devRef .tc main_v4_6) = m ((c.tc : Thread nD τ).loc main_arg12)
  b7 : V (Proc.devRef .tc main_v4_7) = m ((c.tc : Thread nD τ).loc main_arg2)
  b8 : V (Proc.devRef .tc main_v4_8) = m ((c.tc : Thread nD τ).loc main_arg13)
  b9 : V (Proc.devRef .tc main_v4_9) = m ((c.tc : Thread nD τ).loc main_arg15)
  b10 : V (Proc.devRef .tc main_v4_10) = m ((c.tc : Thread nD τ).loc main_arg14)
  b11 : V (Proc.devRef .tc main_v4_11) = m ((c.tc : Thread nD τ).loc main_arg16)
  b12 : V (Proc.devRef .tc main_v4_12) = fun _ => BitVec.ofNat 32 k

theorem carried (c : Dev nD) : ∀ k, Carried m c k (STEP^[k] (entryContents preI m c))
  | 0 => by
    rw [Function.iterate_zero, id_eq]
    refine ⟨?_, ?_, ?_, ?_, ?_, ?_, ?_, ?_, ?_, ?_, ?_, ?_, ?_⟩ <;>
    (simp only [entryContents, preI, afterL_cons, afterL_nil, hostOps0]; after_results; rfl)
  | k + 1 => by
    have h := carried c k
    rw [Function.iterate_succ_apply']
    refine ⟨?_, ?_, ?_, ?_, ?_, ?_, ?_, ?_, ?_, ?_, ?_, ?_, ?_⟩
    · rw [STEP_main_v4_0, h.b0]
    · rw [STEP_main_v4_1, h.b1]
    · rw [STEP_main_v4_2, h.b2]
    · rw [STEP_main_v4_3, h.b3]
    · rw [STEP_main_v4_4, h.b4]
    · rw [STEP_main_v4_5, h.b5]
    · rw [STEP_main_v4_6, h.b6]
    · rw [STEP_main_v4_7, h.b7]
    · rw [STEP_main_v4_8, h.b8]
    · rw [STEP_main_v4_9, h.b9]
    · rw [STEP_main_v4_10, h.b10]
    · rw [STEP_main_v4_11, h.b11]
    · rw [STEP_main_v4_12, step_main_v4_12, h.b12]
      funext i
      exact (BitVec.ofNat_add (n := 32) k 1).symm

theorem toInt_small (k : ℕ) (hk : k < 512) : (BitVec.ofNat 32 k).toInt = k := by
  rw [BitVec.toInt_eq_toNat_of_lt (by simp; omega)]
  simp
  omega

theorem start1 (k : ℕ) (hk : k < 512) (ht) (f : Fin S512.rank → Int) (hf : f 0 = (BitVec.ofNat 32 k).toInt) :
    Host.clampedStart S512 S1 ht f 0 = k :=
  Host.clampedStart_of_le ht _ 0 k (hf.trans (toInt_small k hk)) (by change k + 1 ≤ 512; omega)

theorem startRow (k : ℕ) (hk : k < 512) (ht) (f : Fin S512x8.rank → Int) (hf : f 0 = (BitVec.ofNat 32 k).toInt) :
    Host.clampedStart S512x8 S1x8 ht f 0 = k :=
  Host.clampedStart_of_le ht _ 0 k (hf.trans (toInt_small k hk)) (by change k + 1 ≤ 512; omega)

theorem startCol (ht) (f : Fin S512x8.rank → Int) (hf : f 1 = 0) :
    Host.clampedStart S512x8 S1x8 ht f 1 = 0 :=
  Host.clampedStart_of_le ht _ 1 0 hf (by change 0 + 8 ≤ 8; omega)

theorem v83_at (c : Dev nD) (k : ℕ) (hk : k < 512) (V : Valuation τ sig (Elt Ideal)) (h : Carried m c k V) (i : Fin 8) :
    res_main_while0b_v83 V (ix1 i) = m ((c.tc : Thread nD τ).loc main_arg0) (ix2 ⟨k, hk⟩ i) := by
  unfold res_main_while0b_v83
  rw [h.b0, h.b12]
  pointwise
  refine congrArg _ (congrArg₂ ix2 (Fin.ext ?_) (Fin.ext ?_))
  · have := startRow k hk (by rfl) (fun k_1 => BitVec.toInt ((![fun x => BitVec.ofNat 32 k, constantI S_ 32 0#32] : Fin 2 → (⟨S_, .i32⟩ : BufTy).Contents (Elt Ideal)) k_1 (Shape.Idx.first Gen.h_S_))) (by rfl)
    exact this.trans rfl
  exact (congrArg (· + i.val) (startCol _ _ (by rfl))).trans (Nat.zero_add _)

theorem v96_at (c : Dev nD) (k : ℕ) (hk : k < 512) (V : Valuation τ sig (Elt Ideal)) (h : Carried m c k V) (q : Fin 768) :
    res_main_while0b_v96 V (ix2 0 q) = gi1 (fun a b => m ((c.tc : Thread nD τ).loc main_arg0) (ix2 a b))
      (fun a b => m ((c.tc : Thread nD τ).loc main_arg9) (ix2 a b)) (fun a => m ((c.tc : Thread nD τ).loc main_arg11) (ix1 a)) ⟨k, hk⟩ q := by
  unfold res_main_while0b_v96
  rw [h.b3, h.b4]
  pointwise
  simp only [v83_at m c k hk V h]
  rfl

theorem v134_at (c : Dev nD) (k : ℕ) (hk : k < 512) (V : Valuation τ sig (Elt Ideal)) (h : Carried m c k V) (q : Fin 768) :
    res_main_while0b_v134 V (ix2 0 q) = gi2 (fun a b => m ((c.tc : Thread nD τ).loc main_arg0) (ix2 a b))
      (m ((c.tc : Thread nD τ).loc main_arg2) (ix2 0 0))
      (fun a b => m ((c.tc : Thread nD τ).loc main_arg13) (ix2 a b)) (fun a => m ((c.tc : Thread nD τ).loc main_arg15) (ix1 a)) ⟨k, hk⟩ q := by
  unfold res_main_while0b_v134
  rw [h.b7, h.b8, h.b9]
  pointwise
  simp only [v83_at m c k hk V h]
  rfl

theorem v100_at (c : Dev nD) (k : ℕ) (V : Valuation τ sig (Elt Ideal)) (h : Carried m c k V) (q : Fin 768) :
    res_main_while0b_v100 V (ix2 0 q) = gh (fun b => V (Proc.devRef .tc main_v4_13) (ix2 0 b))
      (fun a b => m ((c.tc : Thread nD τ).loc main_arg10) (ix2 a b)) (fun a => m ((c.tc : Thread nD τ).loc main_arg12) (ix1 a)) q := by
  unfold res_main_while0b_v100
  rw [h.b5, h.b6]
  pointwise
  rfl

theorem v138_at (c : Dev nD) (k : ℕ) (V : Valuation τ sig (Elt Ideal)) (h : Carried m c k V) (q : Fin 768) :
    res_main_while0b_v138 V (ix2 0 q) = gh (fun b => V (Proc.devRef .tc main_v4_13) (ix2 0 b))
      (fun a b => m ((c.tc : Thread nD τ).loc main_arg14) (ix2 a b)) (fun a => m ((c.tc : Thread nD τ).loc main_arg16) (ix1 a)) q := by
  unfold res_main_while0b_v138
  rw [h.b10, h.b11]
  pointwise
  rfl

/-- The row before row `k`, as the trip reads it. -/
def prevRow (V0 : Valuation τ sig (Elt Ideal)) : (⟨S8, .f32⟩ : BufTy).Contents (Elt Ideal) :=
  shapeCast S8 (Host.dynamicSlice S1x8 (V0 (Proc.devRef .tc main_v4_1)) (fun k => (((![V0 (Proc.devRef .tc main_v4_12), constantI S_ 32 0#32] : Fin 2 → (⟨S_, .i32⟩ : BufTy).Contents (Elt Ideal))) k (Shape.Idx.first Gen.h_S_)).toInt) Gen.sliceFits_S512x8_S1x8) Gen.shapeCasts_S1x8_S8

/-- The row number, as the trip reads it. -/
def rowNo (V0 : Valuation τ sig (Elt Ideal)) : (⟨S_, .i32⟩ : BufTy).Contents (Elt Ideal) :=
  shapeCast S_ (Host.dynamicSlice S1 (V0 (Proc.devRef .tc main_v4_2)) (fun k => (((![V0 (Proc.devRef .tc main_v4_12)] : Fin 1 → (⟨S_, .i32⟩ : BufTy).Contents (Elt Ideal))) k (Shape.Idx.first Gen.h_S_)).toInt) Gen.sliceFits_S512_S1) Gen.shapeCasts_S1_S_

theorem rowNo_at (c : Dev nD) (k : ℕ) (hk : k < 512) (V : Valuation τ sig (Elt Ideal)) (h : Carried m c k V) (i : S_.Idx) :
    rowNo V i = BitVec.ofNat 32 k := by
  unfold rowNo
  rw [h.b2, h.b12]
  pointwise
  exact congrArg (BitVec.ofNat 32) (start1 k hk _ _ (by rfl))

theorem prevRow_at (c : Dev nD) (k : ℕ) (hk : k < 512) (V : Valuation τ sig (Elt Ideal)) (h : Carried m c k V) (i : Fin 8) :
    prevRow V (ix1 i) = m ((c.tc : Thread nD τ).loc main_arg0) (ix2 ⟨k - 1, by omega⟩ i) := by
  unfold prevRow
  rw [h.b1, h.b12]
  pointwise
  split
  · next hlt =>
    refine congrArg _ (congrArg₂ ix2 (Fin.ext ?_) (Fin.ext ?_))
    · have := startRow k hk (by rfl) (fun k_1 => BitVec.toInt ((![fun x => BitVec.ofNat 32 k, constantI S_ 32 0#32] : Fin 2 → (⟨S_, .i32⟩ : BufTy).Contents (Elt Ideal)) k_1 (Shape.Idx.first Gen.h_S_))) (by rfl)
      have hlt' : k < 1 := lt_of_eq_of_lt this.symm hlt
      exact this.trans (show k = k - 1 by omega)
    · exact (congrArg (· + i.val) (startCol _ _ (by rfl))).trans (Nat.zero_add _)
  · refine congrArg _ (congrArg₂ ix2 (Fin.ext ?_) (Fin.ext ?_))
    · exact congrArg (· - 1) (startRow k hk _ _ (by rfl))
    · exact (congrArg (· + i.val) (startCol _ _ (by rfl))).trans (Nat.zero_add _)

/-- One trip of the reference's loop is one gated step of the chosen cell. -/
theorem step_at (c : Dev nD) (k : ℕ) (hk : k < 512) (V : Valuation τ sig (Elt Ideal)) (h : Carried m c k V) (j : Fin 256)
    [Decidable (Same (fun a b => m ((c.tc : Thread nD τ).loc main_arg0) (ix2 a b)) ⟨k, hk⟩)] :
    step_main_v4_13 V (ix2 0 j) =
      if Same (fun a b => m ((c.tc : Thread nD τ).loc main_arg0) (ix2 a b)) ⟨k, hk⟩ then
        gru (fun q => res_main_while0b_v96 V (ix2 0 q)) (fun q => res_main_while0b_v100 V (ix2 0 q)) (fun q => V (Proc.devRef .tc main_v4_13) (ix2 0 q)) j
      else gru (fun q => res_main_while0b_v134 V (ix2 0 q)) (fun q => res_main_while0b_v138 V (ix2 0 q)) (fun q => V (Proc.devRef .tc main_v4_13) (ix2 0 q)) j := by
  unfold step_main_v4_13
  have eP : shapeCast S8 (Host.dynamicSlice S1x8 (V (Proc.devRef .tc main_v4_1)) (fun k => (((![V (Proc.devRef .tc main_v4_12), constantI S_ 32 0#32] : Fin 2 → (⟨S_, .i32⟩ : BufTy).Contents (Elt Ideal))) k (Shape.Idx.first Gen.h_S_)).toInt) Gen.sliceFits_S512x8_S1x8) Gen.shapeCasts_S1x8_S8 = prevRow V := rfl
  have eN : shapeCast S_ (Host.dynamicSlice S1 (V (Proc.devRef .tc main_v4_2)) (fun k => (((![V (Proc.devRef .tc main_v4_12)] : Fin 1 → (⟨S_, .i32⟩ : BufTy).Contents (Elt Ideal))) k (Shape.Idx.first Gen.h_S_)).toInt) Gen.sliceFits_S512_S1) Gen.shapeCasts_S1_S_ = rowNo V := rfl
  rw [id_eq, eP, eN]
  pointwise [res_main_while0b_v118, res_main_while0b_v156]
  simp only [rowNo_at m c k hk V h, prevRow_at m c k hk V h, v83_at m c k hk V h]
  refine (reference_test k hk _ _ _).trans (if_congr (or_congr_right (forall_congr' fun i => ?_)) rfl rfl)
  exact decide_eq_true_iff.trans eq_comm

/-- The reference's loop state is the plain recurrence. -/
theorem iter_at (c : Dev nD) (k : ℕ) (hk : k ≤ 512) (j : Fin 256) :
    (STEP^[k] (entryContents preI m c)) (Proc.devRef .tc main_v4_13) (ix2 0 j) =
      hid (fun a b => m ((c.tc : Thread nD τ).loc main_arg0) (ix2 a b)) (m ((c.tc : Thread nD τ).loc main_arg2) (ix2 0 0))
        (fun a b => m ((c.tc : Thread nD τ).loc main_arg9) (ix2 a b)) (fun a b => m ((c.tc : Thread nD τ).loc main_arg10) (ix2 a b))
        (fun a => m ((c.tc : Thread nD τ).loc main_arg11) (ix1 a)) (fun a => m ((c.tc : Thread nD τ).loc main_arg12) (ix1 a))
        (fun a b => m ((c.tc : Thread nD τ).loc main_arg13) (ix2 a b)) (fun a b => m ((c.tc : Thread nD τ).loc main_arg14) (ix2 a b))
        (fun a => m ((c.tc : Thread nD τ).loc main_arg15) (ix1 a)) (fun a => m ((c.tc : Thread nD τ).loc main_arg16) (ix1 a))
        (fun a => m ((c.tc : Thread nD τ).loc main_arg1) (ix2 0 a)) k j := by
  classical
  induction k generalizing j with
  | zero =>
    rw [Function.iterate_zero, id_eq]
    simp only [entryContents, preI, afterL_cons, afterL_nil, hostOps0]
    after_results
    rfl
  | succ k ih =>
    have hk' : k < 512 := hk
    have hC := carried m c k
    rw [Function.iterate_succ_apply', STEP_main_v4_13, step_at m c k hk' _ hC]
    simp only [hid, dif_pos hk', v96_at m c k hk' _ hC, v134_at m c k hk' _ hC, v100_at m c k _ hC, v138_at m c k _ hC,
      ih (Nat.le_of_lt hk')]

end Cert.ReferenceIdeal.Seq
-- ==== Proof.Seq.ResReference.lean ====
/-
  The reference's results over plain indices.
-/
module

public import proofs.«01_k».proof.Proof.Seq.StepReference

@[expose] public section

set_option maxRecDepth 16384

noncomputable section

namespace Cert.ReferenceIdeal.Seq

open Cert.ReferenceIdeal Cert.ReferenceIdeal.Gen Cert.ReferenceIdeal.Value Idealize.ShloMosaic Idealize.ShloMosaic.TcCoe Idealize.SL.Sem Cert.Seq
open Idealize.ShloMosaic.StableHlo Idealize.ShloMosaic.HostLoop

theorem v70_at (V : Valuation τ sig (Elt Ideal)) (j : Fin 256) :
    out_main_v70 V (ix2 0 j) = gru (gi2 (fun a b => V (Proc.devRef .tc main_arg0) (ix2 a b)) (V (Proc.devRef .tc main_arg2) (ix2 0 0)) (fun a b => V (Proc.devRef .tc main_arg17) (ix2 a b)) (fun a => V (Proc.devRef .tc main_arg19) (ix1 a)) 511)
        (gh (fun a => V (Proc.devRef .tc main_arg3) (ix2 0 a)) (fun a b => V (Proc.devRef .tc main_arg18) (ix2 a b)) (fun a => V (Proc.devRef .tc main_arg20) (ix1 a))) (fun a => V (Proc.devRef .tc main_arg3) (ix2 0 a)) j := by
  pointwise [out_main_v70]
  rfl

/-- The exponential of the states' agreement. -/
def qhi (h p : (⟨S1x256, .f32⟩ : BufTy).Contents (Elt Ideal)) : (⟨S1x1, .f32⟩ : BufTy).Contents (Elt Ideal) :=
  Host.exp (F := Ideal) (φ := .f32) (Host.divf (broadcastInDim S1x1 ![0] bcast_S1_S1x1_0 (Host.reduceAdd (F := Ideal) (φ := .f32) (mulf (F := Ideal) (φ := .f32) h p) (constant S_ .f32 0#32) reducesTo_S1x256_S1_d1 h_S_)) (broadcastInDim S1x1 ![] bcast_S_S1x1 (constant S_ .f32 1132462080#32)))

theorem qhi_at (h p : (⟨S1x256, .f32⟩ : BufTy).Contents (Elt Ideal)) (i : S1x1.Idx) :
    qhi h p i = agree (fun j => h (ix2 0 j)) (fun j => p (ix2 0 j)) := by
  obtain ⟨a, b, rfl⟩ : ∃ a b, i = ix2 a b := ⟨i 0, i 1, by funext k; fin_cases k <;> rfl⟩
  fin_cases a
  fin_cases b
  pointwise [qhi]
  rfl

theorem v77_at (V : Valuation τ sig (Elt Ideal)) (i : S1x1.Idx) :
    out_main_v77 V i = sumS (V (Proc.devRef .tc main_arg4) i) (qhi (V (Proc.devRef .tc main_v4_13)) (out_main_v70 V) i) := rfl

theorem v79_at (V : Valuation τ sig (Elt Ideal)) (i : S1x1.Idx) :
    out_main_v79 V i = ratioS (V (Proc.devRef .tc main_arg5) i) (V (Proc.devRef .tc main_arg4) i) (qhi (V (Proc.devRef .tc main_v4_13)) (out_main_v70 V) i) := rfl

variable (m : (ℓ : Loc nD τ sig) → Buf (Elt Ideal) ℓ)

/-- The recurrent state over the launch's arguments. -/
abbrev hidOf (c : Dev nD) : ℕ → Fin 256 → EReal :=
  hid (fun a b => m ((c.tc : Thread nD τ).loc main_arg0) (ix2 a b)) (m ((c.tc : Thread nD τ).loc main_arg2) (ix2 0 0))
        (fun a b => m ((c.tc : Thread nD τ).loc main_arg9) (ix2 a b)) (fun a b => m ((c.tc : Thread nD τ).loc main_arg10) (ix2 a b))
        (fun a => m ((c.tc : Thread nD τ).loc main_arg11) (ix1 a)) (fun a => m ((c.tc : Thread nD τ).loc main_arg12) (ix1 a))
        (fun a b => m ((c.tc : Thread nD τ).loc main_arg13) (ix2 a b)) (fun a b => m ((c.tc : Thread nD τ).loc main_arg14) (ix2 a b))
        (fun a => m ((c.tc : Thread nD τ).loc main_arg15) (ix1 a)) (fun a => m ((c.tc : Thread nD τ).loc main_arg16) (ix1 a))
        (fun a => m ((c.tc : Thread nD τ).loc main_arg1) (ix2 0 a))

/-- The refreshed period state over the launch's arguments. -/
abbrev phOf (c : Dev nD) : Fin 256 → EReal :=
  gru (gi2 (fun a b => m ((c.tc : Thread nD τ).loc main_arg0) (ix2 a b)) (m ((c.tc : Thread nD τ).loc main_arg2) (ix2 0 0))
        (fun a b => m ((c.tc : Thread nD τ).loc main_arg17) (ix2 a b)) (fun a => m ((c.tc : Thread nD τ).loc main_arg19) (ix1 a)) 511)
      (gh (fun a => m ((c.tc : Thread nD τ).loc main_arg3) (ix2 0 a)) (fun a b => m ((c.tc : Thread nD τ).loc main_arg18) (ix2 a b))
        (fun a => m ((c.tc : Thread nD τ).loc main_arg20) (ix1 a)))
      (fun a => m ((c.tc : Thread nD τ).loc main_arg3) (ix2 0 a))

theorem ph_at (c : Dev nD) (j : Fin 256) : out_main_v70 (STEP^[512] (entryContents preI m c)) (ix2 0 j) = phOf m c j := by
  rw [v70_at, iter_main_arg0, iter_main_arg2, iter_main_arg17, iter_main_arg19, iter_main_arg3, iter_main_arg18, iter_main_arg20]

theorem qhiV_at (c : Dev nD) (i : S1x1.Idx) :
    qhi ((STEP^[512] (entryContents preI m c)) (Proc.devRef .tc main_v4_13)) (out_main_v70 (STEP^[512] (entryContents preI m c))) i =
      agree (hidOf m c 512) (phOf m c) := by
  rw [qhi_at]
  exact congrArg₂ agree (funext fun j => iter_at m c 512 le_rfl j) (funext fun j => ph_at m c j)

theorem qhh_at (c : Dev nD) (i : S1x1.Idx) : out_main_v77 (STEP^[512] (entryContents preI m c)) i =
    sumS (m ((c.tc : Thread nD τ).loc main_arg4) i) (agree (hidOf m c 512) (phOf m c)) := by
  rw [v77_at, qhiV_at, iter_main_arg4]

theorem aH_at (c : Dev nD) (i : S1x1.Idx) : out_main_v79 (STEP^[512] (entryContents preI m c)) i =
    ratioS (m ((c.tc : Thread nD τ).loc main_arg5) i) (m ((c.tc : Thread nD τ).loc main_arg4) i) (agree (hidOf m c 512) (phOf m c)) := by
  rw [v79_at, qhiV_at, iter_main_arg4, iter_main_arg5]

end Cert.ReferenceIdeal.Seq
-- ==== Proof.Seq.Result.lean ====
/-
  The recurrent call against the reference: the two runs end with the same first four results.
-/
module

public import proofs.«01_k».proof.Defs
public import proofs.«01_k».proof.Proof.Gen.On_first_four
public import proofs.«01_k».proof.Proof.Seq.ResKernel
public import proofs.«01_k».proof.Proof.Seq.ResReference

@[expose] public section

set_option maxRecDepth 16384

noncomputable section

namespace Cert.SeqResult

open Idealize.ShloMosaic Idealize.ShloMosaic.TcCoe Idealize.SL.Sem Cert.Seq

theorem ix_row {n : ℕ} (i : (⟨2, ![1, n]⟩ : Shape).Idx) : i = ix2 0 (i 1) := by
  funext k
  fin_cases k
  · exact Subsingleton.elim (α := Fin 1) _ _
  · rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launches agree on the arguments. -/
def Agree (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
    m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
    m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
    m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
    m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
    m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
    m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
    m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
    m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
    m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
    m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
    m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
    m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧
    m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧
    m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧
    m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧
    m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧
    m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧
    m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧
    m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧
    m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

variable {m m'}

theorem Agree.hid {c : Dev Cert.KernelIdeal.nD} (h : Agree m m' c) :
    Cert.ReferenceIdeal.Seq.hidOf m' c = Cert.KernelIdeal.Seq.hidOf m c := by
  obtain ⟨h0, h1, h2, h3, h4, h5, h6, h7, h8, h9, h10, h11, h12, h13, h14, h15, h16, h17, h18, h19, h20⟩ := h
  unfold Cert.ReferenceIdeal.Seq.hidOf Cert.KernelIdeal.Seq.hidOf
  rw [h0, h2, h9, h10, h11, h12, h13, h14, h15, h16, h1]

theorem Agree.ph {c : Dev Cert.KernelIdeal.nD} (h : Agree m m' c) :
    Cert.ReferenceIdeal.Seq.phOf m' c = Cert.KernelIdeal.Seq.phOf m c := by
  obtain ⟨h0, h1, h2, h3, h4, h5, h6, h7, h8, h9, h10, h11, h12, h13, h14, h15, h16, h17, h18, h19, h20⟩ := h
  unfold Cert.ReferenceIdeal.Seq.phOf Cert.KernelIdeal.Seq.phOf
  rw [h0, h2, h17, h19, h3, h18, h20]

end

/-- The kernel's run: its results, and its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v13_0) = Cert.KernelIdeal.Seq.outAt21 m c Cert.KernelIdeal.Gen.t0_0 ∧
        r.2.mem ((c.tc : Thread Cert.KernelIdeal.nD Cert.KernelIdeal.τ).loc Cert.KernelIdeal.main_v13_1) = Cert.KernelIdeal.Seq.outAt22 m c Cert.KernelIdeal.Gen.t0_0 ∧
        r.2.mem ((c.tc : Thread Cert.KernelIdeal.nD Cert.KernelIdeal.τ).loc Cert.KernelIdeal.main_v13_2) = Cert.KernelIdeal.Seq.outAt23 m c Cert.KernelIdeal.Gen.t0_0 ∧
        r.2.mem ((c.tc : Thread Cert.KernelIdeal.nD Cert.KernelIdeal.τ).loc Cert.KernelIdeal.main_v13_3) = Cert.KernelIdeal.Seq.outAt24 m c Cert.KernelIdeal.Gen.t0_0 ∧
        r.2.mem ((c.tc : Thread Cert.KernelIdeal.nD Cert.KernelIdeal.τ).loc Cert.KernelIdeal.main_v13_4) = Cert.KernelIdeal.Seq.outAt25 m c Cert.KernelIdeal.Gen.t0_0) ∧
        (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
        r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
        r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
        r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
        r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
        r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
        r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧
        r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧
        r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧
        r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧
        r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) ∧
        r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) ∧
        r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) ∧
        r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) ∧
        r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14) ∧
        r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15) ∧
        r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16) ∧
        r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17) ∧
        r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18) ∧
        r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19) ∧
        r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))) := by
  refine θ_run_and ((θ_run _ _ _).mono (fun r h c => ?_) (Cert.KernelIdeal.Seq.run_main m g)) (Cert.KernelIdeal.Seq.unchanged m g)
  exact ⟨((h c).1 21).trans (Cert.KernelIdeal.Seq.final21 m c), ((h c).1 22).trans (Cert.KernelIdeal.Seq.final22 m c),
    ((h c).1 23).trans (Cert.KernelIdeal.Seq.final23 m c), ((h c).1 24).trans (Cert.KernelIdeal.Seq.final24 m c),
    ((h c).1 25).trans (Cert.KernelIdeal.Seq.final25 m c)⟩

theorem algebraic : Cert.algebraic_KernelIdeal_ReferenceIdeal_on_first_four := by
  intro m g m' g' _ hagree
  have hA : ∀ c, Agree m m' c := hagree
  refine ⟨fun c => Cert.KernelIdeal.Seq.outAt21 m c Cert.KernelIdeal.Gen.t0_0, fun c => Cert.KernelIdeal.Seq.outAt22 m c Cert.KernelIdeal.Gen.t0_0,
    fun c => Cert.KernelIdeal.Seq.outAt23 m c Cert.KernelIdeal.Gen.t0_0, fun c => Cert.KernelIdeal.Seq.outAt24 m c Cert.KernelIdeal.Gen.t0_0,
    fun c => Cert.KernelIdeal.Seq.outAt25 m c Cert.KernelIdeal.Gen.t0_0, ?_, ?_⟩
  · refine (θ_run _ _ _).mono (fun r h c => ?_) (kernel_run m g)
    obtain ⟨h0, h1, h2, h3, h4⟩ := h.1 c
    exact ⟨fun i _ => congrFun h0 i, fun i _ => congrFun h1 i, fun i _ => congrFun h2 i, fun i _ => congrFun h3 i,
      fun i _ => congrFun h4 i, h.2 c⟩
  · refine (θ_run _ _ _).mono (fun r h c => ?_) (Cert.ReferenceIdeal.Value.run m' g')
    obtain ⟨h0, h1, h2, h3, h4, hrest⟩ := h c
    refine ⟨fun i _ => ?_, fun i _ => ?_, fun i _ => ?_, fun i _ => ?_, fun i hi => ?_, hrest⟩
    · rw [h0, ix_row i]
      exact (Cert.ReferenceIdeal.Seq.iter_at m' c 512 le_rfl (i 1)).trans
        ((congrFun (congrFun (hA c).hid 512) (i 1)).trans (Cert.KernelIdeal.Seq.out21_at m c (i 1)).symm)
    · rw [h1, ix_row i]
      exact (Cert.ReferenceIdeal.Seq.ph_at m' c (i 1)).trans
        ((congrFun (hA c).ph (i 1)).trans (Cert.KernelIdeal.Seq.out22_at m c (i 1)).symm)
    · rw [h2]
      refine (Cert.ReferenceIdeal.Seq.qhh_at m' c i).trans (Eq.trans ?_ (Cert.KernelIdeal.Seq.out23_at m c i).symm)
      rw [(hA c).hid, (hA c).ph, (hA c).2.2.2.2.1]
    · rw [h3]
      refine (Cert.ReferenceIdeal.Seq.aH_at m' c i).trans (Eq.trans ?_ (Cert.KernelIdeal.Seq.out24_at m c i).symm)
      rw [(hA c).hid, (hA c).ph, (hA c).2.2.2.2.1, (hA c).2.2.2.2.2.1]
    · exact absurd hi (by show ¬ ((0#1 : BitVec 1) = 1#1); decide)

end Cert.SeqResult

end
-- ==== Proof.Seq.Centre.lean ====
/-
  The weighted places: the sums of the recurrent call's last result, over plain numbers.
-/
module

public import proofs.«01_k».proof.Proof.Seq.Spec

@[expose] public section

noncomputable section

namespace Cert.Seq

open Idealize.ShloMosaic

/-- The weight of a place with coordinate `p` for the state's entry `q`, at distance `d`. -/
def pull (q p d : EReal) : EReal := Ideal.exp (q * p * Ideal.exp (Ideal.div (-d) (Ideal.ofBits .f32 0x40000000#32)))

theorem logistic_real (x : EReal) : ∃ r : ℝ, Ideal.logistic x = (r : EReal) := by
  induction x using EReal.rec with
  | bot => exact ⟨0, by simp⟩
  | top => exact ⟨1, by simp⟩
  | coe r => exact ⟨_, Ideal.logistic_coe _⟩

theorem tanh_real (x : EReal) : ∃ r : ℝ, Ideal.tanh x = (r : EReal) := by
  induction x using EReal.rec with
  | bot => exact ⟨-1, rfl⟩
  | top => exact ⟨1, rfl⟩
  | coe r => exact ⟨_, rfl⟩

/-- A cell keeps a real entry real, whatever its input row and hidden row are. -/
theorem gru_real (gi gh : Fin 768 → EReal) (h : Fin 256 → EReal) (j : Fin 256) (hj : ∃ r : ℝ, h j = (r : EReal)) :
    ∃ r : ℝ, gru gi gh h j = (r : EReal) := by
  obtain ⟨a, ha⟩ := logistic_real (gi ⟨256 + j, by omega⟩ + gh ⟨256 + j, by omega⟩)
  obtain ⟨b, hb⟩ := tanh_real (gi ⟨512 + j, by omega⟩ +
        Ideal.logistic (gi ⟨j, by omega⟩ + gh ⟨j, by omega⟩) * gh ⟨512 + j, by omega⟩)
  obtain ⟨r, hr⟩ := hj
  refine ⟨(1 - a) * b + a * r, ?_⟩
  unfold gru
  rw [ha, hb, hr]
  norm_cast

theorem hid_real (x : Fin 512 → Fin 8 → EReal) (u : EReal) (wi1 : Fin 768 → Fin 8 → EReal) (wh1 : Fin 768 → Fin 256 → EReal)
    (bi1 bh1 : Fin 768 → EReal) (wi2 : Fin 768 → Fin 9 → EReal) (wh2 : Fin 768 → Fin 256 → EReal) (bi2 bh2 : Fin 768 → EReal)
    (h0 : Fin 256 → EReal) (h : ∀ j, ∃ r : ℝ, h0 j = (r : EReal)) (k : ℕ) (j : Fin 256) :
    ∃ r : ℝ, hid x u wi1 wh1 bi1 bh1 wi2 wh2 bi2 bh2 h0 k j = (r : EReal) := by
  induction k generalizing j with
  | zero => exact h j
  | succ k ih =>
    unfold hid
    split_ifs
    · exact gru_real _ _ _ _ (ih j)
    · exact gru_real _ _ _ _ (ih j)
    · exact ih j

theorem two_f32 : Ideal.ofBits .f32 0x40000000#32 = ((2 : ℝ) : EReal) := by
  simp [Ideal.ofBits, Ideal.ieee, -EReal.coe_mul]
  norm_num

/-- The weight of a finite place is a positive number. -/
theorem pull_real (q p d : ℝ) : ∃ r : ℝ, 0 < r ∧ pull (q : EReal) (p : EReal) (d : EReal) = (r : EReal) := by
  refine ⟨Real.exp (q * p * Real.exp (-d * 2⁻¹)), Real.exp_pos _, ?_⟩
  have e : Ideal.div (-(d : EReal)) ((2 : ℝ) : EReal) = ((-d * 2⁻¹ : ℝ) : EReal) := by
    rw [Ideal.div, if_neg (by norm_num), ← EReal.coe_neg, ← EReal.coe_inv, ← EReal.coe_mul]
  unfold pull
  rw [two_f32, e]
  rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing the weighted sum is summing with divided weights, for finite places. -/
theorem centre_eq {n : ℕ} (g p : Fin (n + 1) → EReal) (hg : ∀ k, ∃ r : ℝ, 0 < r ∧ g k = (r : EReal))
    (hp : ∀ k, ∃ r : ℝ, p k = (r : EReal)) :
    Ideal.div (∑ k, g k * p k) (∑ k, g k) = ∑ k, Ideal.div (g k) (∑ l, g l) * p k := by
  choose a ha hga using hg
  choose b hb using hp
  have hs : (∑ k, g k) = ((∑ k, a k : ℝ) : EReal) := by rw [coe_sum]; exact Finset.sum_congr rfl fun k _ => hga k
  have hpos : (0 : ℝ) < ∑ k, a k := Finset.sum_pos (fun k _ => ha k) ⟨0, Finset.mem_univ _⟩
  have hne : ((∑ k, a k : ℝ) : EReal) ≠ 0 := fun e => hpos.ne' (EReal.coe_eq_zero.1 e)
  have hd : ∀ r : ℝ, Ideal.div (r : EReal) ((∑ k, a k : ℝ) : EReal) = ((r * (∑ k, a k)⁻¹ : ℝ) : EReal) := fun r => by
    rw [Ideal.div, if_neg hne, ← EReal.coe_inv, ← EReal.coe_mul]
  have hn : (∑ k, g k * p k) = ((∑ k, a k * b k : ℝ) : EReal) := by
    rw [coe_sum]; exact Finset.sum_congr rfl fun k _ => by rw [hga, hb, EReal.coe_mul]
  rw [hs, hn, hd, Finset.sum_mul, coe_sum]
  refine Finset.sum_congr rfl fun k _ => ?_
  rw [hga, hb, hd, ← EReal.coe_mul]
  exact congrArg _ (mul_right_comm _ _ _)

end Cert.Seq
-- ==== Proof.Seq.MixKernel.lean ====
/-
  The recurrent call's last result: the kernel's side.
-/
module

public import proofs.«01_k».proof.Proof.Seq.ResKernel
public import proofs.«01_k».proof.Proof.Seq.Centre

@[expose] public section

set_option maxRecDepth 16384

noncomputable section

namespace Cert.KernelIdeal.Seq

open Cert.KernelIdeal Cert.KernelIdeal.Gen Idealize.ShloMosaic Idealize.ShloMosaic.TcCoe Idealize.SL.Sem Cert.Seq

theorem pay14_at (h : Vec Ideal S1x256 .f32) (w : Vec Ideal S1x1 .f32) (d p q : Vec Ideal S2000x1 .f32) (j : Fin 256) :
    k0_pay14 (F := Ideal) h w d p q (ix2 0 j) =
      Ideal.div (∑ k : Fin 2000, pull (h (ix2 0 j) * w (ix2 0 0)) (p (ix2 k 0)) (d (ix2 k 0)) * p (ix2 k 0))
          (∑ k : Fin 2000, pull (h (ix2 0 j) * w (ix2 0 0)) (p (ix2 k 0)) (d (ix2 k 0))) +
        Ideal.div (∑ k : Fin 2000, pull (h (ix2 0 j) * w (ix2 0 0)) (q (ix2 k 0)) (d (ix2 k 0)) * q (ix2 k 0))
          (∑ k : Fin 2000, pull (h (ix2 0 j) * w (ix2 0 0)) (q (ix2 k 0)) (d (ix2 k 0))) := by
  pointwise [k0_pay14]
  simp only [pull, zero_sub]

theorem ld0_at (x : Vec Ideal S2000x2 .f32) (k : Fin 2000) :
    View.ld x (Rect.unit (s := S2000x2) ![0, 0] S2000x1.size inb_S2000x2_S2000x1_0_0) (ix2 k 0) = x (ix2 k 0) := by
  pointwise

theorem ld1_at (x : Vec Ideal S2000x2 .f32) (k : Fin 2000) :
    View.ld x (Rect.unit (s := S2000x2) ![0, 1] S2000x1.size inb_S2000x2_S2000x1_0_1) (ix2 k 0) = x (ix2 k 1) := by
  pointwise

theorem pay13_at (h : Vec Ideal S1x256 .f32) (x : Vec Ideal S1x768 .f32) (b : Vec Ideal S1x768 .f32)
    (p : Vec Ideal S1x256 .f32) (v : Vec Ideal S256x768 .f32) (d : Vec Ideal S1x768 .f32) (e : Vec Ideal S1x256 .f32)
    (q a : Vec Ideal S1x1 .f32) (j : Fin 256) :
    k0_pay13 (F := Ideal) h x b p v d e q a (ix2 0 j) = k0_pay12 h x b p v d e q a (ix2 0 0) * k0_pay9 x b p v d e (ix2 0 j) := by
  pointwise [k0_pay13]

theorem pay1_eq (h c p : Vec Ideal S1x256 .f32) : k0_pay1 (F := Ideal) h p c =
    concatenate S1x768 1 [⟨S1x256, h⟩, ⟨S1x256, c⟩, ⟨S1x256, p⟩] concatenates_S1x256_S1x256_S1x256_S1x768_d1 := rfl

variable (m : (ℓ : Loc nD τ sig) → Buf (Elt Ideal) ℓ)

/-- The places' first coordinates. -/
def coord0 (c : Dev nD) : Vec Ideal S2000x1 .f32 :=
  View.ld (iblk m c 7 t0_0) (Rect.unit (s := S2000x2) ![0, 0] S2000x1.size inb_S2000x2_S2000x1_0_0)

/-- The places' second coordinates. -/
def coord1 (c : Dev nD) : Vec Ideal S2000x1 .f32 :=
  View.ld (iblk m c 7 t0_0) (Rect.unit (s := S2000x2) ![0, 1] S2000x1.size inb_S2000x2_S2000x1_0_1)

theorem coord0_at (c : Dev nD) (k : Fin 2000) : coord0 m c (ix2 k 0) = m ((c : Thread nD τ).loc main_arg6) (ix2 k 0) :=
  (ld0_at _ k).trans (congrFun (iblk7 m c) (ix2 k 0))

theorem coord1_at (c : Dev nD) (k : Fin 2000) : coord1 m c (ix2 k 0) = m ((c : Thread nD τ).loc main_arg6) (ix2 k 1) :=
  (ld1_at _ k).trans (congrFun (iblk7 m c) (ix2 k 1))

/-- The middle part: the weighted places of both coordinates together. -/
def centreK (c : Dev nD) : Vec Ideal S1x256 .f32 :=
  k0_pay14 (outAt21 m c t0_0) (iblk m c 6 t0_0) (iblk m c 8 t0_0)
    (coord0 m c) (coord1 m c)

/-- The last part: the period state's share. -/
def shareK (c : Dev nD) : Vec Ideal S1x256 .f32 :=
  k0_pay13 (outAt21 m c t0_0) (k0_pay8 (iblk m c 0 t0_0) (iblk m c 1 t0_0) (iblk m c 11 t0_0)) (iblk m c 17 t0_0) (iblk m c 3 t0_0)
    (iblk m c 14 t0_0) (iblk m c 20 t0_0) (iblk m c 3 t0_0) (iblk m c 4 t0_0) (iblk m c 5 t0_0)

theorem out25_eq (c : Dev nD) : outAt25 m c t0_0 =
    concatenate S1x768 1 [⟨S1x256, outAt21 m c t0_0⟩, ⟨S1x256, centreK m c⟩, ⟨S1x256, shareK m c⟩]
      concatenates_S1x256_S1x256_S1x256_S1x768_d1 := rfl

theorem shareK_at (c : Dev nD) (j : Fin 256) :
    shareK m c (ix2 0 j) = outAt24 m c t0_0 (ix2 0 0) * outAt22 m c t0_0 (ix2 0 j) := by
  unfold shareK
  rw [pay13_at]
  rfl

theorem centreK_at (c : Dev nD) (j : Fin 256) : centreK m c (ix2 0 j) =
    ∑ a : Fin 2, Ideal.div
      (∑ k : Fin 2000, pull (hidOf m c 512 j * m ((c : Thread nD τ).loc main_arg8) (ix2 0 0)) (m ((c : Thread nD τ).loc main_arg6) (ix2 k a))
        (m ((c : Thread nD τ).loc main_arg7) (ix1 k)) * m ((c : Thread nD τ).loc main_arg6) (ix2 k a))
      (∑ k : Fin 2000, pull (hidOf m c 512 j * m ((c : Thread nD τ).loc main_arg8) (ix2 0 0)) (m ((c : Thread nD τ).loc main_arg6) (ix2 k a))
        (m ((c : Thread nD τ).loc main_arg7) (ix1 k))) := by
  unfold centreK
  rw [pay14_at, Fin.sum_univ_two]
  simp only [coord0_at, coord1_at, out21_at, iblk6, iblk8]

end Cert.KernelIdeal.Seq
-- ==== Proof.Seq.MixReference.lean ====
/-
  The recurrent call's last result: the reference's side.
-/
module

public import proofs.«01_k».proof.Proof.Seq.ResReference
public import proofs.«01_k».proof.Proof.Seq.Centre

@[expose] public section

set_option maxRecDepth 16384

noncomputable section

namespace Cert.ReferenceIdeal.Seq

open Cert.ReferenceIdeal Cert.ReferenceIdeal.Gen Cert.ReferenceIdeal.Value Idealize.ShloMosaic Idealize.ShloMosaic.TcCoe Idealize.SL.Sem Cert.Seq
open Idealize.ShloMosaic.StableHlo Idealize.ShloMosaic.HostLoop

/-- The places' weights for every entry of the state and each of the two coordinates. -/
def weightsR (h : (⟨S1x256, .f32⟩ : BufTy).Contents (Elt Ideal)) (w : (⟨S1x1, .f32⟩ : BufTy).Contents (Elt Ideal))
    (p : (⟨S2000x2, .f32⟩ : BufTy).Contents (Elt Ideal)) (d : (⟨S2000, .f32⟩ : BufTy).Contents (Elt Ideal)) :
    (⟨S2000x256x2, .f32⟩ : BufTy).Contents (Elt Ideal) :=
  (Host.exp (F := Ideal) (φ := .f32) (mulf (mulf (broadcastInDim S2000x256x2 ![0, 1, 2] bcast_S1x256x1_S2000x256x2_0_1_2 (broadcastInDim S1x256x1 ![1, 2] bcast_S256x1_S1x256x1_1_2 (mulf (transpose S256x1 [1, 0] h transposes_S1x256_S256x1_1_0) (broadcastInDim S256x1 ![0, 1] bcast_S1x1_S256x1_0_1 w)))) (broadcastInDim S2000x256x2 ![0, 1, 2] bcast_S2000x1x2_S2000x256x2_0_1_2 (broadcastInDim S2000x1x2 ![0, 2] bcast_S2000x2_S2000x1x2_0_2 p))) (broadcastInDim S2000x256x2 ![0, 1, 2] bcast_S2000x1x1_S2000x256x2_0_1_2 (broadcastInDim S2000x1x1 ![0] bcast_S2000_S2000x1x1_0 (Host.exp (F := Ideal) (φ := .f32) (Host.divf (Host.negf d) (broadcastInDim S2000 ![] bcast_S_S2000 (constant S_ .f32 0x40000000#32))))))))

theorem weightsR_at (h : (⟨S1x256, .f32⟩ : BufTy).Contents (Elt Ideal)) (w : (⟨S1x1, .f32⟩ : BufTy).Contents (Elt Ideal))
    (p : (⟨S2000x2, .f32⟩ : BufTy).Contents (Elt Ideal)) (d : (⟨S2000, .f32⟩ : BufTy).Contents (Elt Ideal)) (k : Fin 2000) (j : Fin 256) (a : Fin 2) :
    weightsR h w p d (ix3 k j a) = pull (h (ix2 0 j) * w (ix2 0 0)) (p (ix2 k a)) (d (ix1 k)) := by
  pointwise [weightsR]
  rfl

/-- The weighted places of both coordinates together. -/
def centreR (h : (⟨S1x256, .f32⟩ : BufTy).Contents (Elt Ideal)) (w : (⟨S1x1, .f32⟩ : BufTy).Contents (Elt Ideal))
    (p : (⟨S2000x2, .f32⟩ : BufTy).Contents (Elt Ideal)) (d : (⟨S2000, .f32⟩ : BufTy).Contents (Elt Ideal)) :
    (⟨S1x256, .f32⟩ : BufTy).Contents (Elt Ideal) :=
  (broadcastInDim S1x256 ![1] bcast_S256_S1x256_1 (Host.reduceAdd (F := Ideal) (φ := .f32) (Host.reduceAdd (F := Ideal) (φ := .f32) (mulf (Host.divf (weightsR h w p d) (broadcastInDim S2000x256x2 ![0, 1, 2] bcast_S1x256x2_S2000x256x2_0_1_2 (broadcastInDim S1x256x2 ![1, 2] bcast_S256x2_S1x256x2_1_2 (Host.reduceAdd (F := Ideal) (φ := .f32) (weightsR h w p d) (constant S_ .f32 0x00000000#32) reducesTo_S2000x256x2_S256x2_d0 h_S_)))) (broadcastInDim S2000x256x2 ![0, 1, 2] bcast_S2000x1x2_S2000x256x2_0_1_2 (broadcastInDim S2000x1x2 ![0, 2] bcast_S2000x2_S2000x1x2_0_2 p))) (constant S_ .f32 0x00000000#32) reducesTo_S2000x256x2_S256x2_d0 h_S_) (constant S_ .f32 0x00000000#32) reducesTo_S256x2_S256_d1 h_S_))

theorem centreR_at (h : (⟨S1x256, .f32⟩ : BufTy).Contents (Elt Ideal)) (w : (⟨S1x1, .f32⟩ : BufTy).Contents (Elt Ideal))
    (p : (⟨S2000x2, .f32⟩ : BufTy).Contents (Elt Ideal)) (d : (⟨S2000, .f32⟩ : BufTy).Contents (Elt Ideal)) (j : Fin 256) :
    centreR h w p d (ix2 0 j) = ∑ a : Fin 2, ∑ k : Fin 2000,
      Ideal.div (weightsR h w p d (ix3 k j a)) (∑ l : Fin 2000, weightsR h w p d (ix3 l j a)) * p (ix2 k a) := by
  pointwise [centreR]

/-- The period state's share. -/
def shareR (a : (⟨S1x1, .f32⟩ : BufTy).Contents (Elt Ideal)) (p : (⟨S1x256, .f32⟩ : BufTy).Contents (Elt Ideal)) :
    (⟨S1x256, .f32⟩ : BufTy).Contents (Elt Ideal) :=
  mulf (F := Ideal) (φ := .f32) (broadcastInDim S1x256 ![0, 1] bcast_S1x1_S1x256_0_1 a) p

/-- The three parts side by side. -/
theorem v82_eq (V : Valuation τ sig (Elt Ideal)) : out_main_v82 V =
    concatenate S1x768 1 [⟨S1x256, ((V (Proc.devRef .tc main_v4_13)) : (⟨S1x256, .f32⟩ : BufTy).Contents (Elt Ideal))⟩,
      ⟨S1x256, (centreR (V (Proc.devRef .tc main_v4_13)) (V (Proc.devRef .tc main_arg8)) (V (Proc.devRef .tc main_arg6)) (V (Proc.devRef .tc main_arg7)) : (⟨S1x256, .f32⟩ : BufTy).Contents (Elt Ideal))⟩,
      ⟨S1x256, (shareR (out_main_v79 V) (out_main_v70 V) : (⟨S1x256, .f32⟩ : BufTy).Contents (Elt Ideal))⟩]
      concatenates_S1x256_S1x256_S1x256_S1x768_d1 := rfl

theorem share_at (a : (⟨S1x1, .f32⟩ : BufTy).Contents (Elt Ideal)) (p : (⟨S1x256, .f32⟩ : BufTy).Contents (Elt Ideal)) (j : Fin 256) :
    shareR a p (ix2 0 j) = (a (ix2 0 0) * p (ix2 0 j) : EReal) := by
  pointwise [shareR]

variable (m : (ℓ : Loc nD τ sig) → Buf (Elt Ideal) ℓ)

theorem centreV_at (c : Dev nD) (j : Fin 256) :
    centreR ((STEP^[512] (entryContents preI m c)) (Proc.devRef .tc main_v4_13)) ((STEP^[512] (entryContents preI m c)) (Proc.devRef .tc main_arg8))
        ((STEP^[512] (entryContents preI m c)) (Proc.devRef .tc main_arg6)) ((STEP^[512] (entryContents preI m c)) (Proc.devRef .tc main_arg7)) (ix2 0 j) =
      ∑ a : Fin 2, ∑ k : Fin 2000,
        Ideal.div (pull (hidOf m c 512 j * m ((c.tc : Thread nD τ).loc main_arg8) (ix2 0 0)) (m ((c.tc : Thread nD τ).loc main_arg6) (ix2 k a))
            (m ((c.tc : Thread nD τ).loc main_arg7) (ix1 k)))
          (∑ l : Fin 2000, pull (hidOf m c 512 j * m ((c.tc : Thread nD τ).loc main_arg8) (ix2 0 0)) (m ((c.tc : Thread nD τ).loc main_arg6) (ix2 l a))
            (m ((c.tc : Thread nD τ).loc main_arg7) (ix1 l))) * m ((c.tc : Thread nD τ).loc main_arg6) (ix2 k a) := by
  rw [centreR_at, iter_main_arg8, iter_main_arg6, iter_main_arg7]
  simp only [weightsR_at]
  rw [show ((STEP^[512] (entryContents preI m c)) (Proc.devRef .tc main_v4_13)) (ix2 0 j) = hidOf m c 512 j from iter_at m c 512 le_rfl j]

end Cert.ReferenceIdeal.Seq
-- ==== Proof.Seq.Given.lean ====
/-
  What the recurrent call's precondition says, entry by entry.
-/
module

public import proofs.«01_k».proof.Proof.Seq.Centre
public import proofs.«01_k».proof.Proof.Gen.Pre_located
public import Idealize.ShloMosaic.Lib.Pipeline.ValueKit

@[expose] public section

set_option maxRecDepth 16384

noncomputable section

namespace Cert.Pre_located

open Cert.Pre_located Cert.Pre_located.Gen Idealize.ShloMosaic Idealize.ShloMosaic.TcCoe Idealize.SL.Sem Cert.Seq

/-- A value whose magnitude is below infinity is a number. -/
theorem real_of (z : EReal) (h : BitVec.ofBool (decide (FloatOps.absf (F := Ideal) (φ := .f32) z < Ideal.ofBits .f32 0x7F800000#32)) = 1#1) :
    ∃ r : ℝ, z = (r : EReal) := by
  rw [infinity_f32] at h
  induction z using EReal.rec with
  | bot =>
    revert h
    show BitVec.ofBool (decide (max (⊥ : EReal) (-⊥) < ⊤)) = 1#1 → _
    simp
  | top =>
    revert h
    show BitVec.ofBool (decide (max (⊤ : EReal) (-⊤) < ⊤)) = 1#1 → _
    simp
  | coe r => exact ⟨r, rfl⟩

variable [Facts]

theorem row_of (x : FVec Ideal S1x256 .f32) (j : Fin 256)
    (e : cmpf .olt (Host.absf x) (broadcastInDim S1x256 ![] bcast_S_S1x256 (constant S_ .f32 0x7F800000#32)) (ix2 0 j) = 1#1) :
    ∃ r : ℝ, x (ix2 0 j) = (r : EReal) := by
  revert e
  pointwise
  exact real_of _

theorem place_of (x : FVec Ideal S2000x2 .f32) (k : Fin 2000) (a : Fin 2)
    (e : cmpf .olt (Host.absf x) (broadcastInDim S2000x2 ![] bcast_S_S2000x2 (constant S_ .f32 0x7F800000#32)) (ix2 k a) = 1#1) :
    ∃ r : ℝ, x (ix2 k a) = (r : EReal) := by
  revert e
  pointwise
  exact real_of _

theorem distance_of (x : FVec Ideal S2000 .f32) (k : Fin 2000)
    (e : cmpf .olt (Host.absf x) (broadcastInDim S2000 ![] bcast_S_S2000 (constant S_ .f32 0x7F800000#32)) (ix1 k) = 1#1) :
    ∃ r : ℝ, x (ix1 k) = (r : EReal) := by
  revert e
  pointwise
  exact real_of _

theorem scale_of (x : FVec Ideal S1x1 .f32)
    (e : cmpf .olt (Host.absf x) (broadcastInDim S1x1 ![] bcast_S_S1x1 (constant S_ .f32 0x7F800000#32)) (ix2 0 0) = 1#1) :
    ∃ r : ℝ, x (ix2 0 0) = (r : EReal) := by
  revert e
  pointwise
  exact real_of _

variable (x0 : FVec Ideal S512x8 .f32) (x1 : FVec Ideal S1x256 .f32) (x2 : FVec Ideal S1x1 .f32) (x3 : FVec Ideal S1x256 .f32) (x4 : FVec Ideal S1x1 .f32) (x5 : FVec Ideal S1x1 .f32) (x6 : FVec Ideal S2000x2 .f32) (x7 : FVec Ideal S2000 .f32) (x8 : FVec Ideal S1x1 .f32) (x9 : FVec Ideal S768x8 .f32) (x10 : FVec Ideal S768x256 .f32) (x11 : FVec Ideal S768 .f32) (x12 : FVec Ideal S768 .f32) (x13 : FVec Ideal S768x9 .f32) (x14 : FVec Ideal S768x256 .f32) (x15 : FVec Ideal S768 .f32) (x16 : FVec Ideal S768 .f32) (x17 : FVec Ideal S768x9 .f32) (x18 : FVec Ideal S768x256 .f32) (x19 : FVec Ideal S768 .f32) (x20 : FVec Ideal S768 .f32)

theorem state (h : (fn (F := Ideal) x0 x1 x2 x3 x4 x5 x6 x7 x8 x9 x10 x11 x12 x13 x14 x15 x16 x17 x18 x19 x20).1 = fun _ => 1#1) (j : Fin 256) : ∃ r : ℝ, x1 (ix2 0 j) = (r : EReal) :=
  row_of x1 j (congrFun h (ix2 0 j))

theorem places (h : (fn (F := Ideal) x0 x1 x2 x3 x4 x5 x6 x7 x8 x9 x10 x11 x12 x13 x14 x15 x16 x17 x18 x19 x20).2.1 = fun _ => 1#1) (k : Fin 2000) (a : Fin 2) : ∃ r : ℝ, x6 (ix2 k a) = (r : EReal) :=
  place_of x6 k a (congrFun h (ix2 k a))

theorem distances (h : (fn (F := Ideal) x0 x1 x2 x3 x4 x5 x6 x7 x8 x9 x10 x11 x12 x13 x14 x15 x16 x17 x18 x19 x20).2.2.1 = fun _ => 1#1) (k : Fin 2000) : ∃ r : ℝ, x7 (ix1 k) = (r : EReal) :=
  distance_of x7 k (congrFun h (ix1 k))

theorem scale (h : (fn (F := Ideal) x0 x1 x2 x3 x4 x5 x6 x7 x8 x9 x10 x11 x12 x13 x14 x15 x16 x17 x18 x19 x20).2.2.2 = fun _ => 1#1) : ∃ r : ℝ, x8 (ix2 0 0) = (r : EReal) :=
  scale_of x8 (congrFun h (ix2 0 0))

end Cert.Pre_located
-- ==== Proof.Seq.MixResult.lean ====
/-
  The recurrent call against the reference, all five results, where the state, the places and the scale are finite.
-/
module

public import proofs.«01_k».proof.Proof.Seq.Result
public import proofs.«01_k».proof.Proof.Seq.MixKernel
public import proofs.«01_k».proof.Proof.Seq.MixReference
public import proofs.«01_k».proof.Proof.Seq.Given

@[expose] public section

set_option maxRecDepth 16384

noncomputable section

namespace Cert.SeqResult

open Idealize.ShloMosaic Idealize.ShloMosaic.TcCoe Idealize.SL.Sem Cert.Seq
open Idealize.ShloMosaic.StableHlo Idealize.ShloMosaic.HostLoop

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

theorem Agree.first (h : Agree m m' c) : (Cert.ReferenceIdeal.Value.STEP^[512] (entryContents Cert.ReferenceIdeal.Value.preI m' c)) (Proc.devRef .tc Cert.ReferenceIdeal.main_v4_13) = Cert.KernelIdeal.Seq.outAt21 m c Cert.KernelIdeal.Gen.t0_0 := by
  funext i
  rw [ix_row i]
  exact (Cert.ReferenceIdeal.Seq.iter_at m' c 512 le_rfl (i 1)).trans
        ((congrFun (congrFun h.hid 512) (i 1)).trans (Cert.KernelIdeal.Seq.out21_at m c (i 1)).symm)

theorem Agree.second (h : Agree m m' c) : Cert.ReferenceIdeal.Value.out_main_v70 (Cert.ReferenceIdeal.Value.STEP^[512] (entryContents Cert.ReferenceIdeal.Value.preI m' c)) = Cert.KernelIdeal.Seq.outAt22 m c Cert.KernelIdeal.Gen.t0_0 := by
  funext i
  rw [ix_row i]
  exact (Cert.ReferenceIdeal.Seq.ph_at m' c (i 1)).trans
        ((congrFun h.ph (i 1)).trans (Cert.KernelIdeal.Seq.out22_at m c (i 1)).symm)

theorem Agree.third (h : Agree m m' c) : Cert.ReferenceIdeal.Value.out_main_v77 (Cert.ReferenceIdeal.Value.STEP^[512] (entryContents Cert.ReferenceIdeal.Value.preI m' c)) = Cert.KernelIdeal.Seq.outAt23 m c Cert.KernelIdeal.Gen.t0_0 := by
  funext i
  refine (Cert.ReferenceIdeal.Seq.qhh_at m' c i).trans (Eq.trans ?_ (Cert.KernelIdeal.Seq.out23_at m c i).symm)
  rw [h.hid, h.ph, h.2.2.2.2.1]

theorem Agree.fourth (h : Agree m m' c) : Cert.ReferenceIdeal.Value.out_main_v79 (Cert.ReferenceIdeal.Value.STEP^[512] (entryContents Cert.ReferenceIdeal.Value.preI m' c)) = Cert.KernelIdeal.Seq.outAt24 m c Cert.KernelIdeal.Gen.t0_0 := by
  funext i
  refine (Cert.ReferenceIdeal.Seq.aH_at m' c i).trans (Eq.trans ?_ (Cert.KernelIdeal.Seq.out24_at m c i).symm)
  rw [h.hid, h.ph, h.2.2.2.2.1, h.2.2.2.2.2.1]

/-- The weighted places agree where everything they read is finite. -/
theorem Agree.centre (h : Agree m m' c)
    (hs : ∀ j : Fin 256, ∃ r : ℝ, (m ((c.tc : Thread Cert.KernelIdeal.nD Cert.KernelIdeal.τ).loc Cert.KernelIdeal.main_arg1) (ix2 0 j) : EReal) = (r : EReal))
    (hp : ∀ (k : Fin 2000) (a : Fin 2), ∃ r : ℝ, (m ((c.tc : Thread Cert.KernelIdeal.nD Cert.KernelIdeal.τ).loc Cert.KernelIdeal.main_arg6) (ix2 k a) : EReal) = (r : EReal))
    (hd : ∀ k : Fin 2000, ∃ r : ℝ, (m ((c.tc : Thread Cert.KernelIdeal.nD Cert.KernelIdeal.τ).loc Cert.KernelIdeal.main_arg7) (ix1 k) : EReal) = (r : EReal))
    (hw : ∃ r : ℝ, (m ((c.tc : Thread Cert.KernelIdeal.nD Cert.KernelIdeal.τ).loc Cert.KernelIdeal.main_arg8) (ix2 0 0) : EReal) = (r : EReal)) :
    Cert.ReferenceIdeal.Seq.centreR ((Cert.ReferenceIdeal.Value.STEP^[512] (entryContents Cert.ReferenceIdeal.Value.preI m' c)) (Proc.devRef .tc Cert.ReferenceIdeal.main_v4_13)) ((Cert.ReferenceIdeal.Value.STEP^[512] (entryContents Cert.ReferenceIdeal.Value.preI m' c)) (Proc.devRef .tc Cert.ReferenceIdeal.main_arg8))
      ((Cert.ReferenceIdeal.Value.STEP^[512] (entryContents Cert.ReferenceIdeal.Value.preI m' c)) (Proc.devRef .tc Cert.ReferenceIdeal.main_arg6)) ((Cert.ReferenceIdeal.Value.STEP^[512] (entryContents Cert.ReferenceIdeal.Value.preI m' c)) (Proc.devRef .tc Cert.ReferenceIdeal.main_arg7)) = Cert.KernelIdeal.Seq.centreK m c := by
  funext i
  rw [ix_row i]
  refine (Cert.ReferenceIdeal.Seq.centreV_at m' c (i 1)).trans (Eq.trans ?_ (Cert.KernelIdeal.Seq.centreK_at m c (i 1)).symm)
  have e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) := h.2.2.2.2.2.2.1
  have e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) := h.2.2.2.2.2.2.2.1
  have e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) := h.2.2.2.2.2.2.2.2.1
  rw [h.hid, e6, e7, e8]
  refine Finset.sum_congr rfl fun a _ => (centre_eq _ _ (fun k => ?_) (fun k => hp k a)).symm
  obtain ⟨q, hq⟩ := hid_real _ _ _ _ _ _ _ _ _ _ _ hs 512 (i 1)
  obtain ⟨w, hw⟩ := hw
  obtain ⟨p, hp⟩ := hp k a
  obtain ⟨d, hd⟩ := hd k
  have hx := pull_real (q * w) p d
  rw [EReal.coe_mul] at hx
  rw [hp, hd, hw]
  exact (congrArg (fun z : EReal => ∃ r : ℝ, 0 < r ∧ pull (z * (w : EReal)) (p : EReal) (d : EReal) = (r : EReal)) hq).mpr hx

/-- The period state's shares agree. -/
theorem Agree.share (h : Agree m m' c) :
    Cert.ReferenceIdeal.Seq.shareR (Cert.ReferenceIdeal.Value.out_main_v79 (Cert.ReferenceIdeal.Value.STEP^[512] (entryContents Cert.ReferenceIdeal.Value.preI m' c)))
      (Cert.ReferenceIdeal.Value.out_main_v70 (Cert.ReferenceIdeal.Value.STEP^[512] (entryContents Cert.ReferenceIdeal.Value.preI m' c))) = Cert.KernelIdeal.Seq.shareK m c := by
  funext i
  rw [ix_row i]
  refine (Cert.ReferenceIdeal.Seq.share_at _ _ (i 1)).trans (Eq.trans ?_ (Cert.KernelIdeal.Seq.shareK_at m c (i 1)).symm)
  rw [h.second, h.fourth]

theorem Agree.fifth (h : Agree m m' c)
    (hs : ∀ j : Fin 256, ∃ r : ℝ, (m ((c.tc : Thread Cert.KernelIdeal.nD Cert.KernelIdeal.τ).loc Cert.KernelIdeal.main_arg1) (ix2 0 j) : EReal) = (r : EReal))
    (hp : ∀ (k : Fin 2000) (a : Fin 2), ∃ r : ℝ, (m ((c.tc : Thread Cert.KernelIdeal.nD Cert.KernelIdeal.τ).loc Cert.KernelIdeal.main_arg6) (ix2 k a) : EReal) = (r : EReal))
    (hd : ∀ k : Fin 2000, ∃ r : ℝ, (m ((c.tc : Thread Cert.KernelIdeal.nD Cert.KernelIdeal.τ).loc Cert.KernelIdeal.main_arg7) (ix1 k) : EReal) = (r : EReal))
    (hw : ∃ r : ℝ, (m ((c.tc : Thread Cert.KernelIdeal.nD Cert.KernelIdeal.τ).loc Cert.KernelIdeal.main_arg8) (ix2 0 0) : EReal) = (r : EReal)) :
    Cert.ReferenceIdeal.Value.out_main_v82 (Cert.ReferenceIdeal.Value.STEP^[512] (entryContents Cert.ReferenceIdeal.Value.preI m' c)) = Cert.KernelIdeal.Seq.outAt25 m c Cert.KernelIdeal.Gen.t0_0 := by
  rw [Cert.ReferenceIdeal.Seq.v82_eq, Cert.KernelIdeal.Seq.out25_eq, h.first, ← h.centre hs hp hd hw, ← h.share, h.first]

end

theorem algebraic_located : Cert.algebraic_KernelIdeal_ReferenceIdeal_pre_located := by
  intro m g m' g' hpre hagree
  have hA : ∀ c, Agree m m' c := hagree
  refine ⟨fun c => Cert.KernelIdeal.Seq.outAt21 m c Cert.KernelIdeal.Gen.t0_0, fun c => Cert.KernelIdeal.Seq.outAt22 m c Cert.KernelIdeal.Gen.t0_0,
    fun c => Cert.KernelIdeal.Seq.outAt23 m c Cert.KernelIdeal.Gen.t0_0, fun c => Cert.KernelIdeal.Seq.outAt24 m c Cert.KernelIdeal.Gen.t0_0,
    fun c => Cert.KernelIdeal.Seq.outAt25 m c Cert.KernelIdeal.Gen.t0_0, ?_, ?_⟩
  · refine (θ_run _ _ _).mono (fun r h c => ?_) (kernel_run m g)
    obtain ⟨h0, h1, h2, h3, h4⟩ := h.1 c
    exact ⟨h0, h1, h2, h3, h4, h.2 c⟩
  · refine (θ_run _ _ _).mono (fun r h c => ?_) (Cert.ReferenceIdeal.Value.run m' g')
    obtain ⟨h0, h1, h2, h3, h4, hrest⟩ := h c
    obtain ⟨p1, p6, p7, p8⟩ := hpre c
    exact ⟨h0.trans (hA c).first, h1.trans (hA c).second, h2.trans (hA c).third, h3.trans (hA c).fourth,
      h4.trans ((hA c).fifth (Cert.Pre_located.state _ _ _ _ _ _ _ _ _ _ _ _ _ _ _ _ _ _ _ _ _ p1) (Cert.Pre_located.places _ _ _ _ _ _ _ _ _ _ _ _ _ _ _ _ _ _ _ _ _ p6)
        (Cert.Pre_located.distances _ _ _ _ _ _ _ _ _ _ _ _ _ _ _ _ _ _ _ _ _ p7) (Cert.Pre_located.scale _ _ _ _ _ _ _ _ _ _ _ _ _ _ _ _ _ _ _ _ _ p8)), hrest⟩

end Cert.SeqResult

end
-- ==== Proof.Gat1.Core.lean ====
/-
  One row of one attention head over the extended reals: the factored exponentials over the edges against the softmax of the
  masked scores.
-/
module

public import Idealize.ShloMosaic.Lib.Pipeline.ValueKit

@[expose] public section

noncomputable section

namespace Cert.Gat1

open Idealize.ShloMosaic

/-- The scores' slope below zero. -/
def slope : EReal := Ideal.ofBits .f32 0x3E4CCCCD#32

theorem slope_real : ∃ c : ℝ, slope = (c : EReal) ∧ 0 < c ∧ c < 1 := by
  refine ⟨13421773 / 67108864, ?_, by norm_num, by norm_num⟩
  simp [slope, Ideal.ofBits, Ideal.ieee, -EReal.coe_mul]
  norm_num

theorem minus_infinity_f32 : Ideal.ofBits .f32 0xFF800000#32 = ⊥ := by
  simp [Ideal.ofBits, Ideal.ieee]

/-- An edge's unnormalised weight, its exponentials factored into the two ends'. -/
def weight (f g e : EReal) : EReal :=
  max (Ideal.exp f * Ideal.exp g) (Ideal.exp (slope * f) * Ideal.exp (slope * g)) * e

/-- An edge's masked score. -/
def score (f g e : EReal) : EReal := if 0 < e then (if 0 ≤ f + g then f + g else slope * (f + g)) else ⊥

/-- The larger of the two exponentials is the exponential of the leaky score. -/
theorem max_exp (c f g : ℝ) (h0 : 0 < c) (h1 : c < 1) :
    max (Real.exp f * Real.exp g) (Real.exp (c * f) * Real.exp (c * g)) =
      Real.exp (if 0 ≤ f + g then f + g else c * (f + g)) := by
  rw [← Real.exp_add, ← Real.exp_add, ← mul_add]
  split_ifs with h
  · exact max_eq_left (Real.exp_le_exp.2 (by nlinarith))
  · exact max_eq_right (Real.exp_le_exp.2 (by nlinarith))

theorem div_real (x y : ℝ) (h : y ≠ 0) : Ideal.div (x : EReal) (y : EReal) = ((x / y : ℝ) : EReal) := by
  rw [Ideal.div_coe h, ← EReal.coe_mul, mul_one_div]

theorem sum_real {ι : Type} (s : Finset ι) (u : ι → ℝ) : ∑ j ∈ s, (u j : EReal) = ((∑ j ∈ s, u j : ℝ) : EReal) := by
  classical
  induction s using Finset.induction_on with
  | empty => simp
  | insert a s ha ih => rw [Finset.sum_insert ha, Finset.sum_insert ha, ih, EReal.coe_add]

variable {ι : Type} [Fintype ι]

theorem max_real (a b : ℝ) : max (a : EReal) (b : EReal) = ((max a b : ℝ) : EReal) :=
  (EReal.coe_strictMono.monotone.map_max).symm

/-- Normalising by the factored weights is attending by the softmax of the masked scores, whatever the row's shift. -/
theorem attend (f : ℝ) (g w : ι → ℝ) (e : ι → EReal) (he : ∀ j, e j = 0 ∨ e j = 1) (j0 : ι) (h0 : e j0 = 1) (μ : ℝ) :
    Ideal.div (∑ j, weight f (g j) (e j) * (w j : EReal)) (∑ j, weight f (g j) (e j) * 1) =
      ∑ j, Ideal.div (Ideal.exp (score f (g j) (e j) - (μ : EReal))) (∑ j', Ideal.exp (score f (g j') (e j') - (μ : EReal))) *
        (w j : EReal) := by
  classical
  obtain ⟨c, hc, hc0, hc1⟩ := slope_real
  let b : ι → ℝ := fun j => if e j = 1 then 1 else 0
  let l : ι → ℝ := fun j => if 0 ≤ f + g j then f + g j else c * (f + g j)
  have hb : ∀ j, e j = (b j : EReal) := fun j => by
    rcases he j with h | h <;> simp [b, h]
  have hw : ∀ j, weight f (g j) (e j) = ((Real.exp (l j) * b j : ℝ) : EReal) := fun j => by
    rw [weight, hb, hc, ← EReal.coe_mul, ← EReal.coe_mul, Ideal.exp_coe, Ideal.exp_coe, Ideal.exp_coe, Ideal.exp_coe,
      ← EReal.coe_mul, ← EReal.coe_mul, max_real, max_exp c f (g j) hc0 hc1, ← EReal.coe_mul]
  have hs : ∀ j, Ideal.exp (score f (g j) (e j) - (μ : EReal)) = ((Real.exp (l j) * b j * Real.exp (-μ) : ℝ) : EReal) := fun j => by
    rcases he j with h | h
    · have : b j = 0 := by simp [b, h]
      rw [score, h, if_neg (lt_irrefl _), this, mul_zero, zero_mul, EReal.bot_sub]
      rfl
    · have h1 : b j = 1 := by simp [b, h]
      have h2 : score f (g j) (e j) = (l j : EReal) := by
        rw [score, h, if_pos zero_lt_one, hc, ← EReal.coe_add, ← EReal.coe_mul]
        by_cases hp : 0 ≤ f + g j
        · rw [if_pos (by exact_mod_cast hp)]; simp only [l, if_pos hp]
        · rw [if_neg (by exact_mod_cast hp)]; simp only [l, if_neg hp]
      rw [h2, ← EReal.coe_sub, Ideal.exp_coe, h1, mul_one, ← Real.exp_add, sub_eq_add_neg]
  have hpos : 0 < ∑ j, Real.exp (l j) * b j := by
    refine Finset.sum_pos' (fun j _ => mul_nonneg (Real.exp_pos _).le (by simp only [b]; split_ifs <;> norm_num)) ⟨j0, Finset.mem_univ _, ?_⟩
    have : b j0 = 1 := by simp [b, h0]
    rw [this, mul_one]
    exact Real.exp_pos _
  have hE := Real.exp_pos (-μ)
  simp only [hw, hs, mul_one, ← EReal.coe_mul, sum_real]
  rw [div_real _ _ hpos.ne']
  have hd : (∑ j, Real.exp (l j) * b j * Real.exp (-μ)) ≠ 0 := by
    rw [← Finset.sum_mul]; exact (mul_pos hpos hE).ne'
  simp only [div_real _ _ hd, ← EReal.coe_mul, sum_real]
  rw [EReal.coe_eq_coe_iff, ← Finset.sum_mul, Finset.sum_div]
  refine Finset.sum_congr rfl fun j _ => ?_
  field_simp

/-- A masked row's greatest score is a number, when the row has an edge. -/
theorem shift_real {κ : Type} (s : Finset κ) (u : κ → EReal) (hu : ∀ j ∈ s, u j ≠ ⊤) (j0 : κ) (hj : j0 ∈ s) (h0 : u j0 ≠ ⊥) :
    ∃ μ : ℝ, max ⊥ (Finset.fold max ⊥ u s) = (μ : EReal) := by
  rw [max_eq_right bot_le]
  have h1 : Finset.fold max ⊥ u s ≠ ⊥ := (bot_lt_iff_ne_bot.1 ((Finset.lt_fold_max _).2 (Or.inr ⟨j0, hj, bot_lt_iff_ne_bot.2 h0⟩)))
  have h2 : Finset.fold max ⊥ u s ≠ ⊤ := (lt_top_iff_ne_top.1 ((Finset.fold_max_lt _).2 ⟨bot_lt_top, fun j h => lt_top_iff_ne_top.2 (hu j h)⟩))
  exact ⟨_, (EReal.coe_toReal h2 h1).symm⟩

theorem score_ne_top (f g : ℝ) (e : EReal) : score f g e ≠ ⊤ := by
  obtain ⟨c, hc, -, -⟩ := slope_real
  rw [score, hc, ← EReal.coe_add, ← EReal.coe_mul]
  split_ifs
  · exact EReal.coe_ne_top _
  · exact EReal.coe_ne_top _
  · exact bot_ne_top

theorem score_ne_bot (f g : ℝ) : score f g 1 ≠ ⊥ := by
  obtain ⟨c, hc, -, -⟩ := slope_real
  rw [score, hc, ← EReal.coe_add, ← EReal.coe_mul, if_pos zero_lt_one]
  split_ifs
  · exact EReal.coe_ne_bot _
  · exact EReal.coe_ne_bot _

/-- A finite family is a family of numbers. -/
theorem lift_real {α : Type} (u : α → EReal) (h : ∀ i, u i ≠ ⊥ ∧ u i ≠ ⊤) : ∃ r : α → ℝ, ∀ i, u i = (r i : EReal) :=
  ⟨fun i => (u i).toReal, fun i => (EReal.coe_toReal (h i).2 (h i).1).symm⟩

/-- The features of node `j` under a head's weights. -/
def feat (x : Fin 4096 → Fin 4 → EReal) (w : Fin 4 → Fin 4 → EReal) (j : Fin 4096) (h : Fin 4) : EReal := ∑ n, x j n * w n h

/-- A node's score as an edge's first end. -/
def src (x : Fin 4096 → Fin 4 → EReal) (w : Fin 4 → Fin 4 → EReal) (a : Fin 8 → EReal) (j : Fin 4096) : EReal :=
  ∑ h : Fin 4, feat x w j h * a ⟨h, by omega⟩

/-- A node's score as an edge's second end. -/
def dst (x : Fin 4096 → Fin 4 → EReal) (w : Fin 4 → Fin 4 → EReal) (a : Fin 8 → EReal) (j : Fin 4096) : EReal :=
  ∑ h : Fin 4, feat x w j h * a ⟨4 + h, by omega⟩

/-- The exponential linear unit. -/
def elu (z : EReal) : EReal := if 0 < z then z else Ideal.exp z - 1

/-- One head's aggregate at a node, normalised by the factored weights. -/
def head (e : Fin 4096 → Fin 4096 → EReal) (x : Fin 4096 → Fin 4 → EReal) (w : Fin 4 → Fin 4 → EReal) (a : Fin 8 → EReal)
    (i : Fin 4096) (h : Fin 4) : EReal :=
  Ideal.div (∑ j, weight (src x w a i) (dst x w a j) (e i j) * feat x w j h) (∑ j, weight (src x w a i) (dst x w a j) (e i j) * 1)

theorem real_sum_mul {n : ℕ} (u v : Fin n → EReal) (hu : ∀ i, u i ≠ ⊥ ∧ u i ≠ ⊤) (hv : ∀ i, v i ≠ ⊥ ∧ v i ≠ ⊤) :
    (∑ i, u i * v i) ≠ ⊥ ∧ (∑ i, u i * v i) ≠ ⊤ := by
  obtain ⟨r, hr⟩ := lift_real u hu
  obtain ⟨s, hs⟩ := lift_real v hv
  simp only [hr, hs, ← EReal.coe_mul, sum_real]
  exact ⟨EReal.coe_ne_bot _, EReal.coe_ne_top _⟩

theorem feat_real (x : Fin 4096 → Fin 4 → EReal) (w : Fin 4 → Fin 4 → EReal) (hx : ∀ i n, x i n ≠ ⊥ ∧ x i n ≠ ⊤)
    (hw : ∀ n h, w n h ≠ ⊥ ∧ w n h ≠ ⊤) (j : Fin 4096) (h : Fin 4) : feat x w j h ≠ ⊥ ∧ feat x w j h ≠ ⊤ :=
  real_sum_mul _ _ (hx j) fun n => hw n h

/-- The head as the softmax of masked scores, the shift being the row's greatest. -/
theorem head_eq (e : Fin 4096 → Fin 4096 → EReal) (x : Fin 4096 → Fin 4 → EReal) (w : Fin 4 → Fin 4 → EReal) (a : Fin 8 → EReal)
    (he : ∀ i j, e i j = 0 ∨ e i j = 1) (hrow : ∀ i, ∃ j, e i j = 1) (hx : ∀ i n, x i n ≠ ⊥ ∧ x i n ≠ ⊤)
    (hw : ∀ n h, w n h ≠ ⊥ ∧ w n h ≠ ⊤) (ha : ∀ q, a q ≠ ⊥ ∧ a q ≠ ⊤) (i : Fin 4096) (h : Fin 4)
    {κ : Type} (s : Finset κ) (u : κ → EReal) (col : κ → Fin 4096)
    (hu : ∀ k ∈ s, u k = score (src x w a i) (dst x w a (col k)) (e i (col k))) (hall : ∀ j, ∃ k ∈ s, col k = j) :
    ∑ j, Ideal.div (Ideal.exp (score (src x w a i) (dst x w a j) (e i j) - max ⊥ (Finset.fold max ⊥ u s)))
        (∑ j', Ideal.exp (score (src x w a i) (dst x w a j') (e i j') - max ⊥ (Finset.fold max ⊥ u s))) * feat x w j h =
      head e x w a i h := by
  obtain ⟨wr, hwr⟩ := lift_real (fun j => feat x w j h) fun j => feat_real x w hx hw j h
  obtain ⟨g, hg⟩ := lift_real (fun j => dst x w a j) fun j => real_sum_mul _ _ (feat_real x w hx hw j) fun _ => ha _
  obtain ⟨fs, hfs⟩ := lift_real (fun j => src x w a j) fun j => real_sum_mul _ _ (feat_real x w hx hw j) fun _ => ha _
  obtain ⟨j0, hj0⟩ := hrow i
  obtain ⟨k0, hk0, hc0⟩ := hall j0
  obtain ⟨μ, hμ⟩ := shift_real s u (fun k hk => by rw [hu k hk, hfs, hg]; exact score_ne_top _ _ _) k0 hk0
    (by rw [hu k0 hk0, hc0, hj0, hfs, hg]; exact score_ne_bot _ _)
  rw [hμ]
  simp only [head, hwr, hg, hfs]
  exact (attend (fs i) g wr (e i) (he i) j0 hj0 μ).symm

end Cert.Gat1
-- ==== Proof.Gat1.Body.lean ====
/-
  One block's results of the first attention layer, from the head values its payloads hold.
-/
module

public import proofs.«01_k».proof.Proof.Gat1.Core
public import proofs.«01_k».proof.Proof.Gen.Kernel2Ideal.Frame

@[expose] public section

set_option maxRecDepth 16384

noncomputable section

namespace Cert.Kernel2Ideal.Gat1

open Cert.Kernel2Ideal Cert.Kernel2Ideal.Gen Idealize.ShloMosaic Idealize.ShloMosaic.TcCoe Idealize.SL.Sem Cert.Gat1

theorem zero2 : (![0, 0] : Fin 2 → ℕ) = fun _ => 0 := by funext i; fin_cases i <;> rfl

/-- What the four heads' factors say of their payloads: node features, the two ends' exponentials, and the column of ones. -/
structure Factors (v4 : FVec Ideal S4096x16 .f32) (v20 v23 : FVec Ideal S256x4 .f32) (v24 v27 : FVec Ideal S4x4096 .f32)
    (v28 : FVec Ideal S4096x1 .f32) (ft : Fin 4 → Fin 4096 → Fin 4 → EReal) (f : Fin 4 → Fin 256 → EReal)
    (g : Fin 4 → Fin 4096 → EReal) : Prop where
  feat : ∀ (j : Fin 4096) (q : Fin 16), v4 (ix2 j q) = ft ⟨q / 4, by omega⟩ j ⟨q % 4, by omega⟩
  ef : ∀ r k, v20 (ix2 r k) = Ideal.exp (f k r)
  ef' : ∀ r k, v23 (ix2 r k) = Ideal.exp (slope * f k r)
  eg : ∀ k j, v24 (ix2 k j) = Ideal.exp (g k j)
  eg' : ∀ k j, v27 (ix2 k j) = Ideal.exp (slope * g k j)
  one : ∀ j, v28 (ix2 j 0) = (1 : EReal)

/-- A head's aggregate at a block's row. -/
def agg (e : Fin 256 → Fin 4096 → EReal) (ft : Fin 4096 → Fin 4 → EReal) (f : Fin 256 → EReal) (g : Fin 4096 → EReal)
    (r : Fin 256) (h : Fin 4) : EReal :=
  Ideal.div (∑ j, weight (f r) (g j) (e r j) * ft j h) (∑ j, weight (f r) (g j) (e r j) * 1)

variable {v0 : Vec Ideal S256x4096 .f32} {v4 : FVec Ideal S4096x16 .f32} {v20 v23 : FVec Ideal S256x4 .f32}
  {v24 v27 : FVec Ideal S4x4096 .f32} {v28 : FVec Ideal S4096x1 .f32} {ft : Fin 4 → Fin 4096 → Fin 4 → EReal}
  {f : Fin 4 → Fin 256 → EReal} {g : Fin 4 → Fin 4096 → EReal}

theorem head1 (H : Factors v4 v20 v23 v24 v27 v28 ft f g) (r : Fin 256) (h : Fin 4) :
    k0_pay12 v0 v4 v20 v23 v24 v27 v28 (ix2 r h) = elu (agg (fun r j => v0 (ix2 r j)) (ft 1) (f 1) (g 1) r h) := by
  pointwise [k0_pay12]
  have e4 : ∀ j p, v4 (ix2 j ⟨4 + h, p⟩) = ft 1 j h := fun j p => (H.feat j _).trans (by congr 1 <;> [skip; skip] <;> ext <;> simp <;> omega)
  simp only [H.ef, H.ef', H.eg, H.eg', H.one, e4]
  rfl

theorem head0 (H : Factors v4 v20 v23 v24 v27 v28 ft f g) (v31 v32 : FVec Ideal S256x4096 .f32)
    (h31 : ∀ r j, v31 (ix2 r j) = v20 (ix2 r 0)) (h32 : ∀ r j, v32 (ix2 r j) = v24 (ix2 0 j)) (r : Fin 256) (h : Fin 4) :
    k0_pay11 v0 v4 v23 v27 v28 v31 v32 (ix2 r h) = elu (agg (fun r j => v0 (ix2 r j)) (ft 0) (f 0) (g 0) r h) := by
  pointwise [k0_pay11]
  have e4 : ∀ j p, v4 (ix2 j ⟨h, p⟩) = ft 0 j h := fun j p => (H.feat j _).trans (by congr 1 <;> [skip; skip] <;> ext <;> simp <;> omega)
  simp only [h31, h32, H.ef, H.ef', H.eg, H.eg', H.one, e4]
  rfl

/-- The block of results: every head's activation through the output weights. -/
theorem pay16_at (H : Factors v4 v20 v23 v24 v27 v28 ft f g) (v53 v78 : FVec Ideal S256x4 .f32)
    (h53 : ∀ r h, v53 (ix2 r h) = elu (agg (fun r j => v0 (ix2 r j)) (ft 0) (f 0) (g 0) r h))
    (h78 : ∀ r h, v78 (ix2 r h) = elu (agg (fun r j => v0 (ix2 r j)) (ft 1) (f 1) (g 1) r h))
    (v130 : Vec Ideal S16x2 .f32) (r : Fin 256) (o : Fin 2) :
    k0_pay16 v0 v4 v20 v23 v24 v27 v28 v53 v78 (k0_pay13 v20 v24) (k0_pay14 v27) (k0_pay15 v23) v130 (ix2 r o) =
      ∑ q : Fin 16, elu (agg (fun r j => v0 (ix2 r j)) (ft ⟨q / 4, by omega⟩) (f ⟨q / 4, by omega⟩) (g ⟨q / 4, by omega⟩) r ⟨q % 4, by omega⟩) *
        v130 (ix2 q o) := by
  pointwise [k0_pay16, k0_pay13, k0_pay14, k0_pay15]
  refine Finset.sum_congr rfl fun q _ => ?_
  refine congrArg (· * v130 (ix2 q o)) ?_
  simp only [H.ef, H.ef', H.eg, H.eg', H.one, h53, h78]
  fin_cases q <;> simp only [Nat.reduceLT, Nat.reduceSub, ↓reduceDIte, H.feat] <;> rfl

end Cert.Kernel2Ideal.Gat1
-- ==== Proof.Gat1.Block.lean ====
/-
  One block's results of the first attention layer over the edges, the nodes, the heads' weights and vectors.
-/
module

public import proofs.«01_k».proof.Proof.Gat1.Body

@[expose] public section

set_option maxRecDepth 16384

noncomputable section

namespace Cert.Kernel2Ideal.Gat1

open Cert.Kernel2Ideal Cert.Kernel2Ideal.Gen Idealize.ShloMosaic Idealize.ShloMosaic.TcCoe Idealize.SL.Sem Cert.Gat1

/-- A head's four coordinates picked out of the sixteen. -/
theorem pick (u : Fin 16 → EReal) (v : Fin 4 → Fin 4 → EReal) (k : Fin 4) :
    (∑ q : Fin 16, u q * (if q.val / 4 = k.val then v k ⟨q % 4, by omega⟩ else 0)) = ∑ h : Fin 4, u ⟨4 * k + h, by omega⟩ * v k h := by
  fin_cases k <;> simp [Fin.sum_univ_succ]

/-- What a block's operands hold: its rows of the edges and nodes, all the nodes, the heads' weights and vectors laid side by side. -/
structure Operands (x0 : Vec Ideal S256x4096 .f32) (x1 : Vec Ideal S4096x4 .f32) (x2 : Vec Ideal S256x4 .f32) (x3 : Vec Ideal S4x4096 .f32)
    (x4 : Vec Ideal S4x16 .f32) (x5 : Vec Ideal S16x4 .f32) (x6 : Vec Ideal S16x4 .f32) (x7 : Vec Ideal S4x16 .f32) (x8 : Vec Ideal S16x2 .f32)
    (e : Fin 4096 → Fin 4096 → EReal) (x : Fin 4096 → Fin 4 → EReal) (w : Fin 4 → Fin 4 → Fin 4 → EReal) (a : Fin 4 → Fin 8 → EReal)
    (o : Fin 16 → Fin 2 → EReal) (i : Fin 256 → Fin 4096) : Prop where
  edges : ∀ r j, x0 (ix2 r j) = e (i r) j
  nodes : ∀ j n, x1 (ix2 j n) = x j n
  rows : ∀ r n, x2 (ix2 r n) = x (i r) n
  nodesT : ∀ n j, x3 (ix2 n j) = x j n
  weights : ∀ n (q : Fin 16), x4 (ix2 n q) = w ⟨q / 4, by omega⟩ n ⟨q % 4, by omega⟩
  weightsT : ∀ (q : Fin 16) n, x5 (ix2 q n) = w ⟨q / 4, by omega⟩ n ⟨q % 4, by omega⟩
  ends : ∀ (q : Fin 16) (k : Fin 4), x6 (ix2 q k) = if q.val / 4 = k.val then a k ⟨q % 4, by omega⟩ else 0
  endsT : ∀ (k : Fin 4) (q : Fin 16), x7 (ix2 k q) = if q.val / 4 = k.val then a k ⟨4 + q % 4, by omega⟩ else 0
  out : ∀ q p, x8 (ix2 q p) = o q p

variable {x0 : Vec Ideal S256x4096 .f32} {x1 : Vec Ideal S4096x4 .f32} {x2 : Vec Ideal S256x4 .f32} {x3 : Vec Ideal S4x4096 .f32}
    {x4 : Vec Ideal S4x16 .f32} {x5 : Vec Ideal S16x4 .f32} {x6 : Vec Ideal S16x4 .f32} {x7 : Vec Ideal S4x16 .f32} {x8 : Vec Ideal S16x2 .f32}
    {e : Fin 4096 → Fin 4096 → EReal} {x : Fin 4096 → Fin 4 → EReal} {w : Fin 4 → Fin 4 → Fin 4 → EReal} {a : Fin 4 → Fin 8 → EReal}
    {o : Fin 16 → Fin 2 → EReal} {i : Fin 256 → Fin 4096}

theorem feat_at (H : Operands x0 x1 x2 x3 x4 x5 x6 x7 x8 e x w a o i) (j : Fin 4096) (q : Fin 16) :
    k0_pay1 x1 x4 (ix2 j q) = feat x (w ⟨q / 4, by omega⟩) j ⟨q % 4, by omega⟩ := by
  pointwise [k0_pay1]
  simp only [H.nodes, H.weights]
  rfl

theorem four_feat (k h : Fin 4) (j : Fin 4096) :
    feat x (w ⟨(⟨4 * k + h, by omega⟩ : Fin 16) / 4, by omega⟩) j ⟨(⟨4 * k + h, by omega⟩ : Fin 16) % 4, by omega⟩ = feat x (w k) j h := by
  congr 1 <;> [congr 1; skip] <;> ext <;> simp <;> omega

theorem ends_at (H : Operands x0 x1 x2 x3 x4 x5 x6 x7 x8 e x w a o i) (r : Fin 256) (k : Fin 4) :
    (∑ q : Fin 16, (∑ n : Fin 4, x2 (ix2 r n) * x4 (ix2 n q)) * x6 (ix2 q k)) = src x (w k) (a k) (i r) := by
  simp only [H.rows, H.weights, H.ends]
  refine (pick (fun q => feat x (w ⟨q / 4, by omega⟩) (i r) ⟨q % 4, by omega⟩) (fun k h => a k ⟨h, by omega⟩) k).trans ?_
  exact Finset.sum_congr rfl fun h _ => by rw [four_feat]

theorem endsT_at (H : Operands x0 x1 x2 x3 x4 x5 x6 x7 x8 e x w a o i) (k : Fin 4) (j : Fin 4096) :
    (∑ q : Fin 16, x7 (ix2 k q) * ∑ n : Fin 4, x5 (ix2 q n) * x3 (ix2 n j)) = dst x (w k) (a k) j := by
  simp only [H.nodesT, H.weightsT, H.endsT]
  refine (Finset.sum_congr rfl fun q _ => ?_).trans
    ((pick (fun q => feat x (w ⟨q / 4, by omega⟩) j ⟨q % 4, by omega⟩) (fun k h => a k ⟨4 + h, by omega⟩) k).trans ?_)
  · rw [mul_comm]
    exact congrArg (· * _) (Finset.sum_congr rfl fun n _ => mul_comm _ _)
  · exact Finset.sum_congr rfl fun h _ => by rw [four_feat]

/-- The block's factors, from its operands. -/
theorem factors (H : Operands x0 x1 x2 x3 x4 x5 x6 x7 x8 e x w a o i) :
    Factors (k0_pay1 x1 x4) (k0_pay4 x2 x4 x6) (k0_pay5 x2 x4 x6) (k0_pay6 x5 x3 x7) (k0_pay7 x5 x3 x7) k0_pay8
      (fun k => feat x (w k)) (fun k r => src x (w k) (a k) (i r)) (fun k => dst x (w k) (a k)) where
  feat := feat_at H
  ef r k := by
    rw [← ends_at H]
    pointwise [k0_pay4, k0_pay3]
  ef' r k := by
    rw [← ends_at H]
    pointwise [k0_pay5, k0_pay3]
    rfl
  eg k j := by
    rw [← endsT_at H]
    pointwise [k0_pay6, k0_pay2]
  eg' k j := by
    rw [← endsT_at H]
    pointwise [k0_pay7, k0_pay2]
    rfl
  one j := by
    pointwise [k0_pay8]

/-- A node's results: every head's activation through the output weights. -/
def layer (e : Fin 4096 → Fin 4096 → EReal) (x : Fin 4096 → Fin 4 → EReal) (w : Fin 4 → Fin 4 → Fin 4 → EReal) (a : Fin 4 → Fin 8 → EReal)
    (o : Fin 16 → Fin 2 → EReal) (i : Fin 4096) (p : Fin 2) : EReal :=
  ∑ q : Fin 16, elu (head e x (w ⟨q / 4, by omega⟩) (a ⟨q / 4, by omega⟩) i ⟨q % 4, by omega⟩) * o q p

/-- A block's results as one payload of its operands. -/
def block (x0 : Vec Ideal S256x4096 .f32) (x1 : Vec Ideal S4096x4 .f32) (x2 : Vec Ideal S256x4 .f32) (x3 : Vec Ideal S4x4096 .f32)
    (x4 : Vec Ideal S4x16 .f32) (x5 : Vec Ideal S16x4 .f32) (x6 : Vec Ideal S16x4 .f32) (x7 : Vec Ideal S4x16 .f32) (x8 : Vec Ideal S16x2 .f32) :
    FVec Ideal S256x2 .f32 :=
  k0_pay16 x0 (k0_pay1 x1 x4) (k0_pay4 x2 x4 x6) (k0_pay5 x2 x4 x6) (k0_pay6 x5 x3 x7) (k0_pay7 x5 x3 x7) k0_pay8
    (k0_pay11 x0 (k0_pay1 x1 x4) (k0_pay5 x2 x4 x6) (k0_pay7 x5 x3 x7) k0_pay8 (k0_pay9 x2 x4 x6) (k0_pay10 x5 x3 x7))
    (k0_pay12 x0 (k0_pay1 x1 x4) (k0_pay4 x2 x4 x6) (k0_pay5 x2 x4 x6) (k0_pay6 x5 x3 x7) (k0_pay7 x5 x3 x7) k0_pay8)
    (k0_pay13 (k0_pay4 x2 x4 x6) (k0_pay6 x5 x3 x7)) (k0_pay14 (k0_pay7 x5 x3 x7)) (k0_pay15 (k0_pay5 x2 x4 x6)) x8

theorem block_at (H : Operands x0 x1 x2 x3 x4 x5 x6 x7 x8 e x w a o i) (r : Fin 256) (p : Fin 2) :
    block x0 x1 x2 x3 x4 x5 x6 x7 x8 (ix2 r p) = layer e x w a o (i r) p := by
  unfold block
  have F := factors H
  have e0 : (fun (r : Fin 256) (j : Fin 4096) => x0 (ix2 r j)) = fun r j => e (i r) j := funext fun r => funext fun j => H.edges r j
  rw [pay16_at F _ _ (fun r h => head0 F _ _ (fun r j => by pointwise [k0_pay9, k0_pay4, k0_pay3]) (fun r j => by pointwise [k0_pay10, k0_pay6, k0_pay2]) r h)
    (fun r h => head1 F r h) x8 r p]
  simp only [H.out]
  rw [e0]
  rfl

theorem out9_eq : out0_9 x0 x1 x2 x3 x4 x5 x6 x7 x8 = block x0 x1 x2 x3 x4 x5 x6 x7 x8 := by
  unfold_out out0_9
  rw [View.canon_unit_zero zero2]
  repeat rw [View.ld_unit_zero zero2]
  rfl

theorem out10_at (r : Fin 256) (p : Fin 2) :
    out0_10 x0 x1 x2 x3 x4 x5 x6 x7 x8 (ix2 p r) = block x0 x1 x2 x3 x4 x5 x6 x7 x8 (ix2 r p) := by
  unfold_out out0_10
  rw [View.canon_unit_zero zero2]
  repeat rw [View.ld_unit_zero zero2]
  unfold k0_pay17 block
  pointwise

end Cert.Kernel2Ideal.Gat1
-- ==== Proof.Gat1.Entry.lean ====
/-
  The first attention layer's operand blocks over the launch's arguments.
-/
module

public import proofs.«01_k».proof.Proof.Gat1.Core
public import proofs.«01_k».proof.Proof.Gen.Kernel2Ideal.Frame
public import Idealize.ShloMosaic.Lib.Routing.OpsOne

@[expose] public section

set_option maxRecDepth 16384

noncomputable section

namespace Cert.Kernel2Ideal.Gat1

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The edges, the nodes, a head's weights, its two ends' vectors and the output weights, entry by entry. -/
abbrev ed (i j : Fin 4096) : EReal := m ((c.tc : Thread nD τ).loc main_arg0) (ix2 i j)
abbrev nd (i : Fin 4096) (n : Fin 4) : EReal := m ((c.tc : Thread nD τ).loc main_arg1) (ix2 i n)
abbrev wt (k n h : Fin 4) : EReal := m ((c.tc : Thread nD τ).loc main_arg2) (ix3 k n h)
abbrev av (k : Fin 4) (q : Fin 8) : EReal := m ((c.tc : Thread nD τ).loc main_arg3) (ix3 k q 0)
abbrev ow (q : Fin 16) (o : Fin 2) : EReal := m ((c.tc : Thread nD τ).loc main_arg4) (ix2 q o)

/-- Setting four rows of a column: those entries are the new ones, the others stay. -/
theorem column_at (p k : BitVec 32) (x : S16x4.Idx → EReal) (v : S4.Idx → EReal) (i : Fin 16) (j : Fin 4) :
    Host.scatter scatter_S16x4_S2_S4_0_1_01_0 (fun _ b => b) x
      (concatenate S2 0 [⟨S1, broadcastInDim S1 ![] bcast_S_S1 (constantI S_ 32 p)⟩, ⟨S1, broadcastInDim S1 ![] bcast_S_S1 (constantI S_ 32 k)⟩] concatenates_S1_S1_S2_d0)
      v (ix2 i j) =
    if k.toInt = (j.val : ℤ) ∧ p.toInt ≤ (i.val : ℤ) ∧ (i.val : ℤ) < p.toInt + (4 : ℕ) then
      v (ix1 ⟨((i.val : ℤ) - p.toInt).toNat % 4, Nat.mod_lt _ (by decide)⟩) else x (ix2 i j) :=
  Routing.scatter_column_signed scatter_S16x4_S2_S4_0_1_01_0 (by decide) rfl rfl rfl x _ v (ix2 i j)

theorem zeros_at (i : Fin 16) (j : Fin 4) : (broadcastInDim S16x4 ![] bcast_S_S16x4 (constant (F := Ideal) S_ .f32 0x00000000#32)) (ix2 i j) = (0 : EReal) := by
  pointwise

theorem v8_at (n : Fin 4) (q : Fin 16) : V m c main_v8 (ix2 n q) = wt m c ⟨q / 4, by omega⟩ n ⟨q % 4, by omega⟩ := by
  unfold V
  after_results
  dsimp only [Matrix.cons_val]
  simp (disch := decide) only [↓ StableHlo.readResult, StableHlo.reshape_result', StableHlo.unary_result', StableHlo.reshape_result_ne', StableHlo.unary_result_ne']
  pointwise
  fin_cases q <;> simp only [Nat.reduceLT, Nat.reduceSub, ↓reduceDIte] <;> rfl

theorem v59_at (n : Fin 4) (j : Fin 4096) : V m c main_v59 (ix2 n j) = nd m c j n := by
  unfold V
  entry_read
  pointwise

theorem v60_at (q : Fin 16) (n : Fin 4) : V m c main_v60 (ix2 q n) = V m c main_v8 (ix2 n q) := by
  unfold V
  after_results
  pointwise

theorem v61_at (k : Fin 4) (q : Fin 16) : V m c main_v61 (ix2 k q) = V m c main_v58 (ix2 q k) := by
  unfold V
  after_results
  pointwise
theorem v52_at (q : Fin 16) (k : Fin 4) :
    V m c main_v52 (ix2 q k) = if q.val / 4 = k.val then av m c k ⟨q % 4, by omega⟩ else 0 := by
  unfold V
  entry_read
  pointwise
  rw [column_at, column_at, column_at, column_at, zeros_at]
  fin_cases q <;> fin_cases k <;> simp <;> rfl

theorem v58_at (q : Fin 16) (k : Fin 4) :
    V m c main_v58 (ix2 q k) = if q.val / 4 = k.val then av m c k ⟨4 + q % 4, by omega⟩ else 0 := by
  unfold V
  entry_read
  pointwise
  rw [column_at, column_at, column_at, column_at, zeros_at]
  fin_cases q <;> fin_cases k <;> simp <;> rfl

end Cert.Kernel2Ideal.Gat1
-- ==== Proof.Gat1.Arrays.lean ====
/-
  The first attention layer's result arrays over the launch's arguments.
-/
module

public import proofs.«01_k».proof.Proof.Gat1.Block
public import proofs.«01_k».proof.Proof.Gat1.Entry
public import proofs.«01_k».proof.Proof.Gen.Kernel2Ideal.Value

@[expose] public section

set_option maxRecDepth 16384

noncomputable section

namespace Cert.Kernel2Ideal.Gat1

open Cert.Kernel2Ideal Cert.Kernel2Ideal.Gen Idealize.ShloMosaic Idealize.ShloMosaic.TcCoe Idealize.SL.Sem Cert.Gat1

variable (m : (ℓ : Loc nD τ sig) → Buf (Elt Ideal) ℓ)

theorem points (t : Fin cfg0.N) : t.val < 16 := lt_of_lt_of_le t.isLt (by decide)

/-- A block's row among all the nodes. -/
def row (t : Fin cfg0.N) (r : Fin 256) : Fin 4096 := ⟨256 * t.val + r.val, by have := points t; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)
theorem index10 : ∀ t : Fin cfg0.N, win0_10.index t 0 = 0 ∧ win0_10.index t 1 = t.val :=
  (by decide +kernel : ∀ t : Fin grid0.N, win0_10.index t 0 = 0 ∧ win0_10.index t 1 = t.val)

/-! Each window's block, at any array's contents. -/

theorem read0 (t : Fin cfg0.N) (X : Vec Ideal S4096x4096 .f32) (r : Fin 256) (j : Fin 4096) :
    ((cfg0.win 0).blk t).view.read (Elt Ideal) X (ix2 r j) = X (ix2 (row t r) j) := by
  blk_ext [index0 t, row]

theorem read1 (t : Fin cfg0.N) (X : Vec Ideal S4096x4 .f32) (j : Fin 4096) (n : Fin 4) :
    ((cfg0.win 1).blk t).view.read (Elt Ideal) X (ix2 j n) = X (ix2 j n) := by
  blk_ext [index1 t, row]

theorem read2 (t : Fin cfg0.N) (X : Vec Ideal S4096x4 .f32) (r : Fin 256) (n : Fin 4) :
    ((cfg0.win 2).blk t).view.read (Elt Ideal) X (ix2 r n) = X (ix2 (row t r) n) := by
  blk_ext [index2 t, row]

theorem read3 (t : Fin cfg0.N) (X : Vec Ideal S4x4096 .f32) (n : Fin 4) (j : Fin 4096) :
    ((cfg0.win 3).blk t).view.read (Elt Ideal) X (ix2 n j) = X (ix2 n j) := by
  blk_ext [index3 t, row]

theorem read4 (t : Fin cfg0.N) (X : Vec Ideal S4x16 .f32) (n : Fin 4) (q : Fin 16) :
    ((cfg0.win 4).blk t).view.read (Elt Ideal) X (ix2 n q) = X (ix2 n q) := by
  blk_ext [index4 t, row]

theorem read5 (t : Fin cfg0.N) (X : Vec Ideal S16x4 .f32) (q : Fin 16) (n : Fin 4) :
    ((cfg0.win 5).blk t).view.read (Elt Ideal) X (ix2 q n) = X (ix2 q n) := by
  blk_ext [index5 t, row]

theorem read6 (t : Fin cfg0.N) (X : Vec Ideal S16x4 .f32) (q : Fin 16) (n : Fin 4) :
    ((cfg0.win 6).blk t).view.read (Elt Ideal) X (ix2 q n) = X (ix2 q n) := by
  blk_ext [index6 t, row]

theorem read7 (t : Fin cfg0.N) (X : Vec Ideal S4x16 .f32) (n : Fin 4) (q : Fin 16) :
    ((cfg0.win 7).blk t).view.read (Elt Ideal) X (ix2 n q) = X (ix2 n q) := by
  blk_ext [index7 t, row]

theorem read8 (t : Fin cfg0.N) (X : Vec Ideal S16x2 .f32) (q : Fin 16) (p : Fin 2) :
    ((cfg0.win 8).blk t).view.read (Elt Ideal) X (ix2 q p) = X (ix2 q p) := by
  blk_ext [index8 t, row]

/-- The block of rows `t` reads what `Operands` says. -/
theorem operands (c : Dev nD) (t : Fin cfg0.N) :
    Operands (iblk m c 0 t) (iblk m c 1 t) (iblk m c 2 t) (iblk m c 3 t) (iblk m c 4 t) (iblk m c 5 t) (iblk m c 6 t) (iblk m c 7 t)
      (iblk m c 8 t) (ed m c) (nd m c) (wt m c) (av m c) (ow m c) (row t) where
  edges r j := (read0 t _ r j).trans (congrFun (V_main_arg0 m c) _)
  nodes j n := (read1 t _ j n).trans (congrFun (V_main_arg1 m c) _)
  rows r n := (read2 t _ r n).trans (congrFun (V_main_arg1 m c) _)
  nodesT n j := (read3 t _ n j).trans (v59_at m c n j)
  weights n q := (read4 t _ n q).trans (v8_at m c n q)
  weightsT q n := (read5 t _ q n).trans ((v60_at m c q n).trans (v8_at m c n q))
  ends q k := (read6 t _ q k).trans (v52_at m c q k)
  endsT k q := (read7 t _ k q).trans ((v61_at m c k q).trans (v58_at m c q k))
  out q p := (read8 t _ q p).trans (congrFun (V_main_arg4 m c) _)

/-- The first result array, every node's row. -/
def rows9 (c : Dev nD) : FVec Ideal S4096x2 .f32 := fun y => layer (ed m c) (nd m c) (wt m c) (av m c) (ow m c) (y 0) (y 1)

theorem arr9 (c : Dev nD) : (dats m 0 c).arrAt 9 cfg0.N = rows9 m c := by
  refine (dats m 0 c).arrAt_eq_of_covers 9 _ (by decide +kernel) fun t hf y => ?_
  blk_simp
  rw [after0_9, out9_eq]
  obtain ⟨r, p, rfl⟩ : ∃ (r : Fin 256) (p : Fin 2), ix2 r p = y := ⟨y 0, y 1, by funext a; fin_cases a <;> rfl⟩
  refine (block_at (operands m c t) r p).trans ?_
  have e : (win0_9.blk t).view.emb (ix2 r p) = ix2 (row t r) p := by blk_ext [index9 t, row]
  rw [e]
  rfl

theorem arr10 (c : Dev nD) : (dats m 0 c).arrAt 10 cfg0.N = transpose S2x4096 [1, 0] (rows9 m c) (by decide) := by
  refine (dats m 0 c).arrAt_eq_of_covers 10 _ (by decide +kernel) fun t hf y => ?_
  blk_simp
  rw [after0_10]
  obtain ⟨p, r, rfl⟩ : ∃ (p : Fin 2) (r : Fin 256), ix2 p r = y := ⟨y 0, y 1, by funext a; fin_cases a <;> rfl⟩
  refine (out10_at r p).trans ((block_at (operands m c t) r p).trans ?_)
  have e : (win0_10.blk t).view.emb (ix2 p r) = ix2 p (row t r) := by blk_ext [index10 t, row]
  rw [e]
  pointwise
  rfl

end Cert.Kernel2Ideal.Gat1
-- ==== Proof.Gat1.Reference.lean ====
/-
  The reference's first attention layer over plain indices.
-/
module

public import proofs.«01_k».proof.Proof.Gat1.Core
public import proofs.«01_k».proof.Proof.Gen.Reference2Ideal.Run

@[expose] public section

set_option maxRecDepth 16384

noncomputable section

namespace Cert.Reference2Ideal.Gat1

open Cert.Reference2Ideal Cert.Reference2Ideal.Gen Cert.Reference2Ideal.Value Idealize.ShloMosaic Idealize.ShloMosaic.TcCoe Idealize.SL.Sem Cert.Gat1
open Idealize.ShloMosaic.StableHlo

/-- The masked leaky scores of the edges `e` and the pair sums `s`. -/
def masked (e s : FVec Ideal S4096x4096 .f32) : FVec Ideal S4096x4096 .f32 :=
  select (cmpf .ogt e (broadcastInDim S4096x4096 ![] bcast_S_S4096x4096 (constant S_ .f32 0x00000000#32))) (select (cmpf .oge s (broadcastInDim S4096x4096 ![] bcast_S_S4096x4096 (constant S_ .f32 0x00000000#32))) s (mulf (broadcastInDim S4096x4096 ![] bcast_S_S4096x4096 (id (constant S_ .f32 0x3E4CCCCD#32))) s)) (broadcastInDim S4096x4096 ![] bcast_S_S4096x4096 (id (constant S_ .f32 0xFF800000#32)))

/-- The exponentials of the scores `u` below their row's greatest. -/
def shifted (u : FVec Ideal S4096x4096 .f32) : FVec Ideal S4096x4096 .f32 :=
  Host.exp (subf u (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf u (constant S_ .f32 0xFF800000#32) reducesTo_S4096x4096_S4096_d1 h_S_)))))

/-- The features `y` attended by the normalised weights `p`. -/
def attended (p : FVec Ideal S4096x4096 .f32) (y : FVec Ideal S4096x4 .f32) : FVec Ideal S4096x4 .f32 :=
  Host.dotGeneral dot_S4096x4096_S4096x4_S4096x4_1_0_0_1_n_n none (Host.divf p (broadcastInDim S4096x4096 ![0, 1] bcast_S4096x1_S4096x4096_0_1 (broadcastInDim S4096x1 ![0] bcast_S4096_S4096x1_0 (Host.reduceAdd p (constant S_ .f32 0x00000000#32) reducesTo_S4096x4096_S4096_d1 h_S_)))) y

/-- The activation of a head's aggregate. -/
def activated (h : FVec Ideal S4096x4 .f32) : FVec Ideal S4096x4 .f32 :=
  select (cmpf .ogt h (broadcastInDim S4096x4 ![] bcast_S_S4096x4 (constant S_ .f32 0x00000000#32))) h (mulf (broadcastInDim S4096x4 ![] bcast_S_S4096x4 (constant S_ .f32 0x3F800000#32)) (Host.expm1 (select (cmpf .ogt h (broadcastInDim S4096x4 ![] bcast_S_S4096x4 (constant S_ .f32 0x00000000#32))) (broadcastInDim S4096x4 ![] bcast_S_S4096x4 (id (constant S_ .f32 0x00000000#32))) h)))

theorem masked_at (e s : FVec Ideal S4096x4096 .f32) (f g : EReal) (i j : Fin 4096) (hs : s (ix2 i j) = f + g) :
    masked e s (ix2 i j) = score f g (e (ix2 i j)) := by
  pointwise [masked]
  rw [hs, show (id (constant (F := Ideal) S_ .f32 0x3E4CCCCD#32)) ix0 = slope from rfl,
    show (id (constant (F := Ideal) S_ .f32 0xFF800000#32)) ix0 = ⊥ from minus_infinity_f32, score]

theorem drop_iff (h : S4096x4096.ReducesTo [1] S4096) (i : Fin 4096) (t : S4096x4096.Idx) : h.drop t = ix1 i ↔ ∃ k, ix2 i k = t :=
  h.fiber_r2_a1 (ix1 i) t

theorem fold_row (h : S4096x4096.ReducesTo [1] S4096) (i : Fin 4096) [DecidablePred fun t => h.drop t = ix1 i] (b : EReal) (u : S4096x4096.Idx → EReal) :
    Finset.fold max b u (Finset.univ.filter fun t => h.drop t = ix1 i) = Finset.fold max b (fun k => u (ix2 i k)) Finset.univ :=
  Finset.fold_filter_eq_fold_of_fiber max _ (fun k : Fin 4096 => ix2 i k) (fun _ _ e => congrFun e 1) (drop_iff h i) b u

/-- A row's greatest score. -/
theorem greatest_at (u : FVec Ideal S4096x4096 .f32) (i : Fin 4096) :
    Host.reduce FloatOps.maximumf u (constant (F := Ideal) S_ .f32 0xFF800000#32) reducesTo_S4096x4096_S4096_d1 h_S_ (ix1 i) =
      (Finset.fold max ⊥ (fun k => u (ix2 i k)) Finset.univ : EReal) := by
  refine (Host.reduce_eq_fold (max : EReal → EReal → EReal) u _ reducesTo_S4096x4096_S4096_d1 h_S_ (ix1 i)).trans ?_
  refine (fold_row _ i _ u).trans ?_
  exact congrArg (fun b => Finset.fold max b (fun k => u (ix2 i k)) Finset.univ) minus_infinity_f32

/-- The exponentials of the scores `u` below the row values `r`. -/
def shiftedBy (u : FVec Ideal S4096x4096 .f32) (r : FVec Ideal S4096 .f32) : FVec Ideal S4096x4096 .f32 :=
  Host.exp (subf u (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) r))))

theorem shiftedBy_at (u : FVec Ideal S4096x4096 .f32) (r : FVec Ideal S4096 .f32) (i j : Fin 4096) :
    shiftedBy u r (ix2 i j) = Ideal.exp (u (ix2 i j) - max ⊥ (r (ix1 i))) := by
  pointwise [shiftedBy]
  rw [minus_infinity_f32]

theorem shifted_at (u : FVec Ideal S4096x4096 .f32) (i j : Fin 4096) : shifted u (ix2 i j) = Ideal.exp (u (ix2 i j) -
    max ⊥ (Finset.fold max ⊥ (fun k => u (ix2 i k)) Finset.univ)) :=
  (shiftedBy_at u _ i j).trans (congrArg (fun b => Ideal.exp (u (ix2 i j) - max ⊥ b)) (greatest_at u i))

theorem attended_at (p : FVec Ideal S4096x4096 .f32) (y : FVec Ideal S4096x4 .f32) (i : Fin 4096) (h : Fin 4) :
    attended p y (ix2 i h) = ∑ j, Ideal.div (p (ix2 i j)) (∑ j', p (ix2 i j')) * y (ix2 j h) := by
  pointwise [attended]

theorem activated_at (z : FVec Ideal S4096x4 .f32) (i : Fin 4096) (h : Fin 4) : activated z (ix2 i h) = elu (z (ix2 i h)) := by
  pointwise [activated]
  rw [elu]
  split_ifs <;> simp

/-- One head of the reference is the head normalised by the factored weights. -/
theorem attended_eq (e : Fin 4096 → Fin 4096 → EReal) (x : Fin 4096 → Fin 4 → EReal) (w : Fin 4 → Fin 4 → EReal) (a : Fin 8 → EReal)
    (he : ∀ i j, e i j = 0 ∨ e i j = 1) (hrow : ∀ i, ∃ j, e i j = 1) (hx : ∀ i n, x i n ≠ ⊥ ∧ x i n ≠ ⊤)
    (hw : ∀ n h, w n h ≠ ⊥ ∧ w n h ≠ ⊤) (ha : ∀ q, a q ≠ ⊥ ∧ a q ≠ ⊤) (u : FVec Ideal S4096x4096 .f32) (y : FVec Ideal S4096x4 .f32)
    (hu : ∀ i j, u (ix2 i j) = score (src x w a i) (dst x w a j) (e i j)) (hy : ∀ j h, y (ix2 j h) = feat x w j h)
    (i : Fin 4096) (h : Fin 4) : attended (shifted u) y (ix2 i h) = head e x w a i h := by
  rw [attended_at]
  simp only [shifted_at, hu, hy]
  exact head_eq e x w a he hrow hx hw ha i h Finset.univ (fun k => score (src x w a i) (dst x w a k) (e i k)) id (fun _ _ => rfl)
    fun j => ⟨j, Finset.mem_univ _, rfl⟩

variable (V : Valuation τ sig (Elt Ideal))

/-- The edges, the nodes, a head's weights and its two ends' vectors, entry by entry. -/
abbrev ed (i j : Fin 4096) : EReal := V (Proc.devRef .tc main_arg0) (ix2 i j)
abbrev nd (i : Fin 4096) (n : Fin 4) : EReal := V (Proc.devRef .tc main_arg1) (ix2 i n)
abbrev wt (k n h : Fin 4) : EReal := V (Proc.devRef .tc main_arg2) (ix3 k n h)
abbrev av (k : Fin 4) (q : Fin 8) : EReal := V (Proc.devRef .tc main_arg3) (ix3 k q 0)

/-- What the argument arrays satisfy: edges zero or one with one at every node, and numbers elsewhere. -/
structure Graph : Prop where
  edge : ∀ i j, ed V i j = 0 ∨ ed V i j = 1
  row : ∀ i, ∃ j, ed V i j = 1
  node : ∀ i n, nd V i n ≠ ⊥ ∧ nd V i n ≠ ⊤
  weight : ∀ k n h, wt V k n h ≠ ⊥ ∧ wt V k n h ≠ ⊤
  vec : ∀ k q, av V k q ≠ ⊥ ∧ av V k q ≠ ⊤

theorem v4_at (j : Fin 4096) (h : Fin 4) : res_main_v4 V (ix2 j h) = feat (nd V) (wt V 0) j h := by
  pointwise [res_main_v4]
  rfl

theorem v16_at (i j : Fin 4096) : res_main_v16 V (ix2 i j) = src (nd V) (wt V 0) (av V 0) i + dst (nd V) (wt V 0) (av V 0) j := by
  pointwise [res_main_v16]
  simp only [v4_at]
  rfl

theorem v18_at (i j : Fin 4096) : res_main_v18 V (ix2 i j) = score (src (nd V) (wt V 0) (av V 0) i) (dst (nd V) (wt V 0) (av V 0) j) (ed V i j) :=
  masked_at (V (Proc.devRef .tc main_arg0)) (res_main_v16 V) _ _ i j (v16_at V i j)

theorem v30_at (H : Graph V) (i : Fin 4096) (h : Fin 4) : res_main_v30 V (ix2 i h) = head (ed V) (nd V) (wt V 0) (av V 0) i h :=
  attended_eq (ed V) (nd V) (wt V 0) (av V 0) H.edge H.row H.node (H.weight 0) (H.vec 0) (res_main_v18 V) (res_main_v4 V) (v18_at V) (v4_at V) i h

theorem v34_at (j : Fin 4096) (h : Fin 4) : res_main_v34 V (ix2 j h) = feat (nd V) (wt V 1) j h := by
  pointwise [res_main_v34]
  rfl

theorem v46_at (i j : Fin 4096) : res_main_v46 V (ix2 i j) = src (nd V) (wt V 1) (av V 1) i + dst (nd V) (wt V 1) (av V 1) j := by
  pointwise [res_main_v46]
  simp only [v34_at]
  rfl

theorem v48_at (i j : Fin 4096) : res_main_v48 V (ix2 i j) = score (src (nd V) (wt V 1) (av V 1) i) (dst (nd V) (wt V 1) (av V 1) j) (ed V i j) :=
  masked_at (V (Proc.devRef .tc main_arg0)) (res_main_v46 V) _ _ i j (v46_at V i j)

theorem v60_at (H : Graph V) (i : Fin 4096) (h : Fin 4) : res_main_v60 V (ix2 i h) = head (ed V) (nd V) (wt V 1) (av V 1) i h :=
  attended_eq (ed V) (nd V) (wt V 1) (av V 1) H.edge H.row H.node (H.weight 1) (H.vec 1) (res_main_v48 V) (res_main_v34 V) (v48_at V) (v34_at V) i h

theorem v64_at (j : Fin 4096) (h : Fin 4) : res_main_v64 V (ix2 j h) = feat (nd V) (wt V 2) j h := by
  pointwise [res_main_v64]
  rfl

theorem v76_at (i j : Fin 4096) : res_main_v76 V (ix2 i j) = src (nd V) (wt V 2) (av V 2) i + dst (nd V) (wt V 2) (av V 2) j := by
  pointwise [res_main_v76]
  simp only [v64_at]
  rfl

theorem v78_at (i j : Fin 4096) : res_main_v78 V (ix2 i j) = score (src (nd V) (wt V 2) (av V 2) i) (dst (nd V) (wt V 2) (av V 2) j) (ed V i j) :=
  masked_at (V (Proc.devRef .tc main_arg0)) (res_main_v76 V) _ _ i j (v76_at V i j)

theorem v90_at (H : Graph V) (i : Fin 4096) (h : Fin 4) : res_main_v90 V (ix2 i h) = head (ed V) (nd V) (wt V 2) (av V 2) i h :=
  attended_eq (ed V) (nd V) (wt V 2) (av V 2) H.edge H.row H.node (H.weight 2) (H.vec 2) (res_main_v78 V) (res_main_v64 V) (v78_at V) (v64_at V) i h

theorem v94_at (j : Fin 4096) (h : Fin 4) : res_main_v94 V (ix2 j h) = feat (nd V) (wt V 3) j h := by
  pointwise [res_main_v94]
  rfl

theorem v106_at (i j : Fin 4096) : res_main_v106 V (ix2 i j) = src (nd V) (wt V 3) (av V 3) i + dst (nd V) (wt V 3) (av V 3) j := by
  pointwise [res_main_v106]
  simp only [v94_at]
  rfl

theorem v108_at (i j : Fin 4096) : res_main_v108 V (ix2 i j) = score (src (nd V) (wt V 3) (av V 3) i) (dst (nd V) (wt V 3) (av V 3) j) (ed V i j) :=
  masked_at (V (Proc.devRef .tc main_arg0)) (res_main_v106 V) _ _ i j (v106_at V i j)

theorem v120_at (H : Graph V) (i : Fin 4096) (h : Fin 4) : res_main_v120 V (ix2 i h) = head (ed V) (nd V) (wt V 3) (av V 3) i h :=
  attended_eq (ed V) (nd V) (wt V 3) (av V 3) H.edge H.row H.node (H.weight 3) (H.vec 3) (res_main_v108 V) (res_main_v94 V) (v108_at V) (v94_at V) i h

end Cert.Reference2Ideal.Gat1
-- ==== Proof.Gat1.RefResult.lean ====
/-
  The reference layer's results over plain indices.
-/
module

public import proofs.«01_k».proof.Proof.Gat1.Reference

@[expose] public section

set_option maxRecDepth 16384

noncomputable section

namespace Cert.Reference2Ideal.Gat1

open Cert.Reference2Ideal Cert.Reference2Ideal.Gen Cert.Reference2Ideal.Value Idealize.ShloMosaic.StableHlo Idealize.ShloMosaic Idealize.ShloMosaic.TcCoe Idealize.SL.Sem Cert.Gat1

/-- The four heads' activations side by side, through the output weights. -/
def mixed (h0 h1 h2 h3 : FVec Ideal S4096x4 .f32) (w : FVec Ideal S16x2 .f32) : FVec Ideal S4096x2 .f32 :=
  Host.dotGeneral dot_S4096x16_S16x2_S4096x2_1_0_0_1_n_n none
    (concatenate S4096x16 1 [⟨S4096x4, h0⟩, ⟨S4096x4, h1⟩, ⟨S4096x4, h2⟩, ⟨S4096x4, h3⟩] concatenates_S4096x4_S4096x4_S4096x4_S4096x4_S4096x16_d1) w

theorem mixed_at (h0 h1 h2 h3 : FVec Ideal S4096x4 .f32) (w : FVec Ideal S16x2 .f32) (t : Fin 4 → Fin 4 → EReal) (i : Fin 4096) (p : Fin 2)
    (e0 : ∀ h, h0 (ix2 i h) = t 0 h) (e1 : ∀ h, h1 (ix2 i h) = t 1 h) (e2 : ∀ h, h2 (ix2 i h) = t 2 h) (e3 : ∀ h, h3 (ix2 i h) = t 3 h) :
    mixed h0 h1 h2 h3 w (ix2 i p) = ∑ q : Fin 16, t ⟨q / 4, by omega⟩ ⟨q % 4, by omega⟩ * w (ix2 q p) := by
  pointwise [mixed]
  refine Finset.sum_congr rfl fun q _ => ?_
  refine congrArg (· * w (ix2 q p)) ?_
  simp only [e0, e1, e2, e3]
  fin_cases q <;> simp only [Nat.reduceLT, Nat.reduceSub, ↓reduceDIte] <;> rfl

/-- The reference's first result, of its launch's arguments. -/
def result (V : Valuation τ sig (Elt Ideal)) : FVec Ideal S4096x2 .f32 :=
  mixed (activated (res_main_v30 V)) (activated (res_main_v60 V)) (activated (res_main_v90 V)) (activated (res_main_v120 V))
    (V (Proc.devRef .tc main_arg4))

theorem result_at (V : Valuation τ sig (Elt Ideal)) (H : Graph V) (i : Fin 4096) (p : Fin 2) :
    result V (ix2 i p) = ∑ q : Fin 16,
      elu (head (ed V) (nd V) (wt V ⟨q / 4, by omega⟩) (av V ⟨q / 4, by omega⟩) i ⟨q % 4, by omega⟩) * V (Proc.devRef .tc main_arg4) (ix2 q p) := by
  refine mixed_at _ _ _ _ _ (fun k h => elu (head (ed V) (nd V) (wt V k) (av V k) i h)) i p ?_ ?_ ?_ ?_ <;> intro h <;> rw [activated_at]
  · rw [v30_at V H]
  · rw [v60_at V H]
  · rw [v90_at V H]
  · rw [v120_at V H]

variable (m : (ℓ : Loc nD τ sig) → Buf (Elt Ideal) ℓ) (ρ : Dev nD → PrngReg)

/-- The reference's run, its two results named. -/
theorem run_result : θ_run defs (onTc (τ := τ) (main (F := Ideal))) ⟨m, fun _ => 0, ρ⟩ fun r => ∀ c : Dev nD,
      r.2.mem ((c.tc : Thread nD τ).loc main_v123) = result (launchContents m c)
      ∧ r.2.mem ((c.tc : Thread nD τ).loc main_v124) = transpose S2x4096 [1, 0] (result (launchContents m c)) transposes_S4096x2_S2x4096_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference2Ideal.Value.run m ρ

end Cert.Reference2Ideal.Gat1
-- ==== Proof.Gat1.Given.lean ====
/-
  What the precondition's arrays say, entry by entry.
-/
module

public import proofs.«01_k».proof.Proof.Gat1.Reference
public import proofs.«01_k».proof.Proof.Gen.Pre_graph

@[expose] public section

set_option maxRecDepth 16384

noncomputable section

namespace Cert.Pre_graph

open Cert.Pre_graph Cert.Pre_graph.Gen Idealize.ShloMosaic Idealize.ShloMosaic.TcCoe Idealize.SL.Sem Cert.Gat1

theorem one_f32 : Ideal.ofBits .f32 0x3F800000#32 = 1 := by
  have h : (8388608 : ℝ) * (2 ^ 23)⁻¹ = 1 := by norm_num
  simp [Ideal.ofBits, Ideal.ieee, -EReal.coe_mul, h]

theorem infinity_f32 : Ideal.ofBits .f32 0x7F800000#32 = ⊤ := by
  simp [Ideal.ofBits, Ideal.ieee, -EReal.coe_mul]

variable [Facts]

theorem edge_of (x : FVec Ideal S4096x4096 .f32) (i j : Fin 4096)
    (h : ori (cmpf .oeq x (broadcastInDim S4096x4096 ![] bcast_S_S4096x4096 (constant S_ .f32 0x00000000#32)))
      (cmpf .oeq x (broadcastInDim S4096x4096 ![] bcast_S_S4096x4096 (constant S_ .f32 0x3F800000#32))) (ix2 i j) = 1#1) :
    x (ix2 i j) = (0 : EReal) ∨ x (ix2 i j) = (1 : EReal) := by
  revert h
  pointwise
  by_cases h0 : x (ix2 i j) = (0 : EReal)
  · exact fun _ => Or.inl h0
  · by_cases h1 : x (ix2 i j) = (1 : EReal)
    · exact fun _ => Or.inr h1
    · simp [h0, h1, IntOp.ori]

theorem greater_of (r : FVec Ideal S4096 .f32) (i : Fin 4096)
    (h : cmpf .ogt r (broadcastInDim S4096 ![] bcast_S_S4096 (constant S_ .f32 0x00000000#32)) (ix1 i) = 1#1) : (0 : EReal) < r (ix1 i) := by
  revert h
  pointwise
  by_cases h0 : (0 : EReal) < r (ix1 i)
  · exact fun _ => h0
  · simp [h0]

/-- A value whose magnitude is below infinity is a number. -/
theorem finite_of (z : EReal) (h : BitVec.ofBool (decide (FloatOps.absf (F := Ideal) (φ := .f32) z < Ideal.ofBits .f32 0x7F800000#32)) = 1#1) :
    z ≠ ⊥ ∧ z ≠ ⊤ := by
  rw [infinity_f32] at h
  refine ⟨?_, ?_⟩ <;> rintro rfl <;> revert h
  · show BitVec.ofBool (decide (max (⊥ : EReal) (-⊥) < ⊤)) = 1#1 → False
    simp
  · show BitVec.ofBool (decide (max (⊤ : EReal) (-⊤) < ⊤)) = 1#1 → False
    simp

theorem node_of (x : FVec Ideal S4096x4 .f32) (i : Fin 4096) (n : Fin 4)
    (h : cmpf .olt (Host.absf x) (broadcastInDim S4096x4 ![] bcast_S_S4096x4 (constant S_ .f32 0x7F800000#32)) (ix2 i n) = 1#1) :
    x (ix2 i n) ≠ (⊥ : EReal) ∧ x (ix2 i n) ≠ (⊤ : EReal) := by
  revert h
  pointwise
  exact finite_of _

theorem weight_of (x : FVec Ideal S4x4x4 .f32) (k n h : Fin 4)
    (e : cmpf .olt (Host.absf x) (broadcastInDim S4x4x4 ![] bcast_S_S4x4x4 (constant S_ .f32 0x7F800000#32)) (ix3 k n h) = 1#1) :
    x (ix3 k n h) ≠ (⊥ : EReal) ∧ x (ix3 k n h) ≠ (⊤ : EReal) := by
  revert e
  pointwise
  exact finite_of _

theorem vec_of (x : FVec Ideal S4x8x1 .f32) (k : Fin 4) (q : Fin 8)
    (e : cmpf .olt (Host.absf x) (broadcastInDim S4x8x1 ![] bcast_S_S4x8x1 (constant S_ .f32 0x7F800000#32)) (ix3 k q 0) = 1#1) :
    x (ix3 k q 0) ≠ (⊥ : EReal) ∧ x (ix3 k q 0) ≠ (⊤ : EReal) := by
  revert e
  pointwise
  exact finite_of _

variable (x0 : FVec Ideal S4096x4096 .f32) (x1 : FVec Ideal S4096x4 .f32) (x2 : FVec Ideal S4x4x4 .f32) (x3 : FVec Ideal S4x8x1 .f32)
  (x4 : FVec Ideal S16x2 .f32)

theorem edges (h : (fn x0 x1 x2 x3 x4).1 = fun _ => 1#1) (i j : Fin 4096) : x0 (ix2 i j) = (0 : EReal) ∨ x0 (ix2 i j) = (1 : EReal) :=
  edge_of x0 i j (congrFun h (ix2 i j))

theorem rows (h : (fn x0 x1 x2 x3 x4).1 = fun _ => 1#1) (h' : (fn x0 x1 x2 x3 x4).2.1 = fun _ => 1#1) (i : Fin 4096) :
    ∃ j, x0 (ix2 i j) = (1 : EReal) := by
  have e := greater_of _ i (congrFun h' (ix1 i))
  replace e := e.trans_eq (Cert.Reference2Ideal.Gat1.greatest_at x0 i)
  obtain hb | ⟨j, _, hj⟩ := (Finset.lt_fold_max _).1 e
  · exact absurd hb (by simp)
  · refine ⟨j, (edges x0 x1 x2 x3 x4 h i j).resolve_left fun h0 => ?_⟩
    rw [h0] at hj
    exact lt_irrefl _ hj

theorem nodes (h : (fn x0 x1 x2 x3 x4).2.2.1 = fun _ => 1#1) (i : Fin 4096) (n : Fin 4) :
    x1 (ix2 i n) ≠ (⊥ : EReal) ∧ x1 (ix2 i n) ≠ (⊤ : EReal) := node_of x1 i n (congrFun h (ix2 i n))

theorem weights (h : (fn x0 x1 x2 x3 x4).2.2.2.1 = fun _ => 1#1) (k n q : Fin 4) :
    x2 (ix3 k n q) ≠ (⊥ : EReal) ∧ x2 (ix3 k n q) ≠ (⊤ : EReal) := weight_of x2 k n q (congrFun h (ix3 k n q))

theorem vecs (h : (fn x0 x1 x2 x3 x4).2.2.2.2 = fun _ => 1#1) (k : Fin 4) (q : Fin 8) :
    x3 (ix3 k q 0) ≠ (⊥ : EReal) ∧ x3 (ix3 k q 0) ≠ (⊤ : EReal) := vec_of x3 k q (congrFun h (ix3 k q 0))

end Cert.Pre_graph
-- ==== Proof.Gat1.Result.lean ====
/-
  The first attention layer's algebraic claim.
-/
module

public import proofs.«01_k».proof.Proof.Gat1.Arrays
public import proofs.«01_k».proof.Proof.Gat1.RefResult
public import proofs.«01_k».proof.Proof.Gat1.Given
public import proofs.«01_k».proof.Defs
public import proofs.«01_k».proof.Proof.Gen.Kernel2Ideal
public import proofs.«01_k».proof.Proof.Gen.Reference2Ideal

@[expose] public section

set_option maxRecDepth 16384

noncomputable section

namespace Cert.Gat1Result

open Idealize.ShloMosaic Idealize.ShloMosaic.TcCoe Idealize.SL.Sem Cert.Gat1

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

/-- Both launches hold the same arguments. -/
def Agree : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)

variable {m m' c}

theorem Agree.ed (h : Agree m m' c) : Cert.Reference2Ideal.Gat1.ed (StableHlo.launchContents m' c) = Cert.Kernel2Ideal.Gat1.ed m c :=
  funext fun i => funext fun j => congrFun h.1 (ix2 i j)
theorem Agree.nd (h : Agree m m' c) : Cert.Reference2Ideal.Gat1.nd (StableHlo.launchContents m' c) = Cert.Kernel2Ideal.Gat1.nd m c :=
  funext fun i => funext fun j => congrFun h.2.1 (ix2 i j)
theorem Agree.wt (h : Agree m m' c) : Cert.Reference2Ideal.Gat1.wt (StableHlo.launchContents m' c) = Cert.Kernel2Ideal.Gat1.wt m c :=
  funext fun k => funext fun i => funext fun j => congrFun h.2.2.1 (ix3 k i j)
theorem Agree.av (h : Agree m m' c) : Cert.Reference2Ideal.Gat1.av (StableHlo.launchContents m' c) = Cert.Kernel2Ideal.Gat1.av m c :=
  funext fun k => funext fun q => congrFun h.2.2.2.1 (ix3 k q 0)

/-- The precondition, of the reference's arguments. -/
theorem Agree.graph (h : Agree m m' c) (hp : Cert.Pre_Kernel2Ideal_graph m) : Cert.Reference2Ideal.Gat1.Graph (StableHlo.launchContents m' c) := by
  obtain ⟨h0, h1, h2, h3, h4⟩ := hp c
  constructor
  · rw [h.ed]
    exact Cert.Pre_graph.edges _ _ _ _ _ h0
  · rw [h.ed]
    exact Cert.Pre_graph.rows _ _ _ _ _ h0 h1
  · rw [h.nd]
    exact Cert.Pre_graph.nodes _ _ _ _ _ h2
  · rw [h.wt]
    exact Cert.Pre_graph.weights _ _ _ _ _ h3
  · rw [h.av]
    exact Cert.Pre_graph.vecs _ _ _ _ _ h4

theorem results (h : Agree m m' c) (hp : Cert.Pre_Kernel2Ideal_graph m) :
    Cert.Reference2Ideal.Gat1.result (StableHlo.launchContents m' c) = Cert.Kernel2Ideal.Gat1.rows9 m c := by
  funext y
  obtain ⟨i, p, rfl⟩ : ∃ (i : Fin 4096) (p : Fin 2), ix2 i p = y := ⟨y 0, y 1, by funext a; fin_cases a <;> rfl⟩
  refine (Cert.Reference2Ideal.Gat1.result_at _ (h.graph hp) i p).trans ?_
  rw [h.ed, h.nd, h.wt, h.av]
  exact Finset.sum_congr rfl fun q _ => congrArg (_ * ·) (congrFun h.2.2.2.2 (ix2 q p))

theorem algebraic : Cert.algebraic_Kernel2Ideal_Reference2Ideal_pre_graph := by
  intro m g m' g' hp hagree
  have hA : ∀ c, Agree m m' c := hagree
  refine ⟨fun c => Cert.Kernel2Ideal.Gat1.rows9 m c,
    fun c => transpose Cert.Kernel2Ideal.S2x4096 [1, 0] (Cert.Kernel2Ideal.Gat1.rows9 m c) (by decide), ?_, ?_⟩
  · refine (θ_run _ _ _).mono (fun r h c => ?_) (Cert.Kernel2Ideal.Value.run_blocks m g)
    obtain ⟨h0, h1, hrest⟩ := h c
    exact ⟨h0.trans (Cert.Kernel2Ideal.Gat1.arr9 m c), h1.trans (Cert.Kernel2Ideal.Gat1.arr10 m c), hrest⟩
  · refine (θ_run _ _ _).mono (fun r h c => ?_) (Cert.Reference2Ideal.Gat1.run_result m' g')
    obtain ⟨h0, h1, hrest⟩ := h c
    refine ⟨h0.trans (results (hA c) hp), h1.trans ?_, hrest⟩
    rw [results (hA c) hp]

end Cert.Gat1Result
-- ==== Proof.Gat2.CommonIdeal.lean ====
/- What both cases of the second graph layer's body are stated over: the buffers at the region's entry, the
   prefetched word, the windows' blocks, the branch condition in closed form and the staging memrefs. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Gat2

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1 .i32 := Memref.whole main_v1
abbrev htbM0_0 : tbM0_0.IsWhole := Memref.isWhole_whole _

/-- A table memref's buffer on core `c`: its contents type, and it held at HALF the full share at `f` — behind this
    abbreviation, so that the run's rewriting of the goal leaves `Memref.view` intact (the form in which the run reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point, whenever the body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, whenever the body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, whenever the body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point, whenever the body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point, whenever the body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point, whenever the body leaves the block in place. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point, whenever the body leaves the block in place. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block at every point, whenever the body leaves the block in place. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    the library's `FramePost` read at the argument arrays — a staged input by the library's
    `Dat.arrAt_in`, an array no window stages by the post's second clause, each then by `V_…` — is the frame
    claim's post (`Cert.frame_Kernel3`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).1 6).trans (((dats 0 c).arrAt_in 6 rfl _).trans ((hA c 6).trans (V_main_arg3 m c))),
      ((h c).1 7).trans (((dats 0 c).arrAt_in 7 rfl _).trans ((hA c 7).trans (V_main_arg4 m c))),
      ((h c).2 main_arg5 (by decide : main_arg5 ∈ Pipeline.restRefs sig spec0)).trans (V_main_arg5 m c)⟩) h

/-! ## The body's branch conditions -/

/-- The condition of the body's one branch, from the grid coordinates. -/
abbrev cond0_1 (i : grid0.Coords) : Prop := k0_cond1 i = 1#1
/-- It holds at the last point only. -/
theorem hcond0_1 : ∀ t : Fin grid0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond1, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Before the last point the output window is idle: nothing is stored into it. -/
theorem idleAt0_8_B (hO : Ok m) : ∀ t : Fin (cfgM m hO).N, ¬cond0_1 (grid0.coords t) → (cfgM m hO).idle 8 (grid0.coords t) = true :=
  (by decide +kernel : ∀ t : Fin grid0.N, ¬cond0_1 (grid0.coords t) → idle0 8 (grid0.coords t) = true)
/-- Before the last point the output window is not written back. -/
theorem noFlush0_8_B (hO : Ok m) : ∀ t : Fin (cfgM m hO).N, ¬cond0_1 (grid0.coords t) → ((cfgM m hO).win 8).flush t = false :=
  (by decide +kernel : ∀ t : Fin grid0.N, ¬cond0_1 (grid0.coords t) → Pipeline.Window.flushOf grid0 true cc0_transform_8 t = false)
/-- At the last point the output window is live. -/
theorem liveAt0_8_C (hO : Ok m) : ∀ t : Fin (cfgM m hO).N, cond0_1 (grid0.coords t) → (cfgM m hO).idle 8 (grid0.coords t) = false :=
  (by decide +kernel : ∀ t : Fin grid0.N, cond0_1 (grid0.coords t) → idle0 8 (grid0.coords t) = false)

/-! ## The kernel body on any staging memrefs: a subtype the run finds -/

/-- One staging buffer of output window 8, through which its contents are stated (`View.read_writes_of_cover`: the
    choice does not matter). -/
abbrev VO0_8 : View sig .tc .vmem S1x1 .i32 := (Memref.whole cc0_stg8_0 : Memref sig .tc .vmem S1x1 .i32).view
/-- Each window's current staging memref at point `t`, spelled as the pipeline passes it (`bodyAt0`), and its wholeness. -/
abbrev ms0_0 (hO : Ok m) (t : Fin (cfgM m hO).N) : Memref sig .tc .vmem S256x4096 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x2 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x2 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2x4096 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x768 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2000x2 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1 .i32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S4096x2 .f32 := Memref.whole cc0_scratch0
/-- The scratch `arg11` the kernel carries between points, as a view: what it holds is stated through it. -/
abbrev VS0_0 : View sig .tc .vmem S4096x2 .f32 := scM0_0.view

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The schedule of the output window and the body at a point -/

/-- Window 8 (result 0 (%5)) is written back at the last point only, at any contents of the tables (its index map reads none). -/
theorem flush0_8 (a : (pcfg0 (F := F)).Adm) : ∀ t : Fin (cfg0 a).N, ((cfg0 a).win 8).flush t = true ↔ t.val % 16 = 15 :=
  (fun t => Pipeline.Window.flushOf_const cc0_transform_8 (fun _ _ => rfl) (n := 16) (by decide) rfl t : ∀ t : Fin grid0.N, Pipeline.Window.flushOf grid0 true cc0_transform_8 t = true ↔ t.val % 16 = 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__gat2_kernel (grid0.coords t) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.Kernel3Ideal.Gat2

end
-- ==== Proof.Gat2.BodyBIdeal.lean ====
/- The body before the last point: one block of rows stored into the scratch. -/
module

public import proofs.«01_k».proof.Proof.Gat2.CommonIdeal

@[expose] public section

-- membership in a rectangle of production extents (`View.cover_of_tiled`): the elaborator's structural look
-- recurses once per coordinate of the long axes
set_option maxRecDepth 16384

noncomputable section

namespace Cert.Kernel3Ideal.Gat2

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's triple before the last point, with the pieces it leaves in the scratch. -/
noncomputable def kernelRun0_B (c : Dev nD) (i : grid0.Coords) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S2x4096 .f32) (harg5 : arg5.IsWhole) (arg6 : Memref sig .tc .vmem S2x1 .f32) (harg6 : arg6.IsWhole) (arg7 : Memref sig .tc .vmem S1x2 .f32) (harg7 : arg7.IsWhole) (arg8 : Memref sig .tc .vmem S1x768 .f32) (harg8 : arg8.IsWhole) (arg9 : Memref sig .tc .vmem S2000x2 .f32) (harg9 : arg9.IsWhole) (arg10 : Memref sig .tc .vmem S1x1 .i32) (harg10 : arg10.IsWhole) (arg11 : Memref sig .tc .vmem S4096x2 .f32) (harg11 : arg11.IsWhole) (hc1 : ¬cond0_1 i)
    (x0 : Vec F S256x4096 .f32) (x1 : Vec F S4096x2 .f32) (x2 : Vec F S256x2 .f32) (x3 : Vec F S2x4096 .f32) (x4 : Vec F S2x1 .f32) (x5 : Vec F S1x2 .f32) (x6 : Vec F S1x768 .f32) (x7 : Vec F S2000x2 .f32) (xt0 : TbBuf0 (F := F) c tbM0_0) :
    Σ' (L8 : List (View.Piece (Elt F) S1x1 .i32)), { LS0 : List (View.Piece (Elt F) S4096x2 .f32) //
      ∀ (xi8 : Vec F S1x1 .i32) (xs0 : Vec F S4096x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (arg11.view.loc (c : Thread nD τ) ↦[arg11.view.set]{fullShare} arg11.view.writes (Elt F) (harg11.unread xs0) LS0) ∗ tbPt0 c tbM0_0 xt0) -∗ K ⟨⟩))
          ⊢ wp frame (wpE (defs₀ (F := F)) Variants.none c none) E (cc0__gat2_kernel i tbM0_0 htbM0_0 arg2 harg2 arg3 harg3 arg4 harg4 arg5 harg5 arg6 harg6 arg7 harg7 arg8 harg8 arg9 harg9 arg10 harg10 arg11 harg11) K } := by
  refine ⟨[], ?_, fun xi8 xs0 E K => ?run⟩
  case run =>
    simp only [cc0__gat2_kernel_eq_skeleton]; unfold cc0__gat2_kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexact HS0
    iexact HT0

end Cert.Kernel3Ideal.Gat2

end
-- ==== Proof.Gat2.BodyCIdeal.lean ====
/- The body at the last point: its block of rows stored, then the whole scratch read and the position found. -/
module

public import proofs.«01_k».proof.Proof.Gat2.BodyBIdeal

@[expose] public section

-- membership in a rectangle of production extents (`View.cover_of_tiled`): the elaborator's structural look
-- recurses once per coordinate of the long axes
set_option maxRecDepth 16384

noncomputable section

namespace Cert.Kernel3Ideal.Gat2

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's triple at the last point, with the pieces it leaves in the scratch and in the output. -/
noncomputable def kernelRun0_C (c : Dev nD) (i : grid0.Coords) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S2x4096 .f32) (harg5 : arg5.IsWhole) (arg6 : Memref sig .tc .vmem S2x1 .f32) (harg6 : arg6.IsWhole) (arg7 : Memref sig .tc .vmem S1x2 .f32) (harg7 : arg7.IsWhole) (arg8 : Memref sig .tc .vmem S1x768 .f32) (harg8 : arg8.IsWhole) (arg9 : Memref sig .tc .vmem S2000x2 .f32) (harg9 : arg9.IsWhole) (arg10 : Memref sig .tc .vmem S1x1 .i32) (harg10 : arg10.IsWhole) (arg11 : Memref sig .tc .vmem S4096x2 .f32) (harg11 : arg11.IsWhole) (hc1 : cond0_1 i)
    (x0 : Vec F S256x4096 .f32) (x1 : Vec F S4096x2 .f32) (x2 : Vec F S256x2 .f32) (x3 : Vec F S2x4096 .f32) (x4 : Vec F S2x1 .f32) (x5 : Vec F S1x2 .f32) (x6 : Vec F S1x768 .f32) (x7 : Vec F S2000x2 .f32) (xt0 : TbBuf0 (F := F) c tbM0_0) (xs0 : Vec F S4096x2 .f32) :
    Σ' (L8 : List (View.Piece (Elt F) S1x1 .i32)), { LS0 : List (View.Piece (Elt F) S4096x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs0) LS0) ∗ tbPt0 c tbM0_0 xt0) -∗ K ⟨⟩))
          ⊢ wp frame (wpE (defs₀ (F := F)) Variants.none c none) E (cc0__gat2_kernel i tbM0_0 htbM0_0 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gat2_kernel_eq_skeleton]; unfold cc0__gat2_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexact HS0
    iexact HT0

end Cert.Kernel3Ideal.Gat2

end
-- ==== Proof.Gat2.PiecesIdeal.lean ====
/- What the second graph layer's body leaves, as functions of its operands: a block of rows in the scratch, and at the
   last point the position found from the whole scratch. -/
module

public import proofs.«01_k».proof.Proof.Gat2.BodyCIdeal
public import Idealize.ShloMosaic.Lib.WritesUnit
public import Idealize.ShloMosaic.Lib.Pipeline.ValueKit
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gat2

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block's rows of the layer's output, from its operand blocks. -/
def rows (x0 : Vec F S256x4096 .f32) (x1 : Vec F S4096x2 .f32) (x2 : Vec F S256x2 .f32) (x3 : Vec F S2x4096 .f32) (x4 : Vec F S2x1 .f32) (x5 : Vec F S1x2 .f32) : FVec F S256x2 .f32 :=
  k0_pay1 (k0_pay7 x0 x2 x4 x5 x3 x1) (k0_pay8 x0 x2 x4 x5 x3 x1) (k0_pay9 x0 x2 x4 x5 x3 x1)

/-- The rows read at the last point lie inside the scratch, whatever the word. -/
theorem off2_inb (w : BitVec 32) : ∀ a, (k0_off2 w) a + S2000x2.size a ≤ S4096x2.size a := by
  have h : (Scalar.minsi 2096#32 (Scalar.maxsi 0#32 w)).toNat ≤ 2096 := by
    simp only [Scalar.minsi, Scalar.maxsi, IntOp.minsi, IntOp.maxsi]
    split <;> split <;> simp_all [BitVec.sle, BitVec.slt, BitVec.toInt] <;> omega
  intro a
  fin_cases a
  · exact Nat.add_le_add_right h 2000
  · exact Nat.le_refl 2

/-- The position found from the rows of the scratch that the word starts. -/
def position (w : BitVec 32) (s : Vec F S4096x2 .f32) (x6 : Vec F S1x768 .f32) (x7 : Vec F S2000x2 .f32) : IVec S1x1 32 :=
  k0_pay2 (View.ld (Val := Elt F) (e' := .f32) s (Rect.unit (s := S4096x2) (k0_off2 w) S2000x2.size (off2_inb w))) (k0_pay3 x6) (k0_pay4 x6)
    (k0_pay5 (View.ld (Val := Elt F) (e' := .f32) s (Rect.unit (s := S4096x2) (k0_off2 w) S2000x2.size (off2_inb w))) x6
      (View.ld (Val := Elt F) (e' := .f32) x7 (Rect.unit (s := S2000x2) ![0, 0] S2000x1.size inb_S2000x2_S2000x1_0_0)))
    (View.ld (Val := Elt F) (e' := .f32) x7 (Rect.unit (s := S2000x2) ![0, 1] S2000x1.size inb_S2000x2_S2000x1_0_1))
    (k0_pay6 x6 (View.ld (Val := Elt F) (e' := .f32) x7 (Rect.unit (s := S2000x2) ![0, 1] S2000x1.size inb_S2000x2_S2000x1_0_1)))

/-- The prefetched word, as the body reads it. -/
def word (c : Dev nD) (xt0 : TbBuf0 (F := F) c tbM0_0) : BitVec 32 := kernelRun0_C.sl.r_3 c xt0

theorem zero2 : (![0, 0] : Fin 2 → Nat) = fun _ => 0 := funext fun a => by fin_cases a <;> rfl

/-- Reading a whole buffer's contents through the rectangle that is all of it. -/
theorem readWhole {S : Shape} {e : EltTy} {sp : Space} (a : Memref sig .tc sp S e) (ha : a.IsWhole) (x : S.Idx → Elt F e) {off : Fin S.rank → Nat}
    (h : off = fun _ => 0) (inb : ∀ a, off a + S.size a ≤ S.size a) :
    View.readAt (Elt F) a.view (Rect.unit off S.size inb).toLoadRect (ha.unread x) = x := by
  refine (View.readAt_eq_ld (Val := Elt F) a.view (ha.unread x) (Rect.unit off S.size inb)).trans ?_
  rw [ha.read_unread]
  exact View.ld_unit_zero h inb x

/-- Reading a whole buffer's contents through a rectangle. -/
theorem readPart {S : Shape} {e : EltTy} {sp : Space} (a : Memref sig .tc sp S e) (ha : a.IsWhole) (x : S.Idx → Elt F e) (r : Rect S) :
    View.readAt (Elt F) a.view r.toLoadRect (ha.unread x) = View.ld (Val := Elt F) x r := by
  refine (View.readAt_eq_ld (Val := Elt F) a.view (ha.unread x) r).trans ?_
  rw [ha.read_unread]

/-- Before the last point one piece goes to the scratch, its block of rows. -/
theorem scratchB (c : Dev nD) (i : grid0.Coords) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S2x4096 .f32) (harg5 : arg5.IsWhole) (arg6 : Memref sig .tc .vmem S2x1 .f32) (harg6 : arg6.IsWhole) (arg7 : Memref sig .tc .vmem S1x2 .f32) (harg7 : arg7.IsWhole) (arg8 : Memref sig .tc .vmem S1x768 .f32) (harg8 : arg8.IsWhole) (arg9 : Memref sig .tc .vmem S2000x2 .f32) (harg9 : arg9.IsWhole) (arg10 : Memref sig .tc .vmem S1x1 .i32) (harg10 : arg10.IsWhole) (arg11 : Memref sig .tc .vmem S4096x2 .f32) (harg11 : arg11.IsWhole) (hc1 : ¬cond0_1 i)
    (x0 : Vec F S256x4096 .f32) (x1 : Vec F S4096x2 .f32) (x2 : Vec F S256x2 .f32) (x3 : Vec F S2x4096 .f32) (x4 : Vec F S2x1 .f32) (x5 : Vec F S1x2 .f32) (x6 : Vec F S1x768 .f32) (x7 : Vec F S2000x2 .f32) (xt0 : TbBuf0 (F := F) c tbM0_0)  :
    (kernelRun0_B c i arg2 harg2 arg3 harg3 arg4 harg4 arg5 harg5 arg6 harg6 arg7 harg7 arg8 harg8 arg9 harg9 arg10 harg10 arg11 harg11 hc1 x0 x1 x2 x3 x4 x5 x6 x7 xt0).2.1 = [⟨Rect.unit (s := S4096x2) (k0_off1 i) ![256, 2] (k0_off1_inb i), rows x0 x1 x2 x3 x4 x5⟩] := by
  unfold kernelRun0_B rows
  dsimp only
  unfold kernelRun0_B.sl.r kernelRun0_B.sl.r_1 kernelRun0_B.sl.r_2
  rw [readWhole arg2 harg2 x0 zero2, readWhole arg3 harg3 x1 zero2, readWhole arg4 harg4 x2 zero2, readWhole arg5 harg5 x3 zero2,
    readWhole arg6 harg6 x4 zero2, readWhole arg7 harg7 x5 zero2]

theorem scratchC' (c : Dev nD) (i : grid0.Coords) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S2x4096 .f32) (harg5 : arg5.IsWhole) (arg6 : Memref sig .tc .vmem S2x1 .f32) (harg6 : arg6.IsWhole) (arg7 : Memref sig .tc .vmem S1x2 .f32) (harg7 : arg7.IsWhole) (arg8 : Memref sig .tc .vmem S1x768 .f32) (harg8 : arg8.IsWhole) (arg9 : Memref sig .tc .vmem S2000x2 .f32) (harg9 : arg9.IsWhole) (arg10 : Memref sig .tc .vmem S1x1 .i32) (harg10 : arg10.IsWhole) (arg11 : Memref sig .tc .vmem S4096x2 .f32) (harg11 : arg11.IsWhole) (hc1 : cond0_1 i)
    (x0 : Vec F S256x4096 .f32) (x1 : Vec F S4096x2 .f32) (x2 : Vec F S256x2 .f32) (x3 : Vec F S2x4096 .f32) (x4 : Vec F S2x1 .f32) (x5 : Vec F S1x2 .f32) (x6 : Vec F S1x768 .f32) (x7 : Vec F S2000x2 .f32) (xt0 : TbBuf0 (F := F) c tbM0_0) (xs0 : Vec F S4096x2 .f32) :
    kernelRun0_C.sl.HS0_1 c i arg2 harg2 arg3 harg3 arg4 harg4 arg5 harg5 arg6 harg6 arg7 harg7 x0 x1 x2 x3 x4 x5
      = [⟨Rect.unit (s := S4096x2) (k0_off1 i) ![256, 2] (k0_off1_inb i), rows x0 x1 x2 x3 x4 x5⟩] := by
  unfold kernelRun0_C.sl.HS0_1 rows
  unfold kernelRun0_C.sl.r kernelRun0_C.sl.r_1 kernelRun0_C.sl.r_2
  rw [readWhole arg2 harg2 x0 zero2, readWhole arg3 harg3 x1 zero2, readWhole arg4 harg4 x2 zero2, readWhole arg5 harg5 x3 zero2,
    readWhole arg6 harg6 x4 zero2, readWhole arg7 harg7 x5 zero2]

/-- So too at the last point. -/
theorem scratchC (c : Dev nD) (i : grid0.Coords) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S2x4096 .f32) (harg5 : arg5.IsWhole) (arg6 : Memref sig .tc .vmem S2x1 .f32) (harg6 : arg6.IsWhole) (arg7 : Memref sig .tc .vmem S1x2 .f32) (harg7 : arg7.IsWhole) (arg8 : Memref sig .tc .vmem S1x768 .f32) (harg8 : arg8.IsWhole) (arg9 : Memref sig .tc .vmem S2000x2 .f32) (harg9 : arg9.IsWhole) (arg10 : Memref sig .tc .vmem S1x1 .i32) (harg10 : arg10.IsWhole) (arg11 : Memref sig .tc .vmem S4096x2 .f32) (harg11 : arg11.IsWhole) (hc1 : cond0_1 i)
    (x0 : Vec F S256x4096 .f32) (x1 : Vec F S4096x2 .f32) (x2 : Vec F S256x2 .f32) (x3 : Vec F S2x4096 .f32) (x4 : Vec F S2x1 .f32) (x5 : Vec F S1x2 .f32) (x6 : Vec F S1x768 .f32) (x7 : Vec F S2000x2 .f32) (xt0 : TbBuf0 (F := F) c tbM0_0) (xs0 : Vec F S4096x2 .f32) :
    (kernelRun0_C c i arg2 harg2 arg3 harg3 arg4 harg4 arg5 harg5 arg6 harg6 arg7 harg7 arg8 harg8 arg9 harg9 arg10 harg10 arg11 harg11 hc1 x0 x1 x2 x3 x4 x5 x6 x7 xt0 xs0).2.1 = [⟨Rect.unit (s := S4096x2) (k0_off1 i) ![256, 2] (k0_off1_inb i), rows x0 x1 x2 x3 x4 x5⟩] :=
  scratchC' c i arg2 harg2 arg3 harg3 arg4 harg4 arg5 harg5 arg6 harg6 arg7 harg7 arg8 harg8 arg9 harg9 arg10 harg10 arg11 harg11 hc1 x0 x1 x2 x3 x4 x5 x6 x7 xt0 xs0

/-- At the last point the output is the position found from the scratch with its last block stored. -/
theorem outC (c : Dev nD) (i : grid0.Coords) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S2x4096 .f32) (harg5 : arg5.IsWhole) (arg6 : Memref sig .tc .vmem S2x1 .f32) (harg6 : arg6.IsWhole) (arg7 : Memref sig .tc .vmem S1x2 .f32) (harg7 : arg7.IsWhole) (arg8 : Memref sig .tc .vmem S1x768 .f32) (harg8 : arg8.IsWhole) (arg9 : Memref sig .tc .vmem S2000x2 .f32) (harg9 : arg9.IsWhole) (arg10 : Memref sig .tc .vmem S1x1 .i32) (harg10 : arg10.IsWhole) (arg11 : Memref sig .tc .vmem S4096x2 .f32) (harg11 : arg11.IsWhole) (hc1 : cond0_1 i)
    (x0 : Vec F S256x4096 .f32) (x1 : Vec F S4096x2 .f32) (x2 : Vec F S256x2 .f32) (x3 : Vec F S2x4096 .f32) (x4 : Vec F S2x1 .f32) (x5 : Vec F S1x2 .f32) (x6 : Vec F S1x768 .f32) (x7 : Vec F S2000x2 .f32) (xt0 : TbBuf0 (F := F) c tbM0_0) (xs0 : Vec F S4096x2 .f32) :
    (kernelRun0_C c i arg2 harg2 arg3 harg3 arg4 harg4 arg5 harg5 arg6 harg6 arg7 harg7 arg8 harg8 arg9 harg9 arg10 harg10 arg11 harg11 hc1 x0 x1 x2 x3 x4 x5 x6 x7 xt0 xs0).1 = [⟨Rect.unit (s := S1x1) ![0, 0] ![1, 1] inb_S1x1_S1x1_0_0,
      position (word c xt0) (arg11.view.read (Elt F) (arg11.view.writes (Elt F) (harg11.unread xs0)
        [⟨Rect.unit (s := S4096x2) (k0_off1 i) ![256, 2] (k0_off1_inb i), rows x0 x1 x2 x3 x4 x5⟩])) x6 x7⟩] := by
  unfold kernelRun0_C position word
  dsimp only
  unfold kernelRun0_C.sl.r_4 kernelRun0_C.sl.r_5 kernelRun0_C.sl.r_6 kernelRun0_C.sl.r_7 kernelRun0_C.sl.r_8 kernelRun0_C.sl.v62
  rw [scratchC' c i arg2 harg2 arg3 harg3 arg4 harg4 arg5 harg5 arg6 harg6 arg7 harg7 arg8 harg8 arg9 harg9 arg10 harg10 arg11 harg11 hc1 x0 x1 x2 x3 x4 x5 x6 x7 xt0 xs0, readWhole arg8 harg8 x6 zero2, readPart arg9 harg9 x7, readPart arg9 harg9 x7]
  rfl

/-- Reading back a store that fills its whole buffer. -/
theorem readFull {S : Shape} {e : EltTy} {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

end Cert.Kernel3Ideal.Gat2

end
-- ==== Proof.Gat2.FrameIdeal.lean ====
/- The frame of the second graph layer's call: what the scratch holds point by point, the body obligation and the run. -/
module

public import proofs.«01_k».proof.Proof.Gat2.PiecesIdeal
public import Idealize.ShloMosaic.Lib.WritesUnit
public import Idealize.ShloMosaic.Lib.Pipeline.ValueKit
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gat2

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the output hold -/

/-- The block of rows that point `t` stores. -/
def rowsAt (hO : Ok m) (c : Dev nD) (t : Fin (cfgM m hO).N) : FVec F S256x2 .f32 :=
  rows (iblk m hO c 0 t) (iblk m hO c 1 t) (iblk m hO c 2 t) (iblk m hO c 3 t) (iblk m hO c 4 t) (iblk m hO c 5 t)

/-- The scratch with every point's block stored. -/
def filled (hO : Ok m) (c : Dev nD) : Vec F S4096x2 .f32 := fun y =>
  rowsAt m hO c ⟨(y 0).val / 256, by
    have h : (y 0).val < 4096 := (y 0).isLt
    have hN : (cfgM m hO).N = 16 := N_0
    omega⟩ (ix2 ⟨(y 0).val % 256, Nat.mod_lt _ (by decide)⟩ (y 1))

/-- The output at point `t`: the position found from the filled scratch. -/
def found (hO : Ok m) (c : Dev nD) (t : Fin (cfgM m hO).N) : Vec F S1x1 .i32 :=
  position (word c (tbl m 0)) (filled m hO c) (iblk m hO c 6 t) (iblk m hO c 7 t)

/-- Point `t` stores its rows from row `256 t` on. -/
theorem off1_at : ∀ t : Fin grid0.N, k0_off1 (grid0.coords t) = ![256 * t.val, 0] := fun t => by
  have ht : t.val < 16 := Nat.lt_of_lt_of_eq t.isLt N_0
  have e0 : (grid0.coords t 0).val = t.val / 1 % 16 := Pipeline.Grid.coords_val t 0 (by decide) rfl
  have e : (grid0.coords t 0).val = t.val := by omega
  have h : (Scalar.indexCast (Scalar.muli (BitVec.ofNat 32 (grid0.coords t 0).val) 256#32)).toNat = 256 * t.val := by
    rw [e]
    simp only [Scalar.indexCast, Scalar.muli, IntOp.muli, BitVec.toNat_mul, BitVec.toNat_ofNat]
    omega
  unfold k0_off1
  dsimp only
  rw [h]

/-- Storing point `t`'s block into a scratch right before it leaves a scratch right up to it. -/
theorem store_block (hO : Ok m) (c : Dev nD) (t : Fin (cfgM m hO).N) (a : Memref sig .tc .vmem S4096x2 .f32) (ha : a.IsWhole) (xs : Vec F S4096x2 .f32)
    (h : ∀ y : S4096x2.Idx, (y 0).val < 256 * t.val → xs y = filled m hO c y) (y : S4096x2.Idx) (hy : (y 0).val < 256 * (t.val + 1)) :
    a.view.read (Elt F) (a.view.writes (Elt F) (ha.unread xs)
      [⟨Rect.unit (s := S4096x2) (k0_off1 (grid0.coords t)) ![256, 2] (k0_off1_inb (grid0.coords t)), rowsAt m hO c t⟩]) y = filled m hO c y := by
  by_cases hlt : (y 0).val < 256 * t.val
  · refine (View.read_writes_cons_rows_of_not_mem (d := ![4096, 2]) a.view (ha.unread xs) (W := 256) (k0_off1_inb (grid0.coords t)) (rowsAt m hO c t) [] y
      (off1_at t) rfl (.inl hlt)).trans ?_
    rw [View.writes_nil, ha.read_unread]
    exact h y hlt
  · have hq : (y 0).val / 256 = t.val := by omega
    refine (View.read_writes_cons_rows_of_mem (d := ![4096, 2]) a.view (ha.unread xs) (k0_off1_inb (grid0.coords t)) (rowsAt m hO c t) [] y
      (ix2 (n0 := 256) (n1 := 2) ⟨(y 0).val % 256, Nat.mod_lt _ (by decide)⟩ (y 1)) (off1_at t) (by show (y 0).val = 256 * t.val + (y 0).val % 256; omega) rfl).trans ?_
    unfold filled
    congr 1
    exact Fin.ext hq.symm

/-- The region invariant before position `n`: the scratch right up to row `256 n`, the generator register at some state and the
    prefetched word's half. -/
def PhiS (hO : Ok m) (c : Dev nD) (n : ℕ) (_ : n ≤ (cfgM m hO).N) : sProp 𝕄 :=
  iprop(iprop((∃ xs, ⌜∀ y : S4096x2.Idx, (y 0).val < 256 * n → xs y = filled m hO c y⌝ ∗ owns (c : Thread nD τ) scM0_0 fullShare xs) ∗ (∃ r, prngReg c r)) ∗ Pipeline.ΦT pre0 (tbl m) c)

/-! ## The pipeline's proof data -/

/-- The pipeline's proof data: the arrays as the region finds them, each input's block left in place, the output at the
    position found, and the invariant on the scratch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => found m hO c t
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = found m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 2000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_castSucc m hO c t]
  unfold PhiS
  rw [PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  have hN : t.val < 16 := lt_of_lt_of_eq t.isLt (show (cfgM m hO).N = 16 from N_0)
  by_cases h1 : t.val % 16 = 15
  · rw [show (dats m hO 0 c).leavesExact 8 t = owns (c : Thread nD τ) (ms0_8 m hO t) fullShare ((dats m hO 0 c).after 8 t) from by
      unfold Dat.leavesExact; rw [liveAt0_8_C m hO t ((hcond0_1 t).mpr h1)]; try rfl, after0_8]
    iintro ⟨⟨⟨⟨%xs, %hxs, HS0⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (grid0.coords t) _ _ _ _ _ _ _ _ _ _ _ _ _ _ _ _ _ _ _ _ ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HT0]; · iexact HT0
    iintro ⟨H0, H1, H2, H3, H4, H5, H6, H7, ⟨%e8, H8⟩, HS0, HT0⟩
    isplitl [HS0 Hg HT0]
    · isplitl [HS0 Hg]
      · isplitl [HS0]
        · iexists _; isplitr
          swap
          · unfold owns; iexists _; isplitr
            swap; · iexact HS0
            ipureintro; rfl
          ipureintro
          intro y hy
          refine (congrArg (fun L => scM0_0.view.read (Elt F) (scM0_0.view.writes (Elt F) ((Memref.isWhole_whole _ : scM0_0.IsWhole).unread xs) L) y)
            (scratchC c (grid0.coords t) _ _ _ _ _ _ _ _ _ _ _ _ _ _ _ _ _ _ _ _ ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) xs)).trans ?_
          exact store_block m hO c t scM0_0 (Memref.isWhole_whole _) xs hxs y hy
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    refine (congrArg (fun L => (ms0_8 m hO t).view.read (Elt F) ((ms0_8 m hO t).view.writes (Elt F) e8 L))
      (outC c (grid0.coords t) _ _ _ _ _ _ _ _ _ _ _ _ _ _ _ _ _ _ _ _ ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) xs)).trans ?_
    refine (readFull _ _ zero2 _ _).trans ?_
    unfold found
    congr 1
    funext y
    exact store_block m hO c t scM0_0 (Memref.isWhole_whole _) xs hxs y (by have h : (y 0).val < 4096 := (y 0).isLt; omega)
  · rw [Dat.leavesExact_idle (dats m hO 0 c) 8 t (idleAt0_8_B m hO t (fun h => h1 ((hcond0_1 t).mp h))) (noFlush0_8_B m hO t (fun h => h1 ((hcond0_1 t).mp h)))]
    iintro ⟨⟨⟨⟨%xs, %hxs, HS0⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0)).2.2 _ xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    iintro ⟨H0, H1, H2, H3, H4, H5, H6, H7, H8, HS0, HT0⟩
    isplitl [HS0 Hg HT0]
    · isplitl [HS0 Hg]
      · isplitl [HS0]
        · iexists _; isplitr
          swap
          · unfold owns; iexists _; isplitr
            swap; · iexact HS0
            ipureintro; rfl
          ipureintro
          intro y hy
          refine (congrArg (fun L => scM0_0.view.read (Elt F) (scM0_0.view.writes (Elt F) ((Memref.isWhole_whole _ : scM0_0.IsWhole).unread xs) L) y)
            (scratchB c (grid0.coords t) _ _ _ _ _ _ _ _ _ _ _ _ _ _ _ _ _ _ _ _ (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0))).trans ?_
          exact store_block m hO c t scM0_0 (Memref.isWhole_whole _) xs hxs y hy
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA0_eq]
  unfold PhiS
  iintro ⟨⟨⟨%xs, HS0⟩, Hg⟩, HT0⟩
  isplitl [HS0 Hg]
  · isplitl [HS0]
    · iexists xs; isplitr
      · ipureintro
        intro y hy
        omega
      iexact HS0
    iexact Hg
  iexact HT0

/-- After the last point the scratch's contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl, PhiA0_eq]
  unfold PhiS
  iintro ⟨⟨⟨%xs, -, HS0⟩, Hg⟩, -⟩
  isplitl [HS0]
  · iexists _; iexact HS0
  iexact Hg

/-! ## The run and the frame -/

set_option backward.isDefEq.respectTransparency.types false in
/-- The run, with every semaphore counter at zero at the end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- Every run ends with every array of the pipeline at what the proof data says and every other buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: the argument arrays end unchanged and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel3Ideal.Gat2

end
-- ==== Proof.Gat2.Core.lean ====
/-
  The second attention layer and the choice of a place over the extended reals: one node's normalised activations, one
  place's greatest product by signs, and the first place of the greatest.
-/
module

public import proofs.«01_k».proof.Proof.Gat1.Core

@[expose] public section

noncomputable section

namespace Cert.Gat2

open Idealize.ShloMosaic Cert.Gat1

/-- A node's score as an edge's first end. -/
def src (x : Fin 4096 → Fin 2 → EReal) (a : Fin 4 → EReal) (j : Fin 4096) : EReal := ∑ h : Fin 2, x j h * a ⟨h, by omega⟩

/-- A node's score as an edge's second end. -/
def dst (x : Fin 4096 → Fin 2 → EReal) (a : Fin 4 → EReal) (j : Fin 4096) : EReal := ∑ h : Fin 2, x j h * a ⟨2 + h, by omega⟩

/-- The aggregate at a node, normalised by the factored weights. -/
def head (e : Fin 4096 → Fin 4096 → EReal) (x : Fin 4096 → Fin 2 → EReal) (a : Fin 4 → EReal) (i : Fin 4096) (h : Fin 2) : EReal :=
  Ideal.div (∑ j, weight (src x a i) (dst x a j) (e i j) * x j h) (∑ j, weight (src x a i) (dst x a j) (e i j) * 1)

/-- The two activations of a node below the logarithm of their exponentials' sum. -/
def norm (z : Fin 2 → EReal) (p : Fin 2) : EReal :=
  z p - Finset.fold max ⊥ z Finset.univ - Ideal.log (∑ q, Ideal.exp (z q - Finset.fold max ⊥ z Finset.univ))

/-- A node's results. -/
def layer (e : Fin 4096 → Fin 4096 → EReal) (x : Fin 4096 → Fin 2 → EReal) (a : Fin 4 → EReal) (i : Fin 4096) (p : Fin 2) : EReal :=
  norm (fun q => elu (head e x a i q)) p

/-- The head as the softmax of masked scores, the shift being the row's greatest. -/
theorem head_eq (e : Fin 4096 → Fin 4096 → EReal) (x : Fin 4096 → Fin 2 → EReal) (a : Fin 4 → EReal)
    (he : ∀ i j, e i j = 0 ∨ e i j = 1) (hrow : ∀ i, ∃ j, e i j = 1) (hx : ∀ i n, x i n ≠ ⊥ ∧ x i n ≠ ⊤)
    (ha : ∀ q, a q ≠ ⊥ ∧ a q ≠ ⊤) (i : Fin 4096) (h : Fin 2) :
    (∑ j, Ideal.div (Ideal.exp (score (src x a i) (dst x a j) (e i j) -
          max ⊥ (Finset.fold max ⊥ (fun k => score (src x a i) (dst x a k) (e i k)) Finset.univ)))
        (∑ j', Ideal.exp (score (src x a i) (dst x a j') (e i j') -
          max ⊥ (Finset.fold max ⊥ (fun k => score (src x a i) (dst x a k) (e i k)) Finset.univ))) * x j h) =
      head e x a i h := by
  obtain ⟨wr, hwr⟩ := lift_real (fun j => x j h) fun j => hx j h
  obtain ⟨g, hg⟩ := lift_real (fun j => dst x a j) fun j => real_sum_mul _ _ (hx j) fun _ => ha _
  obtain ⟨fs, hfs⟩ := lift_real (fun j => src x a j) fun j => real_sum_mul _ _ (hx j) fun _ => ha _
  obtain ⟨j0, hj0⟩ := hrow i
  obtain ⟨μ, hμ⟩ := shift_real Finset.univ (fun k => score (src x a i) (dst x a k) (e i k))
    (fun k _ => by rw [hfs, hg]; exact score_ne_top _ _ _) j0 (Finset.mem_univ _) (by rw [hj0, hfs, hg]; exact score_ne_bot _ _)
  rw [hμ]
  simp only [head, hwr, hg, hfs]
  exact (attend (fs i) g wr (e i) (he i) j0 hj0 μ).symm

/-- The head is a number. -/
theorem head_real (e : Fin 4096 → Fin 4096 → EReal) (x : Fin 4096 → Fin 2 → EReal) (a : Fin 4 → EReal)
    (he : ∀ i j, e i j = 0 ∨ e i j = 1) (hrow : ∀ i, ∃ j, e i j = 1) (hx : ∀ i n, x i n ≠ ⊥ ∧ x i n ≠ ⊤)
    (ha : ∀ q, a q ≠ ⊥ ∧ a q ≠ ⊤) (i : Fin 4096) (h : Fin 2) : ∃ r : ℝ, head e x a i h = (r : EReal) := by
  obtain ⟨wr, hwr⟩ := lift_real (fun j => x j h) fun j => hx j h
  obtain ⟨g, hg⟩ := lift_real (fun j => dst x a j) fun j => real_sum_mul _ _ (hx j) fun _ => ha _
  obtain ⟨fs, hfs⟩ := lift_real (fun j => src x a j) fun j => real_sum_mul _ _ (hx j) fun _ => ha _
  obtain ⟨j0, hj0⟩ := hrow i
  obtain ⟨c, hc, -, -⟩ := slope_real
  have hw : ∀ j, ∃ w : ℝ, weight (fs i) (g j) (e i j) = (w : EReal) ∧ 0 ≤ w ∧ (e i j = 1 → 0 < w) := fun j => by
    have hp := Real.exp_pos (fs i)
    have hq := Real.exp_pos (g j)
    rcases he i j with h | h
    · exact ⟨0, by rw [weight, h, mul_zero]; rfl, le_rfl, fun h1 => absurd (h.symm.trans h1) zero_ne_one⟩
    · refine ⟨max (Real.exp (fs i) * Real.exp (g j)) (Real.exp (c * fs i) * Real.exp (c * g j)), ?_, ?_, fun _ => ?_⟩
      · rw [weight, h, hc, ← EReal.coe_mul, ← EReal.coe_mul, Ideal.exp_coe, Ideal.exp_coe, Ideal.exp_coe, Ideal.exp_coe,
          ← EReal.coe_mul, ← EReal.coe_mul, max_real, mul_one]
      · exact le_max_of_le_left (mul_pos hp hq).le
      · exact lt_max_of_lt_left (mul_pos hp hq)
  choose w hw hw0 hw1 using hw
  have hpos : (∑ j, w j) ≠ 0 := (Finset.sum_pos' (fun j _ => hw0 j) ⟨j0, Finset.mem_univ _, hw1 j0 hj0⟩).ne'
  refine ⟨(∑ j, w j * wr j) / ∑ j, w j, ?_⟩
  simp only [head, hwr, hg, hfs, hw, mul_one, ← EReal.coe_mul, sum_real]
  exact div_real _ _ hpos

theorem elu_real (r : ℝ) : ∃ s : ℝ, elu (r : EReal) = (s : EReal) := by
  rw [elu]
  split_ifs
  · exact ⟨r, rfl⟩
  · exact ⟨Real.exp r - 1, by rw [Ideal.exp_coe]; rfl⟩

theorem norm_real (z : Fin 2 → EReal) (hz : ∀ p, ∃ r : ℝ, z p = (r : EReal)) (p : Fin 2) : ∃ r : ℝ, norm z p = (r : EReal) := by
  choose r hr using hz
  obtain ⟨μ, hμ⟩ := shift_real Finset.univ z (fun k _ => by rw [hr]; exact EReal.coe_ne_top _) 0 (Finset.mem_univ _)
    (by rw [hr]; exact EReal.coe_ne_bot _)
  rw [max_eq_right bot_le] at hμ
  have hpos : 0 < ∑ q, Real.exp (r q - μ) := Finset.sum_pos (fun _ _ => Real.exp_pos _) ⟨0, Finset.mem_univ _⟩
  refine ⟨r p - μ - Real.log (∑ q, Real.exp (r q - μ)), ?_⟩
  simp only [norm, hμ]
  simp only [hr, ← EReal.coe_sub, Ideal.exp_coe, sum_real]
  rw [Ideal.log_coe, if_neg hpos.not_ge, ← EReal.coe_sub]

theorem layer_real (e : Fin 4096 → Fin 4096 → EReal) (x : Fin 4096 → Fin 2 → EReal) (a : Fin 4 → EReal)
    (he : ∀ i j, e i j = 0 ∨ e i j = 1) (hrow : ∀ i, ∃ j, e i j = 1) (hx : ∀ i n, x i n ≠ ⊥ ∧ x i n ≠ ⊤)
    (ha : ∀ q, a q ≠ ⊥ ∧ a q ≠ ⊤) (i : Fin 4096) (p : Fin 2) : ∃ r : ℝ, layer e x a i p = (r : EReal) :=
  norm_real _ (fun q => by obtain ⟨r, hr⟩ := head_real e x a he hrow hx ha i q; rw [hr]; exact elu_real r) p

end Cert.Gat2
-- ==== Proof.Gat2.Choice.lean ====
/-
  One place's greatest product by the signs of its factors, and the first place of the greatest, over the extended reals.
-/
module

public import proofs.«01_k».proof.Proof.Gat2.Core

@[expose] public section

noncomputable section

namespace Cert.Gat2

open Idealize.ShloMosaic Cert.Gat1

/-- The greatest product of `u` with numbers from `m` to `M`. -/
def upper (u M m : EReal) : EReal := if 0 ≤ u then u * M else u * m

/-- The least product of `u` with numbers from `m` to `M`. -/
def lower (u M m : EReal) : EReal := if 0 ≤ u then u * m else u * M

/-- The greatest product of `g` with the products of `u`. -/
def term (g u M m : EReal) : EReal := if 0 ≤ g then g * upper u M m else g * lower u M m

/-- A place's value: the greatest over its two coordinates. -/
def place (g u : Fin 2 → EReal) (M m : EReal) : EReal := max (term (g 0) (u 0) M m) (term (g 1) (u 1) M m)

theorem fold_max_attained {κ : Type} (s : Finset κ) (v : κ → ℝ) (j0 : κ) (h0 : j0 ∈ s) :
    ∃ k ∈ s, Finset.fold max ⊥ (fun j => (v j : EReal)) s = (v k : EReal) ∧ ∀ j ∈ s, v j ≤ v k := by
  obtain ⟨k, hk, hm⟩ := Finset.exists_max_image s v ⟨j0, h0⟩
  refine ⟨k, hk, le_antisymm ?_ ?_, hm⟩
  · exact (Finset.fold_max_le _).2 ⟨bot_le, fun j hj => EReal.coe_le_coe_iff.2 (hm j hj)⟩
  · exact (Finset.le_fold_max _).2 (Or.inr ⟨k, hk, le_rfl⟩)

theorem fold_min_attained {κ : Type} (s : Finset κ) (v : κ → ℝ) (j0 : κ) (h0 : j0 ∈ s) :
    ∃ k ∈ s, Finset.fold min ⊤ (fun j => (v j : EReal)) s = (v k : EReal) ∧ ∀ j ∈ s, v k ≤ v j := by
  obtain ⟨k, hk, hm⟩ := Finset.exists_min_image s v ⟨j0, h0⟩
  refine ⟨k, hk, le_antisymm ?_ ?_, hm⟩
  · exact (Finset.fold_min_le _).2 (Or.inr ⟨k, hk, le_rfl⟩)
  · exact (Finset.le_fold_min _).2 ⟨le_top, fun j hj => EReal.coe_le_coe_iff.2 (hm j hj)⟩

/-- The signed product is the greatest of the products, and one of them. -/
theorem term_best {κ : Type} (g u : ℝ) (v : κ → ℝ) (hi lo : κ) (hhi : ∀ j, v j ≤ v hi) (hlo : ∀ j, v lo ≤ v j) :
    (∀ j, (g : EReal) * ((u : EReal) * (v j : EReal)) ≤ term g u (v hi) (v lo)) ∧
      ∃ j, (g : EReal) * ((u : EReal) * (v j : EReal)) = term g u (v hi) (v lo) := by
  simp only [term, upper, lower, ← EReal.coe_mul]
  by_cases hg : 0 ≤ g
  · rw [if_pos (by exact_mod_cast hg)]
    by_cases hu : 0 ≤ u
    · rw [if_pos (by exact_mod_cast hu)]
      simp only [← EReal.coe_mul, EReal.coe_le_coe_iff]
      exact ⟨fun j => mul_le_mul_of_nonneg_left (mul_le_mul_of_nonneg_left (hhi j) hu) hg, hi, rfl⟩
    · rw [if_neg (by exact_mod_cast hu)]
      simp only [← EReal.coe_mul, EReal.coe_le_coe_iff]
      exact ⟨fun j => mul_le_mul_of_nonneg_left (mul_le_mul_of_nonpos_left (hlo j) (le_of_not_ge hu)) hg, lo, rfl⟩
  · rw [if_neg (by exact_mod_cast hg)]
    by_cases hu : 0 ≤ u
    · rw [if_pos (by exact_mod_cast hu)]
      simp only [← EReal.coe_mul, EReal.coe_le_coe_iff]
      exact ⟨fun j => mul_le_mul_of_nonpos_left (mul_le_mul_of_nonneg_left (hlo j) hu) (le_of_not_ge hg), lo, rfl⟩
    · rw [if_neg (by exact_mod_cast hu)]
      simp only [← EReal.coe_mul, EReal.coe_le_coe_iff]
      exact ⟨fun j => mul_le_mul_of_nonpos_left (mul_le_mul_of_nonpos_left (hhi j) (le_of_not_ge hu)) (le_of_not_ge hg), hi, rfl⟩

/-- A place's value is the greatest of its products. -/
theorem place_eq (g u : Fin 2 → EReal) (v : Fin 768 → EReal) (hg : ∀ p, g p ≠ ⊥ ∧ g p ≠ ⊤) (hu : ∀ p, u p ≠ ⊥ ∧ u p ≠ ⊤)
    (hv : ∀ c, v c ≠ ⊥ ∧ v c ≠ ⊤) :
    Finset.fold max ⊥ (fun t : Fin 2 × Fin 768 => g t.1 * (u t.1 * v t.2)) Finset.univ =
      place g u (Finset.fold max ⊥ v Finset.univ) (Finset.fold min ⊤ v Finset.univ) := by
  obtain ⟨gr, rfl⟩ : ∃ r : Fin 2 → ℝ, g = fun p => (r p : EReal) := ⟨_, funext (lift_real g hg).choose_spec⟩
  obtain ⟨ur, rfl⟩ : ∃ r : Fin 2 → ℝ, u = fun p => (r p : EReal) := ⟨_, funext (lift_real u hu).choose_spec⟩
  obtain ⟨vr, rfl⟩ : ∃ r : Fin 768 → ℝ, v = fun p => (r p : EReal) := ⟨_, funext (lift_real v hv).choose_spec⟩
  obtain ⟨hi, -, ehi, hhi⟩ := fold_max_attained Finset.univ vr 0 (Finset.mem_univ _)
  obtain ⟨lo, -, elo, hlo⟩ := fold_min_attained Finset.univ vr 0 (Finset.mem_univ _)
  rw [ehi, elo]
  have T : ∀ p, _ := fun p : Fin 2 => term_best (gr p) (ur p) vr hi lo (fun j => hhi j (Finset.mem_univ _)) (fun j => hlo j (Finset.mem_univ _))
  refine le_antisymm ((Finset.fold_max_le _).2 ⟨bot_le, fun t _ => ?_⟩) (max_le ?_ ?_)
  · obtain ⟨p, c⟩ := t
    fin_cases p
    · exact le_max_of_le_left ((T 0).1 c)
    · exact le_max_of_le_right ((T 1).1 c)
  · obtain ⟨c, hc⟩ := (T 0).2
    exact (Finset.le_fold_max _).2 (Or.inr ⟨(0, c), Finset.mem_univ _, hc.ge⟩)
  · obtain ⟨c, hc⟩ := (T 1).2
    exact (Finset.le_fold_max _).2 (Or.inr ⟨(1, c), Finset.mem_univ _, hc.ge⟩)

theorem place_real (g u : Fin 2 → EReal) (v : Fin 768 → EReal) (hg : ∀ p, g p ≠ ⊥ ∧ g p ≠ ⊤) (hu : ∀ p, u p ≠ ⊥ ∧ u p ≠ ⊤)
    (hv : ∀ c, v c ≠ ⊥ ∧ v c ≠ ⊤) :
    ∃ r : ℝ, place g u (Finset.fold max ⊥ v Finset.univ) (Finset.fold min ⊤ v Finset.univ) = (r : EReal) := by
  rw [← place_eq g u v hg hu hv]
  obtain ⟨gr, hgr⟩ := lift_real g hg
  obtain ⟨ur, hur⟩ := lift_real u hu
  obtain ⟨vr, hvr⟩ := lift_real v hv
  simp only [hgr, hur, hvr, ← EReal.coe_mul]
  obtain ⟨k, -, hk, -⟩ := fold_max_attained (Finset.univ : Finset (Fin 2 × Fin 768)) (fun t => gr t.1 * (ur t.1 * vr t.2)) (0, 0) (Finset.mem_univ _)
  exact ⟨_, hk⟩

/-- The first place of the greatest. -/
def First (v : Fin 2000 → EReal) (k : Fin 2000) : Prop := (∀ j, v j ≤ v k) ∧ ∀ j < k, v j < v k

theorem exists_first (v : Fin 2000 → EReal) : ∃ k, First v k := by
  classical
  obtain ⟨m, -, hm⟩ := Finset.exists_max_image Finset.univ v ⟨0, Finset.mem_univ _⟩
  have hne : (Finset.univ.filter fun j => v j = v m).Nonempty := ⟨m, by simp⟩
  have hk := Finset.min'_mem _ hne
  simp only [Finset.mem_filter, Finset.mem_univ, true_and] at hk
  refine ⟨_, fun j => hk.symm ▸ hm j (Finset.mem_univ _), fun j hj => ?_⟩
  refine lt_of_le_of_ne (hk.symm ▸ hm j (Finset.mem_univ _)) fun e => ?_
  exact absurd (Finset.min'_le _ j (by simp [e, hk])) (not_le.2 hj)

theorem toInt_ofNat (j : Fin 2000) : (BitVec.ofNat 32 j.val).toInt = j.val := by
  have h := j.isLt
  rw [BitVec.toInt_eq_toNat_of_lt (by simp; omega), BitVec.toNat_ofNat, Nat.mod_eq_of_lt (by omega)]

/-- A fold of maxima over an index type that covers another is the other's. -/
theorem fold_max_cover {κ ι : Type} [Fintype κ] [Fintype ι] (c : κ → ι) (hc : Function.Surjective c) (b : EReal) (f : ι → EReal) :
    Finset.fold max b (fun x => f (c x)) Finset.univ = Finset.fold max b f Finset.univ := by
  refine le_antisymm ((Finset.fold_max_le _).2 ⟨(Finset.le_fold_max _).2 (Or.inl le_rfl), fun x _ => ?_⟩)
    ((Finset.fold_max_le _).2 ⟨(Finset.le_fold_max _).2 (Or.inl le_rfl), fun i _ => ?_⟩)
  · exact (Finset.le_fold_max _).2 (Or.inr ⟨c x, Finset.mem_univ _, le_rfl⟩)
  · obtain ⟨x, rfl⟩ := hc i
    exact (Finset.le_fold_max _).2 (Or.inr ⟨x, Finset.mem_univ _, le_rfl⟩)

theorem fold_min_cover {κ ι : Type} [Fintype κ] [Fintype ι] (c : κ → ι) (hc : Function.Surjective c) (b : EReal) (f : ι → EReal) :
    Finset.fold min b (fun x => f (c x)) Finset.univ = Finset.fold min b f Finset.univ := by
  refine le_antisymm ((Finset.le_fold_min _).2 ⟨(Finset.fold_min_le _).2 (Or.inl le_rfl), fun i _ => ?_⟩)
    ((Finset.le_fold_min _).2 ⟨(Finset.fold_min_le _).2 (Or.inl le_rfl), fun x _ => ?_⟩)
  · obtain ⟨x, rfl⟩ := hc i
    exact (Finset.fold_min_le _).2 (Or.inr ⟨x, Finset.mem_univ _, le_rfl⟩)
  · exact (Finset.fold_min_le _).2 (Or.inr ⟨c x, Finset.mem_univ _, le_rfl⟩)

theorem fold_at_first (v : Fin 2000 → EReal) (k : Fin 2000) (hk : First v k) : Finset.fold max ⊥ v Finset.univ = v k :=
  le_antisymm ((Finset.fold_max_le _).2 ⟨bot_le, fun t _ => hk.1 t⟩) ((Finset.le_fold_max _).2 (Or.inr ⟨k, Finset.mem_univ _, le_rfl⟩))

/-- The first row read, kept where all the rows read lie inside. -/
def start (w : BitVec 32) : Fin 2097 := ⟨(min (max w.toInt 0) 2096).toNat, by omega⟩

theorem start_val (w : BitVec 32) : (start w).val = (min (max w.toInt 0) 2096).toNat := rfl

theorem maxsi_toInt (x y : BitVec 32) : (IntOp.maxsi x y).toInt = max x.toInt y.toInt := by
  rw [IntOp.maxsi]
  split_ifs with h
  · rw [BitVec.slt_iff_toInt_lt] at h; exact (max_eq_left h.le).symm
  · rw [BitVec.slt_iff_toInt_lt] at h; exact (max_eq_right (not_lt.1 h)).symm

theorem minsi_toInt (x y : BitVec 32) : (IntOp.minsi x y).toInt = min x.toInt y.toInt := by
  rw [IntOp.minsi]
  split_ifs with h
  · rw [BitVec.slt_iff_toInt_lt] at h; exact (min_eq_left h.le).symm
  · rw [BitVec.slt_iff_toInt_lt] at h; exact (min_eq_right (not_lt.1 h)).symm

theorem clamped (w : BitVec 32) : (IntOp.minsi 2096#32 (IntOp.maxsi 0#32 w)).toNat = (start w).val := by
  have h : (IntOp.minsi 2096#32 (IntOp.maxsi 0#32 w)).toInt = min (max w.toInt 0) 2096 := by
    rw [minsi_toInt, maxsi_toInt, show (2096#32 : BitVec 32).toInt = 2096 from rfl, show (0#32 : BitVec 32).toInt = 0 from rfl, min_comm, max_comm]
  have h0 : 0 ≤ (IntOp.minsi 2096#32 (IntOp.maxsi 0#32 w)).toInt := by rw [h]; omega
  rw [start_val, ← h, BitVec.toInt_eq_toNat_of_msb]
  · rfl
  · exact Bool.eq_false_iff.2 fun hm => absurd (BitVec.toInt_neg_of_msb_true hm) (not_lt.2 h0)

/-- The least marked index is the first place of the greatest. -/
theorem fold_first (v : Fin 2000 → EReal) (k : Fin 2000) (hk : First v k) (w : Fin 2000 → BitVec 32)
    (hw : ∀ x, v k ≤ v x → w x = BitVec.ofNat 32 x.val) (hw' : ∀ x, ¬ v k ≤ v x → w x = 1073741824#32) :
    Finset.fold IntOp.minsi 2147483647#32 w Finset.univ = BitVec.ofNat 32 k.val := by
  apply BitVec.eq_of_toInt_eq
  rw [← Finset.fold_hom (op := IntOp.minsi) (op' := min) (m := BitVec.toInt) minsi_toInt, toInt_ofNat]
  refine le_antisymm ?_ ?_
  · exact (Finset.fold_min_le _).2 (Or.inr ⟨k, Finset.mem_univ _, by rw [hw k le_rfl, toInt_ofNat]⟩)
  · have hkl := k.isLt
    refine (Finset.le_fold_min _).2 ⟨?_, fun x _ => ?_⟩
    · rw [show (2147483647#32 : BitVec 32).toInt = 2147483647 from rfl]; omega
    · by_cases h : v k ≤ v x
      · rw [hw x h, toInt_ofNat]
        exact_mod_cast not_lt.1 fun hlt => absurd (hk.2 x hlt) (not_lt.2 h)
      · rw [hw' x h, show (1073741824#32 : BitVec 32).toInt = 1073741824 from rfl]; omega

/-- A pair is at least as good as another: a greater value, or the same value at no later index. -/
def Beats (a b : EReal × BitVec 32) : Prop := b.1 < a.1 ∨ (b.1 = a.1 ∧ a.2.toInt ≤ b.2.toInt)

theorem Beats.trans {a b c : EReal × BitVec 32} (h : Beats a b) (h' : Beats b c) : Beats a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

theorem Beats.refl (a : EReal × BitVec 32) : Beats a a := Or.inr ⟨rfl, le_rfl⟩

theorem foldl_best (r : EReal × BitVec 32 → EReal × BitVec 32 → EReal × BitVec 32)
    (hr : ∀ a b, (r a b = a ∨ r a b = b) ∧ Beats (r a b) a ∧ Beats (r a b) b) (l : List (EReal × BitVec 32)) :
    ∀ a, (l.foldl r a = a ∨ l.foldl r a ∈ l) ∧ Beats (l.foldl r a) a ∧ ∀ b ∈ l, Beats (l.foldl r a) b := by
  induction l with
  | nil => exact fun a => ⟨Or.inl rfl, Beats.refl a, fun b hb => absurd hb (List.not_mem_nil)⟩
  | cons c l ih =>
    intro a
    obtain ⟨h1, h2, h3⟩ := ih (r a c)
    obtain ⟨e, ha, hc⟩ := hr a c
    rw [List.foldl_cons]
    refine ⟨?_, h2.trans ha, fun b hb => ?_⟩
    · rcases h1 with h1 | h1
      · rcases e with e | e
        · exact Or.inl (h1.trans e)
        · exact Or.inr (by rw [h1, e]; exact List.mem_cons_self)
      · exact Or.inr (List.mem_cons_of_mem _ h1)
    · rcases List.mem_cons.1 hb with rfl | hb
      · exact h2.trans hc
      · exact h3 b hb

/-- The left fold over all the places' pairs ends at the first place of the greatest. -/
theorem foldl_first (v : Fin 2000 → EReal) (k : Fin 2000) (hk : First v k) (hb : ∀ j, ⊥ < v j)
    (r : EReal × BitVec 32 → EReal × BitVec 32 → EReal × BitVec 32)
    (hr : ∀ a b, (r a b = a ∨ r a b = b) ∧ Beats (r a b) a ∧ Beats (r a b) b) (l : List (EReal × BitVec 32))
    (hl : ∀ q ∈ l, ∃ j, q = (v j, BitVec.ofNat 32 j.val)) (hall : ∀ j, (v j, BitVec.ofNat 32 j.val) ∈ l) (i : BitVec 32) :
    (l.foldl r (⊥, i)).2 = BitVec.ofNat 32 k.val := by
  obtain ⟨h1, h2, h3⟩ := foldl_best r hr l (⊥, i)
  have hkb := h3 _ (hall k)
  rcases h1 with h1 | h1
  · rw [h1] at hkb
    rcases hkb with h | ⟨h, -⟩
    · exact absurd h not_lt_bot
    · exact absurd (hb k) (by rw [show v k = ⊥ from h]; exact lt_irrefl _)
  · obtain ⟨j, hj⟩ := hl _ h1
    rw [hj] at hkb ⊢
    rcases hkb with h | ⟨h, h'⟩
    · exact absurd (hk.1 j) (not_le.2 h)
    · rw [toInt_ofNat, toInt_ofNat] at h'
      have hjk : ¬ j < k := fun hlt => absurd (hk.2 j hlt) (by rw [show v k = v j from h]; exact lt_irrefl _)
      have : j = k := le_antisymm (by exact_mod_cast h') (not_lt.1 hjk)
      rw [this]

/-- The softmax keeps the first place of the greatest, and is above the least value. -/
theorem softmax_first (t : Fin 2000 → ℝ) (μ : ℝ) (k : Fin 2000) (hk : First (fun j => (t j : EReal)) k) :
    First (fun j => Ideal.div (Ideal.exp ((t j : EReal) - (μ : EReal))) (∑ j', Ideal.exp ((t j' : EReal) - (μ : EReal)))) k ∧
      ∀ j, ⊥ < Ideal.div (Ideal.exp ((t j : EReal) - (μ : EReal))) (∑ j', Ideal.exp ((t j' : EReal) - (μ : EReal))) := by
  have hpos : 0 < ∑ j, Real.exp (t j - μ) := Finset.sum_pos (fun _ _ => Real.exp_pos _) ⟨0, Finset.mem_univ _⟩
  have e : ∀ j, Ideal.div (Ideal.exp ((t j : EReal) - (μ : EReal))) (∑ j', Ideal.exp ((t j' : EReal) - (μ : EReal))) =
      ((Real.exp (t j - μ) / ∑ j, Real.exp (t j - μ) : ℝ) : EReal) := fun j => by
    simp only [← EReal.coe_sub, Ideal.exp_coe, sum_real]
    exact div_real _ _ hpos.ne'
  simp only [First, e, EReal.coe_le_coe_iff, EReal.coe_lt_coe_iff] at hk ⊢
  refine ⟨⟨fun j => ?_, fun j hj => ?_⟩, fun j => EReal.bot_lt_coe _⟩
  · exact div_le_div_of_nonneg_right (Real.exp_le_exp.2 (by linarith [hk.1 j])) hpos.le
  · exact div_lt_div_of_pos_right (Real.exp_lt_exp.2 (by linarith [hk.2 j hj])) hpos

end Cert.Gat2
-- ==== Proof.Gat2.Block.lean ====
/-
  One block's results of the second attention layer.
-/
module

public import proofs.«01_k».proof.Proof.Gat2.Choice
public import proofs.«01_k».proof.Proof.Gat2.FrameIdeal
public import proofs.«01_k».proof.Proof.Gat1.Given

@[expose] public section

set_option maxRecDepth 16384

noncomputable section

namespace Cert.Kernel3Ideal.Gat2

open Cert.Kernel3Ideal Cert.Kernel3Ideal.Gen Idealize.ShloMosaic Idealize.ShloMosaic.TcCoe Idealize.SL.Sem Cert.Gat1 Cert.Gat2

/-- What a block's operands hold: its rows of the edges and nodes, all the nodes, the two halves of the ends' vector. -/
structure Operands (x0 : Vec Ideal S256x4096 .f32) (x1 : Vec Ideal S4096x2 .f32) (x2 : Vec Ideal S256x2 .f32) (x3 : Vec Ideal S2x4096 .f32)
    (x4 : Vec Ideal S2x1 .f32) (x5 : Vec Ideal S1x2 .f32) (e : Fin 4096 → Fin 4096 → EReal) (x : Fin 4096 → Fin 2 → EReal)
    (a : Fin 4 → EReal) (i : Fin 256 → Fin 4096) : Prop where
  edges : ∀ r j, x0 (ix2 r j) = e (i r) j
  nodes : ∀ j n, x1 (ix2 j n) = x j n
  rows : ∀ r n, x2 (ix2 r n) = x (i r) n
  nodesT : ∀ n j, x3 (ix2 n j) = x j n
  first : ∀ h : Fin 2, x4 (ix2 h 0) = a ⟨h, by omega⟩
  second : ∀ h : Fin 2, x5 (ix2 0 h) = a ⟨2 + h, by omega⟩

variable {x0 : Vec Ideal S256x4096 .f32} {x1 : Vec Ideal S4096x2 .f32} {x2 : Vec Ideal S256x2 .f32} {x3 : Vec Ideal S2x4096 .f32}
    {x4 : Vec Ideal S2x1 .f32} {x5 : Vec Ideal S1x2 .f32} {e : Fin 4096 → Fin 4096 → EReal} {x : Fin 4096 → Fin 2 → EReal}
    {a : Fin 4 → EReal} {i : Fin 256 → Fin 4096}

theorem head_at (H : Operands x0 x1 x2 x3 x4 x5 e x a i) (r : Fin 256) (p : Fin 2) :
    k0_pay7 x0 x2 x4 x5 x3 x1 (ix2 r p) = Cert.Gat2.head e x a (i r) p := by
  pointwise [k0_pay7]
  simp only [H.edges, H.nodes, H.rows, H.nodesT, H.first, H.second]
  rw [Cert.Gat2.head]
  simp only [weight, Cert.Gat2.src, Cert.Gat2.dst, mul_one, mul_comm (a _)]
  simp only [mul_comm]
  rfl

theorem pay1_at (z : FVec Ideal S256x2 .f32) (b : IVec S256x2 1) (y : FVec Ideal S256x2 .f32) (r : Fin 256) (p : Fin 2) :
    k0_pay1 z b y (ix2 r p) = norm (fun q => Scalar.select (b (ix2 r q)) (z (ix2 r q)) (y (ix2 r q))) p := by
  pointwise [k0_pay1]
  rw [minus_infinity_f32]
  rfl

/-- A block's results. -/
theorem rows_at (H : Operands x0 x1 x2 x3 x4 x5 e x a i) (r : Fin 256) (p : Fin 2) :
    rows x0 x1 x2 x3 x4 x5 (ix2 r p) = Cert.Gat2.layer e x a (i r) p := by
  rw [rows, pay1_at]
  refine congrArg (fun z => norm z p) (funext fun q => ?_)
  pointwise [k0_pay8, k0_pay9]
  rw [head_at H]
  rw [elu]

theorem pay5_at (v62 : Vec Ideal S2000x2 .f32) (v63 : Vec Ideal S1x768 .f32) (v72 : Vec Ideal S2000x1 .f32) (j : Fin 2000) :
    k0_pay5 v62 v63 v72 (ix2 j 0) = term (v62 (ix2 j 0)) (v72 (ix2 j 0)) (k0_pay3 v63) (k0_pay4 v63) := by
  pointwise [k0_pay5]
  rfl

theorem pay6_at (v63 : Vec Ideal S1x768 .f32) (v72 : Vec Ideal S2000x1 .f32) (j : Fin 2000) :
    k0_pay6 v63 v72 (ix2 j 0) = upper (v72 (ix2 j 0)) (k0_pay3 v63) (k0_pay4 v63) := by
  pointwise [k0_pay6]
  rfl

theorem pay3_at (v63 : Vec Ideal S1x768 .f32) : k0_pay3 v63 = Finset.fold max ⊥ (fun c => v63 (ix2 0 c)) (Finset.univ : Finset (Fin 768)) := by
  pointwise [k0_pay3]
  rw [minus_infinity_f32]
  exact fold_max_cover (fun x : Fin 1 × Fin 768 => x.2) (fun c => ⟨(0, c), rfl⟩) ⊥ fun c => v63 (ix2 0 c)

theorem pay4_at (v63 : Vec Ideal S1x768 .f32) : k0_pay4 v63 = Finset.fold min ⊤ (fun c => v63 (ix2 0 c)) (Finset.univ : Finset (Fin 768)) := by
  pointwise [k0_pay4]
  rw [show Ideal.ofBits FTy.f32 2139095040#32 = ⊤ from Cert.Pre_graph.infinity_f32]
  exact fold_min_cover (fun x : Fin 1 × Fin 768 => x.2) (fun c => ⟨(0, c), rfl⟩) ⊤ fun c => v63 (ix2 0 c)

theorem pay2_at (v62 : Vec Ideal S2000x2 .f32) (M m : Ideal .f32) (v92 : FVec Ideal S2000x1 .f32) (v93 : Vec Ideal S2000x1 .f32)
    (v100 : FVec Ideal S2000x1 .f32) (v : Fin 2000 → EReal)
    (hv : ∀ j, max (v92 (ix2 j 0)) (if 0 ≤ v62 (ix2 j 1) then v62 (ix2 j 1) * v100 (ix2 j 0)
      else v62 (ix2 j 1) * if 0 ≤ v93 (ix2 j 0) then v93 (ix2 j 0) * m else v93 (ix2 j 0) * M) = v j) (k : Fin 2000) (hk : First v k) :
    k0_pay2 v62 M m v92 v93 v100 (ix2 0 0) = BitVec.ofNat 32 k.val := by
  pointwise [k0_pay2]
  simp only [hv]
  have e : Finset.fold max (Ideal.ofBits FTy.f32 4286578688#32) (fun x : Fin 2000 × Fin 1 => v x.1) Finset.univ = v k := by
    rw [minus_infinity_f32]
    exact (fold_max_cover (fun x : Fin 2000 × Fin 1 => x.1) (fun j => ⟨(j, 0), rfl⟩) ⊥ v).trans (fold_at_first v k hk)
  refine fold_first v k hk _ (fun x hx => if_pos (e.le.trans hx)) (fun x hx => if_neg fun h => hx (e.ge.trans h))

theorem first_column (x7 : Vec Ideal S2000x2 .f32) (j : Fin 2000) :
    View.ld (Val := Elt Ideal) (e' := .f32) x7 (Rect.unit (s := S2000x2) ![0, 0] S2000x1.size inb_S2000x2_S2000x1_0_0) (ix2 j 0) = x7 (ix2 j 0) := by
  refine congrArg x7 (funext fun a => Fin.ext ?_)
  rw [Rect.idx_unit_val]
  fin_cases a <;> simp

theorem second_column (x7 : Vec Ideal S2000x2 .f32) (j : Fin 2000) :
    View.ld (Val := Elt Ideal) (e' := .f32) x7 (Rect.unit (s := S2000x2) ![0, 1] S2000x1.size inb_S2000x2_S2000x1_0_1) (ix2 j 0) = x7 (ix2 j 1) := by
  refine congrArg x7 (funext fun a => Fin.ext ?_)
  rw [Rect.idx_unit_val]
  fin_cases a <;> simp

theorem off2_row (w : BitVec 32) : k0_off2 w 0 = (start w).val := clamped w

theorem window_at (w : BitVec 32) (s : Vec Ideal S4096x2 .f32) (j : Fin 2000) (p : Fin 2) :
    View.ld (Val := Elt Ideal) (e' := .f32) s (Rect.unit (s := S4096x2) (k0_off2 w) S2000x2.size (off2_inb w)) (ix2 j p) =
      s (ix2 ⟨start w + j, by omega⟩ p) := by
  refine congrArg s (funext fun a => Fin.ext ?_)
  rw [Rect.idx_unit_val]
  fin_cases a
  · exact congrArg (· + j.val) (off2_row w)
  · exact Nat.zero_add _

/-- The position found, from the rows of the scratch, is the first place of the greatest value. -/
theorem position_at (w : BitVec 32) (s : Vec Ideal S4096x2 .f32) (x6 : Vec Ideal S1x768 .f32) (x7 : Vec Ideal S2000x2 .f32)
    (k : Fin 2000) (hk : First (fun j => place (fun p => s (ix2 ⟨start w + j, by omega⟩ p)) (fun p => x7 (ix2 j p))
      (Finset.fold max ⊥ (fun c => x6 (ix2 0 c)) (Finset.univ : Finset (Fin 768)))
      (Finset.fold min ⊤ (fun c => x6 (ix2 0 c)) (Finset.univ : Finset (Fin 768)))) k) :
    position w s x6 x7 (ix2 0 0) = BitVec.ofNat 32 k.val := by
  unfold position
  refine pay2_at _ _ _ _ _ _ _ (fun j => ?_) k hk
  rw [pay5_at, pay6_at, pay3_at, pay4_at, window_at, window_at, first_column, second_column]
  rfl

end Cert.Kernel3Ideal.Gat2
-- ==== Proof.Gat2.Arrays.lean ====
/-
  The second attention layer's position over the launch's arguments.
-/
module

public import proofs.«01_k».proof.Proof.Gat2.Block
public import proofs.«01_k».proof.Proof.Gat2.FrameIdeal

@[expose] public section

set_option maxRecDepth 16384

noncomputable section

namespace Cert.Kernel3Ideal.Gat2

open Cert.Kernel3Ideal Cert.Kernel3Ideal.Gen Idealize.ShloMosaic Idealize.ShloMosaic.TcCoe Idealize.SL.Sem Cert.Gat2

variable (m : (ℓ : Loc nD τ sig) → Buf (Elt Ideal) ℓ) (hO : Ok m) (c : Dev nD)

/-- The position, the edges, the nodes, the mixing row, the places' coordinates and the ends' vector, entry by entry. -/
abbrev pr : BitVec 32 := m ((c.tc : Thread nD τ).loc main_arg0) Idealize.ShloMosaic.ix0
abbrev ed (i j : Fin 4096) : EReal := m ((c.tc : Thread nD τ).loc main_arg1) (ix2 i j)
abbrev nd (i : Fin 4096) (n : Fin 2) : EReal := m ((c.tc : Thread nD τ).loc main_arg2) (ix2 i n)
abbrev mx (k : Fin 768) : EReal := m ((c.tc : Thread nD τ).loc main_arg3) (ix2 0 k)
abbrev pl (j : Fin 2000) (p : Fin 2) : EReal := m ((c.tc : Thread nD τ).loc main_arg4) (ix2 j p)
abbrev av (q : Fin 4) : EReal := m ((c.tc : Thread nD τ).loc main_arg5) (ix2 q 0)

theorem v0_at (n : Fin 2) (j : Fin 4096) : V m c main_v0 (ix2 n j) = nd m c j n := by
  unfold V
  entry_read
  pointwise

theorem v1_at : V m c main_v1 (ix1 0) = pr m c := by
  unfold V
  entry_read
  pointwise

theorem v2_at (h : Fin 2) : V m c main_v2 (ix2 h 0) = av m c ⟨h, by omega⟩ := by
  unfold V
  entry_read
  pointwise

theorem v4_at (h : Fin 2) : V m c main_v4 (ix2 0 h) = av m c ⟨2 + h, by omega⟩ := by
  unfold V
  entry_read
  pointwise

theorem word_eq : word c (tbl m 0) = pr m c := by
  obtain rfl : c = 0 := Subsingleton.elim _ _
  unfold word kernelRun0_C.sl.r_3
  refine Eq.trans (congrArg (V m 0 main_v1) (a₂ := Idealize.ShloMosaic.ix1 0) ?_) (v1_at m 0)
  exact funext fun a => by fin_cases a; exact Subsingleton.elim (α := Fin 1) _ _

theorem points (t : Fin grid0.N) : t.val < 16 := Nat.lt_of_lt_of_eq t.isLt N_0

/-- A block's row among all the nodes. -/
def row (t : Fin grid0.N) (r : Fin 256) : Fin 4096 := ⟨256 * t.val + r.val, by have := points t; omega⟩

theorem index0 (t : Fin grid0.N) : (pcfg0.win (adm m hO) 0).index t 0 = t.val ∧ (pcfg0.win (adm m hO) 0).index t 1 = 0 :=
  (by decide +kernel : ∀ t : Fin grid0.N, cc0_transform_0 (grid0.coords t) 0 = t.val ∧ cc0_transform_0 (grid0.coords t) 1 = 0) t
theorem index1 (t : Fin grid0.N) : (pcfg0.win (adm m hO) 1).index t 0 = 0 ∧ (pcfg0.win (adm m hO) 1).index t 1 = 0 :=
  (by decide +kernel : ∀ t : Fin grid0.N, cc0_transform_1 (grid0.coords t) 0 = 0 ∧ cc0_transform_1 (grid0.coords t) 1 = 0) t
theorem index2 (t : Fin grid0.N) : (pcfg0.win (adm m hO) 2).index t 0 = t.val ∧ (pcfg0.win (adm m hO) 2).index t 1 = 0 :=
  (by decide +kernel : ∀ t : Fin grid0.N, cc0_transform_2 (grid0.coords t) 0 = t.val ∧ cc0_transform_2 (grid0.coords t) 1 = 0) t
theorem index3 (t : Fin grid0.N) : (pcfg0.win (adm m hO) 3).index t 0 = 0 ∧ (pcfg0.win (adm m hO) 3).index t 1 = 0 :=
  (by decide +kernel : ∀ t : Fin grid0.N, cc0_transform_3 (grid0.coords t) 0 = 0 ∧ cc0_transform_3 (grid0.coords t) 1 = 0) t
theorem index4 (t : Fin grid0.N) : (pcfg0.win (adm m hO) 4).index t 0 = 0 ∧ (pcfg0.win (adm m hO) 4).index t 1 = 0 :=
  (by decide +kernel : ∀ t : Fin grid0.N, cc0_transform_4 (grid0.coords t) 0 = 0 ∧ cc0_transform_4 (grid0.coords t) 1 = 0) t
theorem index5 (t : Fin grid0.N) : (pcfg0.win (adm m hO) 5).index t 0 = 0 ∧ (pcfg0.win (adm m hO) 5).index t 1 = 0 :=
  (by decide +kernel : ∀ t : Fin grid0.N, cc0_transform_5 (grid0.coords t) 0 = 0 ∧ cc0_transform_5 (grid0.coords t) 1 = 0) t
theorem index6 (t : Fin grid0.N) : (pcfg0.win (adm m hO) 6).index t 0 = 0 ∧ (pcfg0.win (adm m hO) 6).index t 1 = 0 :=
  (by decide +kernel : ∀ t : Fin grid0.N, cc0_transform_6 (grid0.coords t) 0 = 0 ∧ cc0_transform_6 (grid0.coords t) 1 = 0) t
theorem index7 (t : Fin grid0.N) : (pcfg0.win (adm m hO) 7).index t 0 = 0 ∧ (pcfg0.win (adm m hO) 7).index t 1 = 0 :=
  (by decide +kernel : ∀ t : Fin grid0.N, cc0_transform_7 (grid0.coords t) 0 = 0 ∧ cc0_transform_7 (grid0.coords t) 1 = 0) t
theorem index8 (t : Fin grid0.N) : (pcfg0.win (adm m hO) 8).index t 0 = 0 ∧ (pcfg0.win (adm m hO) 8).index t 1 = 0 :=
  (by decide +kernel : ∀ t : Fin grid0.N, cc0_transform_8 (grid0.coords t) 0 = 0 ∧ cc0_transform_8 (grid0.coords t) 1 = 0) t

/-! Each window's block, at any array's contents. -/

theorem read0 (t : Fin grid0.N) (X : Vec Ideal S4096x4096 .f32) (r : Fin 256) (j : Fin 4096) :
    (((cfgM m hO).win 0).blk t).view.read (Elt Ideal) X (ix2 r j) = X (ix2 (row t r) j) := by
  blk_ext [row]
  · exact (congrArg (fun u => u * 256 + r.val) (index0 m hO t).1).trans (by omega)
  · exact (congrArg (fun u => u * 4096 + j.val) (index0 m hO t).2).trans (by omega)

theorem read1 (t : Fin grid0.N) (X : Vec Ideal S4096x2 .f32) (j : Fin 4096) (n : Fin 2) :
    (((cfgM m hO).win 1).blk t).view.read (Elt Ideal) X (ix2 j n) = X (ix2 j n) := by
  blk_ext [row]
  · exact (congrArg (fun u => u * 4096 + j.val) (index1 m hO t).1).trans (by omega)
  · exact (congrArg (fun u => u * 2 + n.val) (index1 m hO t).2).trans (by omega)

theorem read2 (t : Fin grid0.N) (X : Vec Ideal S4096x2 .f32) (r : Fin 256) (n : Fin 2) :
    (((cfgM m hO).win 2).blk t).view.read (Elt Ideal) X (ix2 r n) = X (ix2 (row t r) n) := by
  blk_ext [row]
  · exact (congrArg (fun u => u * 256 + r.val) (index2 m hO t).1).trans (by omega)
  · exact (congrArg (fun u => u * 2 + n.val) (index2 m hO t).2).trans (by omega)

theorem read3 (t : Fin grid0.N) (X : Vec Ideal S2x4096 .f32) (n : Fin 2) (j : Fin 4096) :
    (((cfgM m hO).win 3).blk t).view.read (Elt Ideal) X (ix2 n j) = X (ix2 n j) := by
  blk_ext [row]
  · exact (congrArg (fun u => u * 2 + n.val) (index3 m hO t).1).trans (by omega)
  · exact (congrArg (fun u => u * 4096 + j.val) (index3 m hO t).2).trans (by omega)

theorem read4 (t : Fin grid0.N) (X : Vec Ideal S2x1 .f32) (h : Fin 2) :
    (((cfgM m hO).win 4).blk t).view.read (Elt Ideal) X (ix2 h 0) = X (ix2 h 0) := by
  blk_ext [row]
  · exact (congrArg (fun u => u * 2 + h.val) (index4 m hO t).1).trans (by omega)
  · exact (index4 m hO t).2

theorem read5 (t : Fin grid0.N) (X : Vec Ideal S1x2 .f32) (h : Fin 2) :
    (((cfgM m hO).win 5).blk t).view.read (Elt Ideal) X (ix2 0 h) = X (ix2 0 h) := by
  blk_ext [row]
  · exact (index5 m hO t).1
  · exact (congrArg (fun u => u * 2 + h.val) (index5 m hO t).2).trans (by omega)

theorem read6 (t : Fin grid0.N) (X : Vec Ideal S1x768 .f32) (k : Fin 768) :
    (((cfgM m hO).win 6).blk t).view.read (Elt Ideal) X (ix2 0 k) = X (ix2 0 k) := by
  blk_ext [row]
  · exact (index6 m hO t).1
  · exact (congrArg (fun u => u * 768 + k.val) (index6 m hO t).2).trans (by omega)

theorem read7 (t : Fin grid0.N) (X : Vec Ideal S2000x2 .f32) (j : Fin 2000) (p : Fin 2) :
    (((cfgM m hO).win 7).blk t).view.read (Elt Ideal) X (ix2 j p) = X (ix2 j p) := by
  blk_ext [row]
  · exact (congrArg (fun u => u * 2000 + j.val) (index7 m hO t).1).trans (by omega)
  · exact (congrArg (fun u => u * 2 + p.val) (index7 m hO t).2).trans (by omega)

/-- The block of rows `t` reads what `Operands` says. -/
theorem operands (t : Fin grid0.N) :
    Operands (iblk m hO c 0 t) (iblk m hO c 1 t) (iblk m hO c 2 t) (iblk m hO c 3 t) (iblk m hO c 4 t) (iblk m hO c 5 t)
      (ed m c) (nd m c) (av m c) (row t) where
  edges r j := (read0 m hO t _ r j).trans (congrFun (V_main_arg1 m c) _)
  nodes j n := (read1 m hO t _ j n).trans (congrFun (V_main_arg2 m c) _)
  rows r n := (read2 m hO t _ r n).trans (congrFun (V_main_arg2 m c) _)
  nodesT n j := (read3 m hO t _ n j).trans (v0_at m c n j)
  first h := (read4 m hO t _ h).trans (v2_at m c h)
  second h := (read5 m hO t _ h).trans (v4_at m c h)

theorem filled_at (i : Fin 4096) (p : Fin 2) : filled m hO c (ix2 i p) = Cert.Gat2.layer (ed m c) (nd m c) (av m c) i p := by
  unfold filled rowsAt
  refine (rows_at (operands m hO c _) _ p).trans ?_
  refine congrArg (fun i => Cert.Gat2.layer (ed m c) (nd m c) (av m c) i p) (Fin.ext ?_)
  exact Nat.div_add_mod i.val 256

/-- The places' values. -/
def value (j : Fin 2000) : EReal :=
  place (fun p => Cert.Gat2.layer (ed m c) (nd m c) (av m c) ⟨start (pr m c) + j, by omega⟩ p) (pl m c j)
    (Finset.fold max ⊥ (mx m c) Finset.univ) (Finset.fold min ⊤ (mx m c) Finset.univ)

theorem found_at (t : Fin grid0.N) (k : Fin 2000) (hk : First (value m c) k) : found m hO c t (ix2 0 0) = BitVec.ofNat 32 k.val := by
  refine position_at _ _ _ _ k ?_
  have e6 : ∀ k : Fin 768, iblk m hO c 6 t (ix2 0 k) = mx m c k := fun k => (read6 m hO t _ k).trans (congrFun (V_main_arg3 m c) _)
  have e7 : ∀ (j : Fin 2000) (p : Fin 2), iblk m hO c 7 t (ix2 j p) = pl m c j p := fun j p =>
    (read7 m hO t _ j p).trans (congrFun (V_main_arg4 m c) _)
  simp only [e6, e7, filled_at, word_eq]
  exact hk

/-- The result array, the position's word. -/
def single (k : Fin 2000) : IVec S1x1 32 := fun _ => BitVec.ofNat 32 k.val

theorem covers8 : ((cfgM m hO).win 8).Covers := by
  refine ⟨fun a => ?_, fun β => ⟨(⟨15, by decide⟩ : Fin grid0.N), (flush0_8 (adm m hO) _).2 rfl, fun a => ⟨?_, Or.inl rfl⟩⟩⟩
  · fin_cases a <;> exact Nat.one_pos
  · fin_cases a
    · exact (index8 m hO ⟨15, by decide⟩).1.trans (Nat.lt_one_iff.1 (Nat.lt_of_lt_of_eq (β (0 : Fin 2)).isLt (Nat.div_one 1))).symm
    · exact (index8 m hO ⟨15, by decide⟩).2.trans (Nat.lt_one_iff.1 (Nat.lt_of_lt_of_eq (β (1 : Fin 2)).isLt (Nat.div_one 1))).symm

theorem arr8 (k : Fin 2000) (hk : First (value m c) k) : (dats m hO 0 c).arrAt 8 (cfgM m hO).N = single k := by
  refine (dats m hO 0 c).arrAt_eq_of_covers 8 _ (covers8 m hO) fun t hf y => ?_
  blk_simp
  rw [after0_8]
  obtain rfl : ix2 0 0 = y := funext fun a => by fin_cases a <;> exact Subsingleton.elim (α := Fin 1) _ _
  exact found_at m hO c t k hk

end Cert.Kernel3Ideal.Gat2
-- ==== Proof.Gat2.RefRun.lean ====
/- The reference program's operations as a list and its run read back: each buffer the result needs holds the
   composed term of the arguments' launch contents, and the arguments stay unchanged. -/
module

public import proofs.«01_k».proof.Proof.Gen.Reference3Ideal
public import Idealize.ShloMosaic.Lib.StableHlo.Run
public import Idealize.ShloMosaic.Lib.StableHlo.RunClose
public import Idealize.ShloMosaic.Lib.Pipeline.Frame

@[expose] public section

set_option Elab.async false

noncomputable section

namespace Cert.Reference3Ideal.Value

open Cert.Reference3Ideal Cert.Reference3Ideal.Gen Idealize.ShloMosaic Idealize.ShloMosaic.TcCoe Idealize.SL.Sem Idealize.ShloMosaic.StableHlo

variable {F : FTy → Type} [FloatOps F]

/-- @main's operations 1 … 30 of 106 (window `main_part0`). -/
abbrev ops_part0_0 : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    binary main_arg1 main_v0 main_v1 (cmpf .ogt : (⟨S4096x4096, .f32⟩ : BufTy).Contents (Elt F) → (⟨S4096x4096, .f32⟩ : BufTy).Contents (Elt F) → (⟨S4096x4096, .i1⟩ : BufTy).Contents (Elt F)),
    unary main_arg5 main_v2 ((extractStridedSlice S2x1 ![0, 0] · slices_S4x1_S2x1_0_0) : (⟨S4x1, .f32⟩ : BufTy).Contents (Elt F) → (⟨S2x1, .f32⟩ : BufTy).Contents (Elt F)),
    binary main_arg2 main_v2 main_v3 ((fun l r => Host.dotGeneral dot_S4096x2_S2x1_S4096x1_1_0_0_1_n_n none l r) : (⟨S4096x2, .f32⟩ : BufTy).Contents (Elt F) → (⟨S2x1, .f32⟩ : BufTy).Contents (Elt F) → (⟨S4096x1, .f32⟩ : BufTy).Contents (Elt F)),
    unary main_arg5 main_v4 ((extractStridedSlice S2x1 ![2, 0] · slices_S4x1_S2x1_2_0) : (⟨S4x1, .f32⟩ : BufTy).Contents (Elt F) → (⟨S2x1, .f32⟩ : BufTy).Contents (Elt F)),
    binary main_arg2 main_v4 main_v5 ((fun l r => Host.dotGeneral dot_S4096x2_S2x1_S4096x1_1_0_0_1_n_n none l r) : (⟨S4096x2, .f32⟩ : BufTy).Contents (Elt F) → (⟨S2x1, .f32⟩ : BufTy).Contents (Elt F) → (⟨S4096x1, .f32⟩ : BufTy).Contents (Elt F)),
    unary main_v5 main_v6 ((transpose S1x4096 [1, 0] · transposes_S4096x1_S1x4096_1_0) : (⟨S4096x1, .f32⟩ : BufTy).Contents (Elt F) → (⟨S1x4096, .f32⟩ : BufTy).Contents (Elt F)),
    unary main_v3 main_v7 (broadcastInDim S4096x4096 ![0, 1] bcast_S4096x1_S4096x4096_0_1 : (⟨S4096x1, .f32⟩ : BufTy).Contents (Elt F) → (⟨S4096x4096, .f32⟩ : BufTy).Contents (Elt F)),
    unary main_v6 main_v8 (broadcastInDim S4096x4096 ![0, 1] bcast_S1x4096_S4096x4096_0_1 : (⟨S1x4096, .f32⟩ : BufTy).Contents (Elt F) → (⟨S4096x4096, .f32⟩ : BufTy).Contents (Elt F)),
    binary main_v7 main_v8 main_v9 (addf : (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0x3E4CCCCD#32),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v9) (TRef.of (T := ⟨S4096x4096, .f32⟩) main_call0_v0) (TRef.of (T := ⟨S4096x4096, .i1⟩) main_call0_v1) (cmpf .oge),
    TRef.unary (TRef.of (T := ⟨S_, .f32⟩) main_cst_0) (TRef.of (T := ⟨S_, .f32⟩) main_call0_v2) id,
    TRef.unary (TRef.of (T := ⟨S_, .f32⟩) main_call0_v2) (TRef.of (T := ⟨S4096x4096, .f32⟩) main_call0_v3) (broadcastInDim S4096x4096 ![] bcast_S_S4096x4096),
    TRef.binary (TRef.of (T := ⟨S4096x4096, .f32⟩) main_call0_v3) (TRef.of (T := ⟨S4096x4096, .f32⟩) main_v9) (TRef.of (T := ⟨S4096x4096, .f32⟩) main_call0_v4) mulf,
    TRef.ternary (TRef.of (T := ⟨S4096x4096, .i1⟩) main_call0_v1) (TRef.of (T := ⟨S4096x4096, .f32⟩) main_v9) (TRef.of (T := ⟨S4096x4096, .f32⟩) main_call0_v4) (TRef.of (T := ⟨S4096x4096, .f32⟩) main_v10) select,
    nullary main_cst_1 (constant S_ .f32 0xFF800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v1) (TRef.of (T := ⟨S4096x4096, .f32⟩) main_v10) (TRef.of (T := ⟨S4096x4096, .f32⟩) main_call1_v1) (TRef.of (T := ⟨S4096x4096, .f32⟩) main_v11) select,
    nullary main_cst_2 (constant S_ .f32 0xFF800000#32),
    binary main_v11 main_cst_2 main_v12 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v13 (broadcastInDim S4096 ![] bcast_S_S4096 : (⟨S_, .f32⟩ : BufTy).Contents (Elt F) → (⟨S4096, .f32⟩ : BufTy).Contents (Elt F)),
    binary main_v13 main_v12 main_v14 (maximumf : (⟨S4096, .f32⟩ : BufTy).Contents (Elt F) → (⟨S4096, .f32⟩ : BufTy).Contents (Elt F) → (⟨S4096, .f32⟩ : BufTy).Contents (Elt F)),
    unary main_v14 main_v15 (broadcastInDim S4096x1 ![0] bcast_S4096_S4096x1_0 : (⟨S4096, .f32⟩ : BufTy).Contents (Elt F) → (⟨S4096x1, .f32⟩ : BufTy).Contents (Elt F)),
    unary main_v15 main_v16 (broadcastInDim S4096x4096 ![0, 1] bcast_S4096x1_S4096x4096_0_1 : (⟨S4096x1, .f32⟩ : BufTy).Contents (Elt F) → (⟨S4096x4096, .f32⟩ : BufTy).Contents (Elt F)) ]

/-- @main's operations 31 … 60 of 106 (window `main_part0`). -/
abbrev ops_part0_1 : List (HloOp τ sig (Elt F)) :=
  [ binary main_v11 main_v16 main_v17 (subf : (⟨S4096x4096, .f32⟩ : BufTy).Contents (Elt F) → (⟨S4096x4096, .f32⟩ : BufTy).Contents (Elt F) → (⟨S4096x4096, .f32⟩ : BufTy).Contents (Elt F)),
    unary main_v17 main_v18 (Host.exp : (⟨S4096x4096, .f32⟩ : BufTy).Contents (Elt F) → (⟨S4096x4096, .f32⟩ : BufTy).Contents (Elt F)),
    nullary main_cst_4 (constant S_ .f32 0x00000000#32),
    binary main_v18 main_cst_4 main_v19 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x4096 ![0, 1] bcast_S4096x1_S4096x4096_0_1 : (⟨S4096x1, .f32⟩ : BufTy).Contents (Elt F) → (⟨S4096x4096, .f32⟩ : BufTy).Contents (Elt F)),
    binary main_v18 main_v21 main_v22 (Host.divf : (⟨S4096x4096, .f32⟩ : BufTy).Contents (Elt F) → (⟨S4096x4096, .f32⟩ : BufTy).Contents (Elt F) → (⟨S4096x4096, .f32⟩ : BufTy).Contents (Elt F)),
    binary main_v22 main_arg2 main_v23 ((fun l r => Host.dotGeneral dot_S4096x4096_S4096x2_S4096x2_1_0_0_1_n_n none l r) : (⟨S4096x4096, .f32⟩ : BufTy).Contents (Elt F) → (⟨S4096x2, .f32⟩ : BufTy).Contents (Elt F) → (⟨S4096x2, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x2, .f32⟩) main_call2_v0) (broadcastInDim S4096x2 ![] bcast_S_S4096x2),
    TRef.binary (TRef.of (T := ⟨S4096x2, .f32⟩) main_v23) (TRef.of (T := ⟨S4096x2, .f32⟩) main_call2_v0) (TRef.of (T := ⟨S4096x2, .i1⟩) main_call2_v1) (cmpf .ogt),
    TRef.nullary (TRef.of (T := ⟨S_, .f32⟩) main_call2_cst_0) (constant S_ .f32 0x00000000#32),
    TRef.unary (TRef.of (T := ⟨S_, .f32⟩) main_call2_cst_0) (TRef.of (T := ⟨S4096x2, .f32⟩) main_call2_v2) (broadcastInDim S4096x2 ![] bcast_S_S4096x2),
    TRef.binary (TRef.of (T := ⟨S4096x2, .f32⟩) main_v23) (TRef.of (T := ⟨S4096x2, .f32⟩) main_call2_v2) (TRef.of (T := ⟨S4096x2, .i1⟩) main_call2_v3) (cmpf .ogt),
    TRef.nullary (TRef.of (T := ⟨S_, .f32⟩) main_call2_cst_1) (constant S_ .f32 0x00000000#32),
    TRef.unary (TRef.of (T := ⟨S_, .f32⟩) main_call2_cst_1) (TRef.of (T := ⟨S_, .f32⟩) main_call2_call0_v0) id,
    TRef.unary (TRef.of (T := ⟨S_, .f32⟩) main_call2_call0_v0) (TRef.of (T := ⟨S4096x2, .f32⟩) main_call2_call0_v1) (broadcastInDim S4096x2 ![] bcast_S_S4096x2),
    TRef.ternary (TRef.of (T := ⟨S4096x2, .i1⟩) main_call2_v3) (TRef.of (T := ⟨S4096x2, .f32⟩) main_call2_call0_v1) (TRef.of (T := ⟨S4096x2, .f32⟩) main_v23) (TRef.of (T := ⟨S4096x2, .f32⟩) main_call2_v4) select,
    TRef.unary (TRef.of (T := ⟨S4096x2, .f32⟩) main_call2_v4) (TRef.of (T := ⟨S4096x2, .f32⟩) main_call2_v5) Host.expm1,
    TRef.nullary (TRef.of (T := ⟨S_, .f32⟩) main_call2_cst_2) (constant S_ .f32 0x3F800000#32),
    TRef.unary (TRef.of (T := ⟨S_, .f32⟩) main_call2_cst_2) (TRef.of (T := ⟨S4096x2, .f32⟩) main_call2_v6) (broadcastInDim S4096x2 ![] bcast_S_S4096x2),
    TRef.binary (TRef.of (T := ⟨S4096x2, .f32⟩) main_call2_v6) (TRef.of (T := ⟨S4096x2, .f32⟩) main_call2_v5) (TRef.of (T := ⟨S4096x2, .f32⟩) main_call2_v7) mulf,
    TRef.ternary (TRef.of (T := ⟨S4096x2, .i1⟩) main_call2_v1) (TRef.of (T := ⟨S4096x2, .f32⟩) main_v23) (TRef.of (T := ⟨S4096x2, .f32⟩) main_call2_v7) (TRef.of (T := ⟨S4096x2, .f32⟩) main_v24) select,
    TRef.nullary (TRef.of (T := ⟨S_, .f32⟩) main_call3_cst) (constant S_ .f32 0xFF800000#32),
    TRef.binary (TRef.of (T := ⟨S4096x2, .f32⟩) main_v24) (TRef.of (T := ⟨S_, .f32⟩) main_call3_cst) (TRef.of (T := ⟨S4096, .f32⟩) main_call3_v0) (fun x v => Host.reduce FloatOps.maximumf x v reducesTo_S4096x2_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x2, .f32⟩) main_call3_v4) (broadcastInDim S4096x2 ![0, 1] bcast_S4096x1_S4096x2_0_1) ]

/-- @main's operations 61 … 90 of 106 (window `main_part0`). -/
abbrev ops_part0_2 : List (HloOp τ sig (Elt F)) :=
  [ TRef.binary (TRef.of (T := ⟨S4096x2, .f32⟩) main_v24) (TRef.of (T := ⟨S4096x2, .f32⟩) main_call3_v4) (TRef.of (T := ⟨S4096x2, .f32⟩) main_call3_v5) subf,
    TRef.unary (TRef.of (T := ⟨S4096x2, .f32⟩) main_call3_v5) (TRef.of (T := ⟨S4096x2, .f32⟩) main_call3_v6) Host.exp,
    TRef.nullary (TRef.of (T := ⟨S_, .f32⟩) main_call3_cst_1) (constant S_ .f32 0x00000000#32),
    TRef.binary (TRef.of (T := ⟨S4096x2, .f32⟩) main_call3_v6) (TRef.of (T := ⟨S_, .f32⟩) main_call3_cst_1) (TRef.of (T := ⟨S4096, .f32⟩) main_call3_v7) (fun x v => Host.reduceAdd x v reducesTo_S4096x2_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x2, .f32⟩) main_call3_v10) (broadcastInDim S4096x2 ![0, 1] bcast_S4096x1_S4096x2_0_1),
    TRef.binary (TRef.of (T := ⟨S4096x2, .f32⟩) main_call3_v5) (TRef.of (T := ⟨S4096x2, .f32⟩) main_call3_v10) (TRef.of (T := ⟨S4096x2, .f32⟩) main_v25) subf,
    unary main_arg4 main_v26 (broadcastInDim S2000x2x1 ![0, 1] bcast_S2000x2_S2000x2x1_0_1 : (⟨S2000x2, .f32⟩ : BufTy).Contents (Elt F) → (⟨S2000x2x1, .f32⟩ : BufTy).Contents (Elt F)),
    reshape main_arg3 main_v27 (rfl : (.f32 : EltTy) = .f32) shapeCasts_S1x768_S768,
    unary main_v27 main_v28 (broadcastInDim S1x1x768 ![2] bcast_S768_S1x1x768_2 : (⟨S768, .f32⟩ : BufTy).Contents (Elt F) → (⟨S1x1x768, .f32⟩ : BufTy).Contents (Elt F)),
    unary main_v26 main_v29 (broadcastInDim S2000x2x768 ![0, 1, 2] bcast_S2000x2x1_S2000x2x768_0_1_2 : (⟨S2000x2x1, .f32⟩ : BufTy).Contents (Elt F) → (⟨S2000x2x768, .f32⟩ : BufTy).Contents (Elt F)),
    unary main_v28 main_v30 (broadcastInDim S2000x2x768 ![0, 1, 2] bcast_S1x1x768_S2000x2x768_0_1_2 : (⟨S1x1x768, .f32⟩ : BufTy).Contents (Elt F) → (⟨S2000x2x768, .f32⟩ : BufTy).Contents (Elt F)),
    binary main_v29 main_v30 main_v31 (mulf : (⟨S2000x2x768, .f32⟩ : BufTy).Contents (Elt F) → (⟨S2000x2x768, .f32⟩ : BufTy).Contents (Elt F) → (⟨S2000x2x768, .f32⟩ : BufTy).Contents (Elt F)),
    nullary main_c (constantI S_ 32 0#32),
    binary main_arg0 main_c main_v32 (cmpi .slt : (⟨S_, .i32⟩ : BufTy).Contents (Elt F) → (⟨S_, .i32⟩ : BufTy).Contents (Elt F) → (⟨S_, .i1⟩ : BufTy).Contents (Elt F)),
    nullary main_c_5 (constantI S_ 32 4096#32),
    binary main_arg0 main_c_5 main_v33 (addi : (⟨S_, .i32⟩ : BufTy).Contents (Elt F) → (⟨S_, .i32⟩ : BufTy).Contents (Elt F) → (⟨S_, .i32⟩ : BufTy).Contents (Elt F)),
    ternary main_v32 main_v33 main_arg0 main_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    unaryIndexed main_v25 ![main_v34, main_c_6] ⟨S_, .i32⟩ main_v35 ((fun x i => Host.dynamicSlice S2000x2 x (fun k => (i k (Shape.Idx.first h_S_)).toInt) sliceFits_S4096x2_S2000x2) : (⟨S4096x2, .f32⟩ : BufTy).Contents (Elt F) → (Fin 2 → (⟨S_, .i32⟩ : BufTy).Contents (Elt F)) → (⟨S2000x2, .f32⟩ : BufTy).Contents (Elt F)),
    unary main_v35 main_v36 (broadcastInDim S2000x2x1 ![0, 1] bcast_S2000x2_S2000x2x1_0_1 : (⟨S2000x2, .f32⟩ : BufTy).Contents (Elt F) → (⟨S2000x2x1, .f32⟩ : BufTy).Contents (Elt F)),
    unary main_v36 main_v37 (broadcastInDim S2000x2x768 ![0, 1, 2] bcast_S2000x2x1_S2000x2x768_0_1_2 : (⟨S2000x2x1, .f32⟩ : BufTy).Contents (Elt F) → (⟨S2000x2x768, .f32⟩ : BufTy).Contents (Elt F)),
    binary main_v37 main_v31 main_v38 (mulf : (⟨S2000x2x768, .f32⟩ : BufTy).Contents (Elt F) → (⟨S2000x2x768, .f32⟩ : BufTy).Contents (Elt F) → (⟨S2000x2x768, .f32⟩ : BufTy).Contents (Elt F)),
    nullary main_cst_7 (constant S_ .f32 0xFF800000#32),
    binary main_v38 main_cst_7 main_v39 ((fun x v => Host.reduce FloatOps.maximumf x v reducesTo_S2000x2x768_S2000_d1_2 h_S_) : (⟨S2000x2x768, .f32⟩ : BufTy).Contents (Elt F) → (⟨S_, .f32⟩ : BufTy).Contents (Elt F) → (⟨S2000, .f32⟩ : BufTy).Contents (Elt F)),
    nullary main_cst_8 (constant S_ .f32 0xFF800000#32),
    binary main_v39 main_cst_8 main_v40 ((fun x v => Host.reduce FloatOps.maximumf x v reducesTo_S2000_S_d0 h_S_) : (⟨S2000, .f32⟩ : BufTy).Contents (Elt F) → (⟨S_, .f32⟩ : BufTy).Contents (Elt F) → (⟨S_, .f32⟩ : BufTy).Contents (Elt F)),
    nullary main_cst_9 (constant S_ .f32 0xFF800000#32),
    binary main_cst_9 main_v40 main_v41 (maximumf : (⟨S_, .f32⟩ : BufTy).Contents (Elt F) → (⟨S_, .f32⟩ : BufTy).Contents (Elt F) → (⟨S_, .f32⟩ : BufTy).Contents (Elt F)) ]

/-- @main's operations 91 … 96 of 106 (window `main_part0`). -/
abbrev ops_part0_3 : List (HloOp τ sig (Elt F)) :=
  [ unary main_v41 main_v42 (broadcastInDim S1 ![] bcast_S_S1 : (⟨S_, .f32⟩ : BufTy).Contents (Elt F) → (⟨S1, .f32⟩ : BufTy).Contents (Elt F)),
    unary main_v42 main_v43 (broadcastInDim S2000 ![0] bcast_S1_S2000_0 : (⟨S1, .f32⟩ : BufTy).Contents (Elt F) → (⟨S2000, .f32⟩ : BufTy).Contents (Elt F)),
    binary main_v39 main_v43 main_v44 (subf : (⟨S2000, .f32⟩ : BufTy).Contents (Elt F) → (⟨S2000, .f32⟩ : BufTy).Contents (Elt F) → (⟨S2000, .f32⟩ : BufTy).Contents (Elt F)),
    unary main_v44 main_v45 (Host.exp : (⟨S2000, .f32⟩ : BufTy).Contents (Elt F) → (⟨S2000, .f32⟩ : BufTy).Contents (Elt F)),
    nullary main_cst_10 (constant S_ .f32 0x00000000#32),
    binary main_v45 main_cst_10 main_v46 ((fun x v => Host.reduceAdd x v reducesTo_S2000_S_d0 h_S_) : (⟨S2000, .f32⟩ : BufTy).Contents (Elt F) → (⟨S_, .f32⟩ : BufTy).Contents (Elt F) → (⟨S_, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 97 … 100 of 106 (window `main_part1`). -/
abbrev ops_part1_0 : List (HloOp τ sig (Elt F)) :=
  [ unary main_v46 main_v47 (broadcastInDim S1 ![] bcast_S_S1 : (⟨S_, .f32⟩ : BufTy).Contents (Elt F) → (⟨S1, .f32⟩ : BufTy).Contents (Elt F)),
    unary main_v47 main_v48 (broadcastInDim S2000 ![0] bcast_S1_S2000_0 : (⟨S1, .f32⟩ : BufTy).Contents (Elt F) → (⟨S2000, .f32⟩ : BufTy).Contents (Elt F)),
    binary main_v45 main_v48 main_v49 (Host.divf : (⟨S2000, .f32⟩ : BufTy).Contents (Elt F) → (⟨S2000, .f32⟩ : BufTy).Contents (Elt F) → (⟨S2000, .f32⟩ : BufTy).Contents (Elt F)),
    unary main_v49 main_v50 (broadcastInDim S1x2000 ![1] bcast_S2000_S1x2000_1 : (⟨S2000, .f32⟩ : BufTy).Contents (Elt F) → (⟨S1x2000, .f32⟩ : BufTy).Contents (Elt F)) ]

/-- @main's operations 101 … 106 of 106 (window `main_part1`): the first place of the greatest entry. -/
abbrev ops_part1_1 : List (HloOp τ sig (Elt F)) :=
  [ TRef.nullary (TRef.of (T := ⟨S1x2000, .i32⟩) main_call4_v0) (iotaInDim S1x2000 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S1x2000, .f32⟩) main_v50) (TRef.of (T := ⟨S1x2000, .i32⟩) main_call4_v0) (TRef.of (T := ⟨S_, .f32⟩) main_call4_cst) (TRef.of (T := ⟨S_, .i32⟩) main_call4_c) (TRef.of (T := ⟨S1, .f32⟩) main_call4_v1_0) (fun x y u v j => (Host.argReduce reducer_argmax_f32_i32 x y u v reducesTo_S1x2000_S1_d1 h_S_ j).1),
    TRef.quaternary (TRef.of (T := ⟨S1x2000, .f32⟩) main_v50) (TRef.of (T := ⟨S1x2000, .i32⟩) main_call4_v0) (TRef.of (T := ⟨S_, .f32⟩) main_call4_cst) (TRef.of (T := ⟨S_, .i32⟩) main_call4_c) (TRef.of (T := ⟨S1, .i32⟩) main_v51) (fun x y u v j => (Host.argReduce reducer_argmax_f32_i32 x y u v reducesTo_S1x2000_S1_d1 h_S_ j).2),
    unary main_v51 main_v52 (broadcastInDim S1x1 ![1] bcast_S1_S1x1_1 : (⟨S1, .i32⟩ : BufTy).Contents (Elt F) → (⟨S1x1, .i32⟩ : BufTy).Contents (Elt F)) ]

/-- Window `main_part1`'s operations. -/
def ops_part1 : List (HloOp τ sig (Elt F)) :=
  ops_part1_0 ++ ops_part1_1

/-- @main's 106 operations, in order (a called function's operations stand in its call's place, spelt `TRef.…`). -/
abbrev ops : List (HloOp τ sig (Elt F)) :=
  ops_part0 ++ (ops_part1)

set_option maxRecDepth 8192 in
set_option maxHeartbeats 2000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., unary_bufs_sub .., nullary_bufs_sub .., binary_bufs_sub .., unary_bufs_sub .., unary_bufs_sub .., unary_bufs_sub .., binary_bufs_sub .., unary_bufs_sub .., reshape_bufs_sub .., unary_bufs_sub .., unary_bufs_sub .., unary_bufs_sub .., binary_bufs_sub .., nullary_bufs_sub .., binary_bufs_sub .., nullary_bufs_sub .., binary_bufs_sub .., ternary_bufs_sub .., nullary_bufs_sub .., unaryIndexed_bufs_sub .., unary_bufs_sub .., unary_bufs_sub .., binary_bufs_sub .., nullary_bufs_sub .., binary_bufs_sub .., nullary_bufs_sub .., binary_bufs_sub .., nullary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., unary_bufs_sub .., binary_bufs_sub .., unary_bufs_sub .., nullary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., binary_bufs_sub .., unary_bufs_sub ..⟩
set_option maxRecDepth 8192 in
theorem ops_part1_0_fresh : (ops_part1_0 : List (HloOp τ sig (Elt F))).Forall fun op => op.fresh = ∅ :=
  ⟨rfl, rfl, rfl, rfl⟩
set_option maxRecDepth 8192 in
theorem ops_part1_1_sub : (ops_part1_1 : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h]
theorem ops_fresh : ∀ op ∈ (ops : List (HloOp τ sig (Elt F))), op.fresh = ∅ := fun op h => by
    simp only [ops, ops_part0, ops_part1, List.mem_append, or_assoc] at h
    rcases h with h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h]

set_option maxRecDepth 8192 in
/-- `main_v9`'s composed term of the arguments (named: it is used 3 times). -/
def res_main_v9 (V0 : Valuation τ sig (Elt F)) : (Proc.devRef .tc main_v9 : DevRef τ sig).ty.Contents (Elt F) :=
  addf (broadcastInDim S4096x4096 ![0, 1] bcast_S4096x1_S4096x4096_0_1 (Host.dotGeneral dot_S4096x2_S2x1_S4096x1_1_0_0_1_n_n none (V0 (Proc.devRef .tc main_arg2)) (extractStridedSlice S2x1 ![0, 0] (V0 (Proc.devRef .tc main_arg5)) slices_S4x1_S2x1_0_0))) (broadcastInDim S4096x4096 ![0, 1] bcast_S1x4096_S4096x4096_0_1 (transpose S1x4096 [1, 0] (Host.dotGeneral dot_S4096x2_S2x1_S4096x1_1_0_0_1_n_n none (V0 (Proc.devRef .tc main_arg2)) (extractStridedSlice S2x1 ![2, 0] (V0 (Proc.devRef .tc main_arg5)) slices_S4x1_S2x1_2_0)) transposes_S4096x1_S1x4096_1_0))

set_option maxRecDepth 8192 in
/-- `main_v11`'s composed term of the arguments (named: it is used 2 times). -/
def res_main_v11 (V0 : Valuation τ sig (Elt F)) : (Proc.devRef .tc main_v11 : DevRef τ sig).ty.Contents (Elt F) :=
  select (cmpf .ogt (V0 (Proc.devRef .tc main_arg1)) (broadcastInDim S4096x4096 ![] bcast_S_S4096x4096 (constant S_ .f32 0x00000000#32))) (select (cmpf .oge (res_main_v9 V0) (broadcastInDim S4096x4096 ![] bcast_S_S4096x4096 (constant S_ .f32 0x00000000#32))) (res_main_v9 V0) (mulf (broadcastInDim S4096x4096 ![] bcast_S_S4096x4096 (id (constant S_ .f32 0x3E4CCCCD#32))) (res_main_v9 V0))) (broadcastInDim S4096x4096 ![] bcast_S_S4096x4096 (id (constant S_ .f32 0xFF800000#32)))

set_option maxRecDepth 8192 in
/-- `main_v18`'s composed term of the arguments (named: it is used 2 times). -/
def res_main_v18 (V0 : Valuation τ sig (Elt F)) : (Proc.devRef .tc main_v18 : DevRef τ sig).ty.Contents (Elt F) :=
  Host.exp (subf (res_main_v11 V0) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v11 V0) (constant S_ .f32 0xFF800000#32) reducesTo_S4096x4096_S4096_d1 h_S_)))))

set_option maxRecDepth 8192 in
/-- `main_v23`'s composed term of the arguments (named: it is used 4 times). -/
def res_main_v23 (V0 : Valuation τ sig (Elt F)) : (Proc.devRef .tc main_v23 : DevRef τ sig).ty.Contents (Elt F) :=
  Host.dotGeneral dot_S4096x4096_S4096x2_S4096x2_1_0_0_1_n_n none (Host.divf (res_main_v18 V0) (broadcastInDim S4096x4096 ![0, 1] bcast_S4096x1_S4096x4096_0_1 (broadcastInDim S4096x1 ![0] bcast_S4096_S4096x1_0 (Host.reduceAdd (res_main_v18 V0) (constant S_ .f32 0x00000000#32) reducesTo_S4096x4096_S4096_d1 h_S_)))) (V0 (Proc.devRef .tc main_arg2))

set_option maxRecDepth 8192 in
/-- `main_v24`'s composed term of the arguments (named: it is used 2 times). -/
def res_main_v24 (V0 : Valuation τ sig (Elt F)) : (Proc.devRef .tc main_v24 : DevRef τ sig).ty.Contents (Elt F) :=
  select (cmpf .ogt (res_main_v23 V0) (broadcastInDim S4096x2 ![] bcast_S_S4096x2 (constant S_ .f32 0x00000000#32))) (res_main_v23 V0) (mulf (broadcastInDim S4096x2 ![] bcast_S_S4096x2 (constant S_ .f32 0x3F800000#32)) (Host.expm1 (select (cmpf .ogt (res_main_v23 V0) (broadcastInDim S4096x2 ![] bcast_S_S4096x2 (constant S_ .f32 0x00000000#32))) (broadcastInDim S4096x2 ![] bcast_S_S4096x2 (id (constant S_ .f32 0x00000000#32))) (res_main_v23 V0))))

set_option maxRecDepth 8192 in
/-- `main_call3_v5`'s composed term of the arguments (named: it is used 2 times). -/
def res_main_call3_v5 (V0 : Valuation τ sig (Elt F)) : (Proc.devRef .tc main_call3_v5 : DevRef τ sig).ty.Contents (Elt F) :=
  subf (res_main_v24 V0) (broadcastInDim S4096x2 ![0, 1] bcast_S4096x1_S4096x2_0_1 (broadcastInDim S4096x1 ![0] bcast_S4096_S4096x1_0 (maximumf (broadcastInDim S4096 ![] bcast_S_S4096 (constant S_ .f32 0xFF800000#32)) (Host.reduce FloatOps.maximumf (res_main_v24 V0) (constant S_ .f32 0xFF800000#32) reducesTo_S4096x2_S4096_d1 h_S_))))

set_option maxRecDepth 8192 in
/-- `main_v39`'s composed term of the arguments (named: it is used 2 times). -/
def res_main_v39 (V0 : Valuation τ sig (Elt F)) : (Proc.devRef .tc main_v39 : DevRef τ sig).ty.Contents (Elt F) :=
  Host.reduce FloatOps.maximumf (mulf (broadcastInDim S2000x2x768 ![0, 1, 2] bcast_S2000x2x1_S2000x2x768_0_1_2 (broadcastInDim S2000x2x1 ![0, 1] bcast_S2000x2_S2000x2x1_0_1 (Host.dynamicSlice S2000x2 (subf (res_main_call3_v5 V0) (broadcastInDim S4096x2 ![0, 1] bcast_S4096x1_S4096x2_0_1 (Host.log (broadcastInDim S4096x1 ![0] bcast_S4096_S4096x1_0 (Host.reduceAdd (Host.exp (res_main_call3_v5 V0)) (constant S_ .f32 0x00000000#32) reducesTo_S4096x2_S4096_d1 h_S_))))) (fun k => (((![select (cmpi .slt (V0 (Proc.devRef .tc main_arg0)) (constantI S_ 32 0#32)) (addi (V0 (Proc.devRef .tc main_arg0)) (constantI S_ 32 4096#32)) (V0 (Proc.devRef .tc main_arg0)), constantI S_ 32 0#32] : Fin 2 → (⟨S_, .i32⟩ : BufTy).Contents (Elt F))) k (Shape.Idx.first h_S_)).toInt) sliceFits_S4096x2_S2000x2))) (mulf (broadcastInDim S2000x2x768 ![0, 1, 2] bcast_S2000x2x1_S2000x2x768_0_1_2 (broadcastInDim S2000x2x1 ![0, 1] bcast_S2000x2_S2000x2x1_0_1 (V0 (Proc.devRef .tc main_arg4)))) (broadcastInDim S2000x2x768 ![0, 1, 2] bcast_S1x1x768_S2000x2x768_0_1_2 (broadcastInDim S1x1x768 ![2] bcast_S768_S1x1x768_2 (shapeCast _ (V0 (Proc.devRef .tc main_arg3)) shapeCasts_S1x768_S768))))) (constant S_ .f32 0xFF800000#32) reducesTo_S2000x2x768_S2000_d1_2 h_S_

set_option maxRecDepth 8192 in
/-- `main_v45`'s composed term of the arguments (named: it is used 2 times). -/
def res_main_v45 (V0 : Valuation τ sig (Elt F)) : (Proc.devRef .tc main_v45 : DevRef τ sig).ty.Contents (Elt F) :=
  Host.exp (subf (res_main_v39 V0) (broadcastInDim S2000 ![0] bcast_S1_S2000_0 (broadcastInDim S1 ![] bcast_S_S1 (maximumf (constant S_ .f32 0xFF800000#32) (Host.reduce FloatOps.maximumf (res_main_v39 V0) (constant S_ .f32 0xFF800000#32) reducesTo_S2000_S_d0 h_S_)))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_v2, main_v3, main_v4, main_v5, main_v6, main_v7, main_v8, main_v9, main_cst_0, main_call0_cst, main_call0_v0, main_call0_v1, main_call0_v2, main_call0_v3, main_call0_v4, main_v10, main_cst_1, main_call1_v0, main_call1_v1, main_v11, main_cst_2, main_v12, main_cst_3, main_v13, main_v14, main_v15, main_v16]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.binary, TRef.nullary, TRef.ternary, TRef.unary, TRef.toBuf, TRef.ofBuf, cast_eq]
  after_results_entrywise [val0_main_arg5, val0_main_arg2, val0_main_arg1, res_main_v9, res_main_v11, cast_eq]
set_option maxRecDepth 8192 in
set_option maxHeartbeats 2000000 in
theorem val0_1_main_v16 (V0 : Valuation τ sig (Elt F)) : val0_1 V0 (no_index (Proc.devRef .tc main_v16)) = broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (res_main_v11 V0) (constant S_ .f32 0xFF800000#32) reducesTo_S4096x4096_S4096_d1 h_S_))) := by
  unfold val0_1
  simp only [ops_part0_0, TRef.binary, TRef.nullary, TRef.ternary, TRef.unary, TRef.toBuf, TRef.ofBuf, cast_eq]
  after_results_entrywise [val0_main_arg5, val0_main_arg2, val0_main_arg1, res_main_v9, res_main_v11, cast_eq]

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v17, main_v18, main_cst_4, main_v19, main_v20, main_v21, main_v22, main_v23, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v24, main_call3_cst, main_call3_v0, main_call3_cst_0, main_call3_v1, main_call3_v2, main_call3_v3, main_call3_v4]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
set_option maxRecDepth 8192 in
set_option maxHeartbeats 2000000 in
theorem val0_2_main_v24 (V0 : Valuation τ sig (Elt F)) : val0_2 V0 (no_index (Proc.devRef .tc main_v24)) = res_main_v24 V0 := by
  unfold val0_2
  simp only [ops_part0_1, TRef.binary, TRef.nullary, TRef.ternary, TRef.unary, TRef.toBuf, TRef.ofBuf, cast_eq]
  after_results_entrywise [val0_1_main_arg2, val0_1_main_v16, val0_1_main_v11, res_main_v18, res_main_v23, res_main_v24, cast_eq]
set_option maxRecDepth 8192 in
set_option maxHeartbeats 2000000 in
theorem val0_2_main_call3_v4 (V0 : Valuation τ sig (Elt F)) : val0_2 V0 (no_index (Proc.devRef .tc main_call3_v4)) = broadcastInDim S4096x2 ![0, 1] bcast_S4096x1_S4096x2_0_1 (broadcastInDim S4096x1 ![0] bcast_S4096_S4096x1_0 (maximumf (broadcastInDim S4096 ![] bcast_S_S4096 (constant S_ .f32 0xFF800000#32)) (Host.reduce FloatOps.maximumf (res_main_v24 V0) (constant S_ .f32 0xFF800000#32) reducesTo_S4096x2_S4096_d1 h_S_))) := by
  unfold val0_2
  simp only [ops_part0_1, TRef.binary, TRef.nullary, TRef.ternary, TRef.unary, TRef.toBuf, TRef.ofBuf, cast_eq]
  after_results_entrywise [val0_1_main_arg2, val0_1_main_v16, val0_1_main_v11, res_main_v18, res_main_v23, res_main_v24, cast_eq]

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call3_v5, main_call3_v6, main_call3_cst_1, main_call3_v7, main_call3_v8, main_call3_v9, main_call3_v10, main_v25, main_v26, main_v27, main_v28, main_v29, main_v30, main_v31, main_c, main_v32, main_c_5, main_v33, main_v34, main_c_6, main_v35, main_v36, main_v37, main_v38, main_cst_7, main_v39, main_cst_8, main_v40, main_cst_9, main_v41]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
set_option maxRecDepth 8192 in
set_option maxHeartbeats 2000000 in
theorem val0_3_main_v39 (V0 : Valuation τ sig (Elt F)) : val0_3 V0 (no_index (Proc.devRef .tc main_v39)) = res_main_v39 V0 := by
  unfold val0_3
  simp only [ops_part0_2, TRef.binary, TRef.nullary, TRef.unary, TRef.toBuf, TRef.ofBuf, cast_eq]
  after_results_entrywise [val0_2_main_arg3, val0_2_main_arg4, val0_2_main_arg0, val0_2_main_call3_v4, val0_2_main_v24, res_main_call3_v5, res_main_v39, cast_eq]
set_option maxRecDepth 8192 in
set_option maxHeartbeats 2000000 in
theorem val0_3_main_v41 (V0 : Valuation τ sig (Elt F)) : val0_3 V0 (no_index (Proc.devRef .tc main_v41)) = maximumf (constant S_ .f32 0xFF800000#32) (Host.reduce FloatOps.maximumf (res_main_v39 V0) (constant S_ .f32 0xFF800000#32) reducesTo_S2000_S_d0 h_S_) := by
  unfold val0_3
  simp only [ops_part0_2, TRef.binary, TRef.nullary, TRef.unary, TRef.toBuf, TRef.ofBuf, cast_eq]
  after_results_entrywise [val0_2_main_arg3, val0_2_main_arg4, val0_2_main_arg0, val0_2_main_call3_v4, val0_2_main_v24, res_main_call3_v5, res_main_v39, cast_eq]

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v42, main_v43, main_v44, main_v45, main_cst_10, main_v46]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
set_option maxRecDepth 8192 in
theorem val1_main_v45 (V0 : Valuation τ sig (Elt F)) : val1 V0 (no_index (Proc.devRef .tc main_v45)) = res_main_v45 V0 := by
  unfold val1
  simp only [ops_part0_3]
  after_results_entrywise [val0_3_main_v41, val0_3_main_v39, res_main_v45, cast_eq]
set_option maxRecDepth 8192 in
theorem val1_main_v46 (V0 : Valuation τ sig (Elt F)) : val1 V0 (no_index (Proc.devRef .tc main_v46)) = Host.reduceAdd (res_main_v45 V0) (constant S_ .f32 0x00000000#32) reducesTo_S2000_S_d0 h_S_ := by
  unfold val1
  simp only [ops_part0_3]
  after_results_entrywise [val0_3_main_v41, val0_3_main_v39, res_main_v45, cast_eq]

/-- The device's buffer contents after @main's first 100 operations. -/
def val2 (V0 : Valuation τ sig (Elt F)) : Valuation τ sig (Elt F) := after ops_part1_0 (val1 V0)
/-- The buffers that window `ops_part1_0`'s operations write. -/
abbrev ops_part1_0_W : List (Ref sig .tc) := [main_v47, main_v48, main_v49, main_v50]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val2_keep (V0 : Valuation τ sig (Elt F)) (r : Ref sig .tc) (h : r ∉ ops_part1_0_W) :
    val2 V0 (Proc.devRef .tc r) = val1 V0 (Proc.devRef .tc r) :=
  after_of_writes_sub ops_part1_0 _ ops_part1_0_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
/-- `main_v50`'s composed term of the arguments. -/
def res_main_v50 (V0 : Valuation τ sig (Elt F)) : (Proc.devRef .tc main_v50 : DevRef τ sig).ty.Contents (Elt F) :=
  broadcastInDim S1x2000 ![1] bcast_S2000_S1x2000_1 (Host.divf (res_main_v45 V0) (broadcastInDim S2000 ![0] bcast_S1_S2000_0 (broadcastInDim S1 ![] bcast_S_S1 (Host.reduceAdd (res_main_v45 V0) (constant S_ .f32 0x00000000#32) reducesTo_S2000_S_d0 h_S_))))
set_option maxRecDepth 8192 in
theorem val2_main_v50 (V0 : Valuation τ sig (Elt F)) : val2 V0 (no_index (Proc.devRef .tc main_v50)) = res_main_v50 V0 := by
  unfold val2
  simp only [ops_part1_0]
  after_results_entrywise [val1_main_v46, val1_main_v45, res_main_v50, cast_eq]

/-- The device's buffer contents after all of @main. -/
def val3 (V0 : Valuation τ sig (Elt F)) : Valuation τ sig (Elt F) := after ops_part1_1 (val2 V0)
/-- The buffers that window `ops_part1_1`'s operations write. -/
abbrev ops_part1_1_W : List (Ref sig .tc) := [main_call4_v0, main_call4_cst, main_call4_c, main_call4_v1_0, main_v51, main_v52]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val3_keep (V0 : Valuation τ sig (Elt F)) (r : Ref sig .tc) (h : r ∉ ops_part1_1_W) :
    val3 V0 (Proc.devRef .tc r) = val2 V0 (Proc.devRef .tc r) :=
  after_of_writes_sub ops_part1_1 _ ops_part1_1_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
set_option maxRecDepth 8192 in
theorem val3_main_v52 (V0 : Valuation τ sig (Elt F)) : val3 V0 (no_index (Proc.devRef .tc main_v52)) = broadcastInDim S1x1 ![1] bcast_S1_S1x1_1 (fun j => (Host.argReduce reducer_argmax_f32_i32 (res_main_v50 V0) (iotaInDim S1x2000 32 1) (constant S_ .f32 0xFF800000#32) (constantI S_ 32 0#32) reducesTo_S1x2000_S1_d1 h_S_ j).2) := by
  unfold val3
  simp only [ops_part1_1]
  after_results_entrywise [val2_main_v50, cast_eq]

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = broadcastInDim S1x1 ![1] bcast_S1_S1x1_1 (fun j => (Host.argReduce reducer_argmax_f32_i32 (res_main_v50 (launchContents m c)) (iotaInDim S1x2000 32 1) (constant S_ .f32 0xFF800000#32) (constantI S_ 32 0#32) reducesTo_S1x2000_S1_d1 h_S_ j).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v52).trans ((congrFun (after_ops (launchContents m c)) (Proc.devRef .tc main_v52)).trans (val3_main_v52 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c)))⟩)
    (run_seq scopedRefs_eq scopedSems_eq defs main (fun _ => ops) main_eq (fun _ => ops_sub) m ρ fun _ => ops_fresh)

end Cert.Reference3Ideal.Value

end
-- ==== Proof.Gat2.Reference.lean ====
/-
  The reference's second attention layer and its choice of a place, over plain indices.
-/
module

public import proofs.«01_k».proof.Proof.Gat2.Choice
public import proofs.«01_k».proof.Proof.Gat2.RefRun

@[expose] public section

set_option maxRecDepth 16384

noncomputable section

namespace Cert.Reference3Ideal.Gat2

open Cert.Reference3Ideal Cert.Reference3Ideal.Gen Cert.Reference3Ideal.Value Idealize.ShloMosaic Idealize.ShloMosaic.TcCoe Idealize.SL.Sem
open Idealize.ShloMosaic.StableHlo Cert.Gat2
open Cert.Gat1 (score slope elu minus_infinity_f32)

/-- The masked leaky scores of the edges `e` and the pair sums `s`. -/
def masked (e s : FVec Ideal S4096x4096 .f32) : FVec Ideal S4096x4096 .f32 :=
  select (cmpf .ogt e (broadcastInDim S4096x4096 ![] bcast_S_S4096x4096 (constant S_ .f32 0x00000000#32))) (select (cmpf .oge s (broadcastInDim S4096x4096 ![] bcast_S_S4096x4096 (constant S_ .f32 0x00000000#32))) s (mulf (broadcastInDim S4096x4096 ![] bcast_S_S4096x4096 (id (constant S_ .f32 0x3E4CCCCD#32))) s)) (broadcastInDim S4096x4096 ![] bcast_S_S4096x4096 (id (constant S_ .f32 0xFF800000#32)))

/-- The exponentials of the scores `u` below the row values `r`. -/
def shiftedBy (u : FVec Ideal S4096x4096 .f32) (r : FVec Ideal S4096 .f32) : FVec Ideal S4096x4096 .f32 :=
  Host.exp (subf u (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) r))))

/-- The features `y` attended by the normalised weights `p`. -/
def attended (p : FVec Ideal S4096x4096 .f32) (y : FVec Ideal S4096x2 .f32) : FVec Ideal S4096x2 .f32 :=
  Host.dotGeneral dot_S4096x4096_S4096x2_S4096x2_1_0_0_1_n_n none (Host.divf p (broadcastInDim S4096x4096 ![0, 1] bcast_S4096x1_S4096x4096_0_1 (broadcastInDim S4096x1 ![0] bcast_S4096_S4096x1_0 (Host.reduceAdd p (constant S_ .f32 0x00000000#32) reducesTo_S4096x4096_S4096_d1 h_S_)))) y

/-- The activation of the aggregate. -/
def activated (h : FVec Ideal S4096x2 .f32) : FVec Ideal S4096x2 .f32 :=
  select (cmpf .ogt h (broadcastInDim S4096x2 ![] bcast_S_S4096x2 (constant S_ .f32 0x00000000#32))) h (mulf (broadcastInDim S4096x2 ![] bcast_S_S4096x2 (constant S_ .f32 0x3F800000#32)) (Host.expm1 (select (cmpf .ogt h (broadcastInDim S4096x2 ![] bcast_S_S4096x2 (constant S_ .f32 0x00000000#32))) (broadcastInDim S4096x2 ![] bcast_S_S4096x2 (id (constant S_ .f32 0x00000000#32))) h)))

/-- The activations `z` below the row values `r`. -/
def below (z : FVec Ideal S4096x2 .f32) (r : FVec Ideal S4096 .f32) : FVec Ideal S4096x2 .f32 :=
  subf z (broadcastInDim S4096x2 ![0, 1] bcast_S4096x1_S4096x2_0_1 (broadcastInDim S4096x1 ![0] bcast_S4096_S4096x1_0 (maximumf (broadcastInDim S4096 ![] bcast_S_S4096 (constant S_ .f32 0xFF800000#32)) r)))

/-- The shifted activations `d` below the logarithm of their exponentials' sum. -/
def logged (d : FVec Ideal S4096x2 .f32) : FVec Ideal S4096x2 .f32 :=
  subf d (broadcastInDim S4096x2 ![0, 1] bcast_S4096x1_S4096x2_0_1 (Host.log (broadcastInDim S4096x1 ![0] bcast_S4096_S4096x1_0 (Host.reduceAdd (Host.exp d) (constant S_ .f32 0x00000000#32) reducesTo_S4096x2_S4096_d1 h_S_))))

/-- The products of a slice `g`, the places' coordinates `u` and the mixing row `v`. -/
def products (g u : FVec Ideal S2000x2 .f32) (v : FVec Ideal S1x768 .f32) : FVec Ideal S2000x2x768 .f32 :=
  mulf (broadcastInDim S2000x2x768 ![0, 1, 2] bcast_S2000x2x1_S2000x2x768_0_1_2 (broadcastInDim S2000x2x1 ![0, 1] bcast_S2000x2_S2000x2x1_0_1 g)) (mulf (broadcastInDim S2000x2x768 ![0, 1, 2] bcast_S2000x2x1_S2000x2x768_0_1_2 (broadcastInDim S2000x2x1 ![0, 1] bcast_S2000x2_S2000x2x1_0_1 u)) (broadcastInDim S2000x2x768 ![0, 1, 2] bcast_S1x1x768_S2000x2x768_0_1_2 (broadcastInDim S1x1x768 ![2] bcast_S768_S1x1x768_2 (shapeCast _ v shapeCasts_S1x768_S768))))

/-- The exponentials of the places' values `t` below `r`. -/
def raised (t : FVec Ideal S2000 .f32) (r : FVec Ideal S_ .f32) : FVec Ideal S2000 .f32 :=
  Host.exp (subf t (broadcastInDim S2000 ![0] bcast_S1_S2000_0 (broadcastInDim S1 ![] bcast_S_S1 (maximumf (constant S_ .f32 0xFF800000#32) r))))

/-- The normalised exponentials as one row. -/
def shared (p : FVec Ideal S2000 .f32) : FVec Ideal S1x2000 .f32 :=
  broadcastInDim S1x2000 ![1] bcast_S2000_S1x2000_1 (Host.divf p (broadcastInDim S2000 ![0] bcast_S1_S2000_0 (broadcastInDim S1 ![] bcast_S_S1 (Host.reduceAdd p (constant S_ .f32 0x00000000#32) reducesTo_S2000_S_d0 h_S_))))

theorem masked_at (e s : FVec Ideal S4096x4096 .f32) (f g : EReal) (i j : Fin 4096) (hs : s (ix2 i j) = f + g) :
    masked e s (ix2 i j) = score f g (e (ix2 i j)) := by
  pointwise [masked]
  rw [hs, show (id (constant (F := Ideal) S_ .f32 0x3E4CCCCD#32)) ix0 = slope from rfl,
    show (id (constant (F := Ideal) S_ .f32 0xFF800000#32)) ix0 = ⊥ from minus_infinity_f32, score]

theorem shiftedBy_at (u : FVec Ideal S4096x4096 .f32) (r : FVec Ideal S4096 .f32) (i j : Fin 4096) :
    shiftedBy u r (ix2 i j) = Ideal.exp (u (ix2 i j) - max ⊥ (r (ix1 i))) := by
  pointwise [shiftedBy]
  rw [minus_infinity_f32]

theorem attended_at (p : FVec Ideal S4096x4096 .f32) (y : FVec Ideal S4096x2 .f32) (i : Fin 4096) (h : Fin 2) :
    attended p y (ix2 i h) = ∑ j, Ideal.div (p (ix2 i j)) (∑ j', p (ix2 i j')) * y (ix2 j h) := by
  pointwise [attended]

theorem activated_at (z : FVec Ideal S4096x2 .f32) (i : Fin 4096) (h : Fin 2) : activated z (ix2 i h) = elu (z (ix2 i h)) := by
  pointwise [activated]
  rw [elu]
  split_ifs <;> simp

theorem below_at (z : FVec Ideal S4096x2 .f32) (r : FVec Ideal S4096 .f32) (i : Fin 4096) (p : Fin 2) :
    below z r (ix2 i p) = z (ix2 i p) - max ⊥ (r (ix1 i)) := by
  pointwise [below]
  rw [minus_infinity_f32]

theorem logged_at (d : FVec Ideal S4096x2 .f32) (i : Fin 4096) (p : Fin 2) :
    logged d (ix2 i p) = d (ix2 i p) - Ideal.log (∑ q, Ideal.exp (d (ix2 i q))) := by
  pointwise [logged]

theorem products_at (g u : FVec Ideal S2000x2 .f32) (v : FVec Ideal S1x768 .f32) (j : Fin 2000) (p : Fin 2) (c : Fin 768) :
    products g u v (ix3 j p c) = g (ix2 j p) * (u (ix2 j p) * v (ix2 0 c)) := by
  pointwise [products]

theorem raised_at (t : FVec Ideal S2000 .f32) (r : FVec Ideal S_ .f32) (j : Fin 2000) :
    raised t r (ix1 j) = Ideal.exp (t (ix1 j) - max ⊥ (r ix0)) := by
  pointwise [raised]
  rw [minus_infinity_f32]

theorem shared_at (p : FVec Ideal S2000 .f32) (j : Fin 2000) : shared p (ix2 0 j) = Ideal.div (p (ix1 j)) (∑ j', p (ix1 j')) := by
  pointwise [shared]

/-- A row's greatest score. -/
theorem greatest_at (u : FVec Ideal S4096x4096 .f32) (i : Fin 4096) :
    Host.reduce FloatOps.maximumf u (constant (F := Ideal) S_ .f32 0xFF800000#32) reducesTo_S4096x4096_S4096_d1 h_S_ (ix1 i) =
      (Finset.fold max ⊥ (fun k => u (ix2 i k)) Finset.univ : EReal) := by
  refine (Host.reduce_eq_fold (max : EReal → EReal → EReal) u _ reducesTo_S4096x4096_S4096_d1 h_S_ (ix1 i)).trans ?_
  refine (Shape.ReducesTo.fold_fiber_r2_a1 reducesTo_S4096x4096_S4096_d1 (ix1 i) max _ u).trans ?_
  exact congrArg (fun b => Finset.fold max b (fun k => u (ix2 i k)) Finset.univ) minus_infinity_f32

/-- The greater of a node's two activations. -/
theorem greater_at (u : FVec Ideal S4096x2 .f32) (i : Fin 4096) :
    Host.reduce FloatOps.maximumf u (constant (F := Ideal) S_ .f32 0xFF800000#32) reducesTo_S4096x2_S4096_d1 h_S_ (ix1 i) =
      (Finset.fold max ⊥ (fun k => u (ix2 i k)) Finset.univ : EReal) := by
  refine (Host.reduce_eq_fold (max : EReal → EReal → EReal) u _ reducesTo_S4096x2_S4096_d1 h_S_ (ix1 i)).trans ?_
  refine (Shape.ReducesTo.fold_fiber_r2_a1 reducesTo_S4096x2_S4096_d1 (ix1 i) max _ u).trans ?_
  exact congrArg (fun b => Finset.fold max b (fun k => u (ix2 i k)) Finset.univ) minus_infinity_f32

/-- A place's greatest product. -/
theorem best_at (u : FVec Ideal S2000x2x768 .f32) (j : Fin 2000) :
    Host.reduce FloatOps.maximumf u (constant (F := Ideal) S_ .f32 0xFF800000#32) reducesTo_S2000x2x768_S2000_d1_2 h_S_ (ix1 j) =
      (Finset.fold max ⊥ (fun t : Fin 2 × Fin 768 => u (ix3 j t.1 t.2)) Finset.univ : EReal) := by
  refine (Host.reduce_eq_fold (max : EReal → EReal → EReal) u _ reducesTo_S2000x2x768_S2000_d1_2 h_S_ (ix1 j)).trans ?_
  refine (Shape.ReducesTo.fold_fiber_r3_a12 reducesTo_S2000x2x768_S2000_d1_2 (ix1 j) max _ u).trans ?_
  exact congrArg (fun b => Finset.fold max b (fun t : Fin 2 × Fin 768 => u (ix3 j t.1 t.2)) Finset.univ) minus_infinity_f32

/-- The greatest of the places' values. -/
theorem top_at (u : FVec Ideal S2000 .f32) :
    Host.reduce FloatOps.maximumf u (constant (F := Ideal) S_ .f32 0xFF800000#32) reducesTo_S2000_S_d0 h_S_ ix0 =
      (Finset.fold max ⊥ (fun k => u (ix1 k)) Finset.univ : EReal) := by
  refine (Host.reduce_eq_fold (max : EReal → EReal → EReal) u _ reducesTo_S2000_S_d0 h_S_ ix0).trans ?_
  refine (Shape.ReducesTo.fold_fiber_r1_a0 reducesTo_S2000_S_d0 ix0 max _ u).trans ?_
  exact congrArg (fun b => Finset.fold max b (fun k => u (ix1 k)) Finset.univ) minus_infinity_f32

end Cert.Reference3Ideal.Gat2
-- ==== Proof.Gat2.RefResult.lean ====
/-
  The reference's position is the first place of the greatest value.
-/
module

public import proofs.«01_k».proof.Proof.Gat2.Reference

@[expose] public section

set_option maxRecDepth 16384

noncomputable section

namespace Cert.Reference3Ideal.Gat2

open Cert.Reference3Ideal Cert.Reference3Ideal.Gen Cert.Reference3Ideal.Value Idealize.ShloMosaic Idealize.ShloMosaic.TcCoe Idealize.SL.Sem
open Idealize.ShloMosaic.StableHlo Cert.Gat2
open Cert.Gat1 (score slope elu minus_infinity_f32)

variable (V : Valuation τ sig (Elt Ideal))

/-- The position, the edges, the nodes, the mixing row, the places' coordinates and the ends' vector, entry by entry. -/
abbrev pr : BitVec 32 := V (Proc.devRef .tc main_arg0) ix0
abbrev ed (i j : Fin 4096) : EReal := V (Proc.devRef .tc main_arg1) (ix2 i j)
abbrev nd (i : Fin 4096) (n : Fin 2) : EReal := V (Proc.devRef .tc main_arg2) (ix2 i n)
abbrev mx (c : Fin 768) : EReal := V (Proc.devRef .tc main_arg3) (ix2 0 c)
abbrev pl (j : Fin 2000) (p : Fin 2) : EReal := V (Proc.devRef .tc main_arg4) (ix2 j p)
abbrev av (q : Fin 4) : EReal := V (Proc.devRef .tc main_arg5) (ix2 q 0)

/-- What the argument arrays satisfy: a position that is not negative, edges zero or one with one at every node, and numbers elsewhere. -/
structure Scored : Prop where
  pre : 0 ≤ (pr V).toInt
  edge : ∀ i j, ed V i j = 0 ∨ ed V i j = 1
  row : ∀ i, ∃ j, ed V i j = 1
  node : ∀ i n, nd V i n ≠ ⊥ ∧ nd V i n ≠ ⊤
  mix : ∀ c, mx V c ≠ ⊥ ∧ mx V c ≠ ⊤
  loc : ∀ j p, pl V j p ≠ ⊥ ∧ pl V j p ≠ ⊤
  vec : ∀ q, av V q ≠ ⊥ ∧ av V q ≠ ⊤

theorem v9_at (i j : Fin 4096) : res_main_v9 V (ix2 i j) = src (nd V) (av V) i + dst (nd V) (av V) j := by
  pointwise [res_main_v9]
  rfl

theorem v11_at (i j : Fin 4096) : res_main_v11 V (ix2 i j) = score (src (nd V) (av V) i) (dst (nd V) (av V) j) (ed V i j) :=
  masked_at (V (Proc.devRef .tc main_arg1)) (res_main_v9 V) _ _ i j (v9_at V i j)

theorem v18_at (i j : Fin 4096) : res_main_v18 V (ix2 i j) = Ideal.exp (score (src (nd V) (av V) i) (dst (nd V) (av V) j) (ed V i j) -
    max ⊥ (Finset.fold max ⊥ (fun k => score (src (nd V) (av V) i) (dst (nd V) (av V) k) (ed V i k)) Finset.univ)) := by
  refine (shiftedBy_at (res_main_v11 V) _ i j).trans ?_
  rw [greatest_at]
  simp only [v11_at]

theorem v23_at (H : Scored V) (i : Fin 4096) (h : Fin 2) : res_main_v23 V (ix2 i h) = head (ed V) (nd V) (av V) i h := by
  refine (attended_at (res_main_v18 V) _ i h).trans ?_
  simp only [v18_at]
  exact head_eq (ed V) (nd V) (av V) H.edge H.row H.node H.vec i h

theorem v24_at (H : Scored V) (i : Fin 4096) (h : Fin 2) : res_main_v24 V (ix2 i h) = elu (head (ed V) (nd V) (av V) i h) :=
  (activated_at (res_main_v23 V) i h).trans (congrArg elu (v23_at V H i h))

theorem below_v24_at (H : Scored V) (i : Fin 4096) (p : Fin 2) : res_main_call3_v5 V (ix2 i p) = elu (head (ed V) (nd V) (av V) i p) -
    Finset.fold max ⊥ (fun q => elu (head (ed V) (nd V) (av V) i q)) Finset.univ := by
  refine (below_at (res_main_v24 V) _ i p).trans ?_
  rw [greater_at, max_eq_right bot_le]
  simp only [v24_at V H]

theorem layer_at (H : Scored V) (i : Fin 4096) (p : Fin 2) : logged (res_main_call3_v5 V) (ix2 i p) = layer (ed V) (nd V) (av V) i p := by
  rw [logged_at]
  simp only [below_v24_at V H]
  rfl

/-- A slice of the results starts at its first row, kept where all the rows lie inside. -/
theorem slice_at (y : FVec Ideal S4096x2 .f32) (st : Fin 2 → Int) (w : BitVec 32) (h0 : st 0 = w.toInt) (h1 : st 1 = 0) (j : Fin 2000) (p : Fin 2) :
    Host.dynamicSlice S2000x2 y st sliceFits_S4096x2_S2000x2 (ix2 j p) = y (ix2 ⟨start w + j, by omega⟩ p) := by
  unfold Host.dynamicSlice
  refine extractStridedSlice_apply _ y _ (ix2 j p) _ fun a => ?_
  fin_cases a
  · show (start w).val + j.val = (min (max (st 0) 0) 2096).toNat + j.val
    rw [h0]; rfl
  · show p.val = (min (max (st 1) 0) 0).toNat + p.val
    rw [h1]; simp

/-- The slice's starts, as the reference takes them. -/
def starts (w : IVec S_ 32) (k : Fin 2) : Int :=
  (((![select (cmpi .slt w (constantI S_ 32 0#32)) (addi w (constantI S_ 32 4096#32)) w, constantI S_ 32 0#32] : Fin 2 → (⟨S_, .i32⟩ : BufTy).Contents (Elt Ideal))) k (Shape.Idx.first h_S_)).toInt

theorem starts_row (w : IVec S_ 32) (h : 0 ≤ (w ix0).toInt) : starts w 0 = (w ix0).toInt := by
  have e0 : (Shape.Idx.first h_S_ : S_.Idx) = ix0 := funext fun a => a.elim0
  show (select (cmpi .slt w (constantI S_ 32 0#32)) (addi w (constantI S_ 32 4096#32)) w (Shape.Idx.first h_S_)).toInt = _
  rw [e0]
  have e : select (cmpi .slt w (constantI S_ 32 0#32)) (addi w (constantI S_ 32 4096#32)) w ix0 = w ix0 := by
    show (if BitVec.ofBool ((w ix0).slt 0#32) = 1#1 then _ else w ix0) = w ix0
    rw [if_neg]
    rw [show (w ix0).slt 0#32 = false from Bool.eq_false_iff.2 fun hm => absurd (BitVec.slt_iff_toInt_lt.1 hm) (not_lt.2 h)]
    decide
  rw [e]

theorem starts_column (w : IVec S_ 32) : starts w 1 = 0 := rfl

/-- The places' values. -/
def value (j : Fin 2000) : EReal :=
  place (fun p => layer (ed V) (nd V) (av V) ⟨start (pr V) + j, by omega⟩ p) (pl V j)
    (Finset.fold max ⊥ (mx V) Finset.univ) (Finset.fold min ⊤ (mx V) Finset.univ)

theorem layer_ne (H : Scored V) (i : Fin 4096) (p : Fin 2) : layer (ed V) (nd V) (av V) i p ≠ ⊥ ∧ layer (ed V) (nd V) (av V) i p ≠ ⊤ := by
  obtain ⟨r, hr⟩ := layer_real (ed V) (nd V) (av V) H.edge H.row H.node H.vec i p
  rw [hr]
  exact ⟨EReal.coe_ne_bot _, EReal.coe_ne_top _⟩

theorem value_real (H : Scored V) (j : Fin 2000) : ∃ r : ℝ, value V j = (r : EReal) :=
  place_real _ _ _ (fun p => layer_ne V H _ p) (H.loc j) H.mix

theorem v39_at (H : Scored V) (j : Fin 2000) : res_main_v39 V (ix1 j) = value V j := by
  refine (best_at (products (Host.dynamicSlice S2000x2 (logged (res_main_call3_v5 V)) (starts (V (Proc.devRef .tc main_arg0))) sliceFits_S4096x2_S2000x2)
    (V (Proc.devRef .tc main_arg4)) (V (Proc.devRef .tc main_arg3))) j).trans ?_
  simp only [products_at, slice_at _ _ _ (starts_row _ H.pre) (starts_column _), layer_at V H]
  exact place_eq _ _ _ (fun p => layer_ne V H _ p) (H.loc j) H.mix

theorem v50_at (H : Scored V) (t : Fin 2000 → ℝ) (ht : ∀ j, value V j = (t j : EReal)) (μ : ℝ)
    (hμ : max ⊥ (Finset.fold max ⊥ (value V) Finset.univ) = (μ : EReal)) (j : Fin 2000) : res_main_v50 V (ix2 0 j) =
    Ideal.div (Ideal.exp ((t j : EReal) - (μ : EReal))) (∑ j', Ideal.exp ((t j' : EReal) - (μ : EReal))) := by
  have e : ∀ j, res_main_v45 V (ix1 j) = Ideal.exp ((t j : EReal) - (μ : EReal)) := fun j => by
    refine (raised_at (res_main_v39 V) _ j).trans ?_
    rw [top_at, v39_at V H, ht]
    simp only [v39_at V H]
    exact congrArg (fun b => Ideal.exp ((t j : EReal) - b)) hμ
  refine (shared_at (res_main_v45 V) j).trans ?_
  simp only [e]

theorem reducer_best (a b : EReal × BitVec 32) :
    (reducer_argmax_f32_i32 (F := Ideal) a b = a ∨ reducer_argmax_f32_i32 (F := Ideal) a b = b) ∧
      Beats (reducer_argmax_f32_i32 (F := Ideal) a b) a ∧ Beats (reducer_argmax_f32_i32 (F := Ideal) a b) b := by
  obtain ⟨x, i⟩ := a
  obtain ⟨y, k⟩ := b
  have e : reducer_argmax_f32_i32 (F := Ideal) (x, i) (y, k) =
      (if y < x then x else y, if y < x ∨ (x = y ∧ i.toInt < k.toInt) then i else k) := by
    have ea : FloatOps.cmpf (F := Ideal) (φ := .f32) .ogt x y = BitVec.ofBool (decide (y < x)) := rfl
    have eb : FloatOps.cmpf (F := Ideal) (φ := .f32) .une x x = 0#1 := by
      show BitVec.ofBool (decide (x ≠ x)) = 0#1
      simp
    have ec : FloatOps.cmpf (F := Ideal) (φ := .f32) .oeq x y = BitVec.ofBool (decide (x = y)) := rfl
    have ed : IntOp.cmpi .slt i k = BitVec.ofBool (decide (i.toInt < k.toInt)) := rfl
    unfold reducer_argmax_f32_i32
    simp only [ea, eb, ec, ed]
    by_cases h1 : y < x <;> by_cases h2 : x = y <;> by_cases h3 : i.toInt < k.toInt <;> simp [h1, h2, h3, IntOp.ori, IntOp.andi, Scalar.select]
  rw [e]
  rcases lt_trichotomy x y with h | h | h
  · rw [if_neg h.not_gt, if_neg (by rintro (h' | ⟨h', -⟩); exacts [h.not_gt h', h.ne h'])]
    exact ⟨Or.inr rfl, Or.inl h, Beats.refl _⟩
  · subst h
    simp only [lt_irrefl, if_false, false_or, true_and]
    split_ifs with hi
    · exact ⟨Or.inl rfl, Beats.refl _, Or.inr ⟨rfl, hi.le⟩⟩
    · exact ⟨Or.inr rfl, Or.inr ⟨rfl, not_lt.1 hi⟩, Beats.refl _⟩
  · rw [if_pos h, if_pos (Or.inl h)]
    exact ⟨Or.inl rfl, Beats.refl _, Or.inl h⟩

/-- The index of a row's greatest entry is its first place. -/
theorem index_at (x : FVec Ideal S1x2000 .f32) (v : Fin 2000 → EReal) (hx : ∀ j, x (ix2 0 j) = v j) (hb : ∀ j, ⊥ < v j) (k : Fin 2000)
    (hk : First v k) : (Host.argReduce (reducer_argmax_f32_i32 (F := Ideal)) x (iotaInDim S1x2000 32 1) (constant S_ .f32 0xFF800000#32) (constantI S_ 32 0#32)
      reducesTo_S1x2000_S1_d1 h_S_ (ix1 0)).2 = BitVec.ofNat 32 k.val := by
  rw [Ideal.argReduce_eq_reduce2, Host.reduce2_eq_foldl_fiber]
  have e0 : constant (F := Ideal) S_ .f32 0xFF800000#32 (Shape.Idx.first h_S_) = (⊥ : EReal) := minus_infinity_f32
  have e1 : constantI S_ 32 0#32 (Shape.Idx.first h_S_) = 0#32 := rfl
  rw [e0, e1]
  have hi : ∀ i : S1x2000.Idx, ∃ j : Fin 2000, i = ix2 0 j := fun i =>
    ⟨i 1, funext fun a => by fin_cases a <;> [exact Subsingleton.elim (α := Fin 1) _ _; rfl]⟩
  have hj : ∀ j : Fin 2000, (x (ix2 0 j), iotaInDim S1x2000 32 1 (ix2 0 j)) = (v j, BitVec.ofNat 32 j.val) := fun j => by
    rw [hx]; rfl
  refine foldl_first v k hk hb (reducer_argmax_f32_i32 (F := Ideal)) reducer_best _ (fun q hq => ?_) (fun j => ?_) _
  · obtain ⟨n, -, rfl⟩ := List.mem_map.1 hq
    obtain ⟨j, e⟩ := hi (S1x2000.rowMajor.symm n)
    exact ⟨j, by rw [e]; exact hj j⟩
  · refine List.mem_map.2 ⟨S1x2000.rowMajor (ix2 0 j), List.mem_filter.2 ⟨List.mem_finRange _, ?_⟩, ?_⟩
    · exact decide_eq_true (funext fun a => by fin_cases a; exact Subsingleton.elim (α := Fin 1) _ _)
    · simp only [Equiv.symm_apply_apply]
      exact hj j

/-- The reference's result, of its launch's arguments. -/
def result : IVec S1x1 32 :=
  broadcastInDim S1x1 ![1] bcast_S1_S1x1_1 (fun j => (Host.argReduce (reducer_argmax_f32_i32 (F := Ideal)) (res_main_v50 V) (iotaInDim S1x2000 32 1) (constant S_ .f32 0xFF800000#32) (constantI S_ 32 0#32) reducesTo_S1x2000_S1_d1 h_S_ j).2)

theorem result_eq : result V = broadcastInDim S1x1 ![1] bcast_S1_S1x1_1 (fun j => (Host.argReduce (reducer_argmax_f32_i32 (F := Ideal)) (res_main_v50 V) (iotaInDim S1x2000 32 1) (constant S_ .f32 0xFF800000#32) (constantI S_ 32 0#32) reducesTo_S1x2000_S1_d1 h_S_ j).2) := rfl

theorem single_at (y : IVec S1 32) : broadcastInDim S1x1 ![1] bcast_S1_S1x1_1 y (ix2 0 0) = y (ix1 0) := by
  pointwise

theorem result_at (H : Scored V) (k : Fin 2000) (hk : First (value V) k) : result V (ix2 0 0) = BitVec.ofNat 32 k.val := by
  choose t ht using value_real V H
  obtain ⟨μ, hμ⟩ := Cert.Gat1.shift_real Finset.univ (value V) (fun j _ => by rw [ht]; exact EReal.coe_ne_top _) 0 (Finset.mem_univ _)
    (by rw [ht]; exact EReal.coe_ne_bot _)
  obtain ⟨h1, h2⟩ := softmax_first t μ k (by rw [← show value V = fun j => (t j : EReal) from funext ht]; exact hk)
  rw [result_eq, single_at]
  exact index_at (res_main_v50 V) _ (v50_at V H t ht μ hμ) h2 k h1

variable (m : (ℓ : Loc nD τ sig) → Buf (Elt Ideal) ℓ) (ρ : Dev nD → PrngReg)

/-- The reference's run, its result named. -/
theorem run_result : θ_run defs (onTc (τ := τ) (main (F := Ideal))) ⟨m, fun _ => 0, ρ⟩ fun r => ∀ c : Dev nD,
      r.2.mem ((c.tc : Thread nD τ).loc main_v52) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq _).symm, (h c).2⟩) (Cert.Reference3Ideal.Value.run m ρ)

end Cert.Reference3Ideal.Gat2
-- ==== Proof.Gat2.Given.lean ====
/-
  What the second layer's precondition says of the arrays, entry by entry.
-/
module

public import proofs.«01_k».proof.Proof.Gat2.Reference
public import proofs.«01_k».proof.Proof.Gat1.Given
public import proofs.«01_k».proof.Proof.Gen.Pre_scored

@[expose] public section

set_option maxRecDepth 16384

noncomputable section

namespace Cert.Pre_scored

open Cert.Pre_scored Cert.Pre_scored.Gen Idealize.ShloMosaic Idealize.ShloMosaic.TcCoe Idealize.SL.Sem
open Cert.Pre_graph (finite_of)

variable [Facts]

theorem position_of (w : IVec S_ 32) (h : cmpi .sge w (constantI S_ 32 0#32) ix0 = 1#1) : 0 ≤ (w ix0).toInt := by
  by_contra hn
  have e : cmpi .sge w (constantI S_ 32 0#32) ix0 = BitVec.ofBool (decide (0 ≤ (w ix0).toInt)) := rfl
  rw [e] at h
  simp [hn] at h

theorem edge_of (x : FVec Ideal S4096x4096 .f32) (i j : Fin 4096)
    (h : ori (cmpf .oeq x (broadcastInDim S4096x4096 ![] bcast_S_S4096x4096 (constant S_ .f32 0x00000000#32)))
      (cmpf .oeq x (broadcastInDim S4096x4096 ![] bcast_S_S4096x4096 (constant S_ .f32 0x3F800000#32))) (ix2 i j) = 1#1) :
    x (ix2 i j) = (0 : EReal) ∨ x (ix2 i j) = (1 : EReal) := by
  revert h
  pointwise
  by_cases h0 : x (ix2 i j) = (0 : EReal)
  · exact fun _ => Or.inl h0
  · by_cases h1 : x (ix2 i j) = (1 : EReal)
    · exact fun _ => Or.inr h1
    · simp [h0, h1, IntOp.ori]

theorem greater_of (r : FVec Ideal S4096 .f32) (i : Fin 4096)
    (h : cmpf .ogt r (broadcastInDim S4096 ![] bcast_S_S4096 (constant S_ .f32 0x00000000#32)) (ix1 i) = 1#1) : (0 : EReal) < r (ix1 i) := by
  revert h
  pointwise
  by_cases h0 : (0 : EReal) < r (ix1 i)
  · exact fun _ => h0
  · simp [h0]

theorem node_of (x : FVec Ideal S4096x2 .f32) (i : Fin 4096) (n : Fin 2)
    (h : cmpf .olt (Host.absf x) (broadcastInDim S4096x2 ![] bcast_S_S4096x2 (constant S_ .f32 0x7F800000#32)) (ix2 i n) = 1#1) :
    x (ix2 i n) ≠ (⊥ : EReal) ∧ x (ix2 i n) ≠ (⊤ : EReal) := by
  revert h
  pointwise
  exact finite_of _

theorem mix_of (x : FVec Ideal S1x768 .f32) (k : Fin 768)
    (h : cmpf .olt (Host.absf x) (broadcastInDim S1x768 ![] bcast_S_S1x768 (constant S_ .f32 0x7F800000#32)) (ix2 0 k) = 1#1) :
    x (ix2 0 k) ≠ (⊥ : EReal) ∧ x (ix2 0 k) ≠ (⊤ : EReal) := by
  revert h
  pointwise
  exact finite_of _

theorem loc_of (x : FVec Ideal S2000x2 .f32) (j : Fin 2000) (p : Fin 2)
    (h : cmpf .olt (Host.absf x) (broadcastInDim S2000x2 ![] bcast_S_S2000x2 (constant S_ .f32 0x7F800000#32)) (ix2 j p) = 1#1) :
    x (ix2 j p) ≠ (⊥ : EReal) ∧ x (ix2 j p) ≠ (⊤ : EReal) := by
  revert h
  pointwise
  exact finite_of _

theorem vec_of (x : FVec Ideal S4x1 .f32) (q : Fin 4)
    (h : cmpf .olt (Host.absf x) (broadcastInDim S4x1 ![] bcast_S_S4x1 (constant S_ .f32 0x7F800000#32)) (ix2 q 0) = 1#1) :
    x (ix2 q 0) ≠ (⊥ : EReal) ∧ x (ix2 q 0) ≠ (⊤ : EReal) := by
  revert h
  pointwise
  exact finite_of _

variable (x0 : IVec S_ 32) (x1 : FVec Ideal S4096x4096 .f32) (x2 : FVec Ideal S4096x2 .f32) (x3 : FVec Ideal S1x768 .f32)
  (x4 : FVec Ideal S2000x2 .f32) (x5 : FVec Ideal S4x1 .f32)

theorem position (h : (fn x0 x1 x2 x3 x4 x5).1 = fun _ => 1#1) : 0 ≤ (x0 ix0).toInt := position_of x0 (congrFun h ix0)

theorem edges (h : (fn x0 x1 x2 x3 x4 x5).2.1 = fun _ => 1#1) (i j : Fin 4096) : x1 (ix2 i j) = (0 : EReal) ∨ x1 (ix2 i j) = (1 : EReal) :=
  edge_of x1 i j (congrFun h (ix2 i j))

theorem rows (h : (fn x0 x1 x2 x3 x4 x5).2.1 = fun _ => 1#1) (h' : (fn x0 x1 x2 x3 x4 x5).2.2.1 = fun _ => 1#1) (i : Fin 4096) :
    ∃ j, x1 (ix2 i j) = (1 : EReal) := by
  have e := greater_of _ i (congrFun h' (ix1 i))
  replace e := e.trans_eq (Cert.Reference3Ideal.Gat2.greatest_at x1 i)
  obtain hb | ⟨j, _, hj⟩ := (Finset.lt_fold_max _).1 e
  · exact absurd hb (by simp)
  · refine ⟨j, (edges x0 x1 x2 x3 x4 x5 h i j).resolve_left fun h0 => ?_⟩
    rw [h0] at hj
    exact lt_irrefl _ hj

theorem nodes (h : (fn x0 x1 x2 x3 x4 x5).2.2.2.1 = fun _ => 1#1) (i : Fin 4096) (n : Fin 2) :
    x2 (ix2 i n) ≠ (⊥ : EReal) ∧ x2 (ix2 i n) ≠ (⊤ : EReal) := node_of x2 i n (congrFun h (ix2 i n))

theorem mixes (h : (fn x0 x1 x2 x3 x4 x5).2.2.2.2.1 = fun _ => 1#1) (k : Fin 768) :
    x3 (ix2 0 k) ≠ (⊥ : EReal) ∧ x3 (ix2 0 k) ≠ (⊤ : EReal) := mix_of x3 k (congrFun h (ix2 0 k))

theorem locs (h : (fn x0 x1 x2 x3 x4 x5).2.2.2.2.2.1 = fun _ => 1#1) (j : Fin 2000) (p : Fin 2) :
    x4 (ix2 j p) ≠ (⊥ : EReal) ∧ x4 (ix2 j p) ≠ (⊤ : EReal) := loc_of x4 j p (congrFun h (ix2 j p))

theorem vecs (h : (fn x0 x1 x2 x3 x4 x5).2.2.2.2.2.2 = fun _ => 1#1) (q : Fin 4) :
    x5 (ix2 q 0) ≠ (⊥ : EReal) ∧ x5 (ix2 q 0) ≠ (⊤ : EReal) := vec_of x5 q (congrFun h (ix2 q 0))

end Cert.Pre_scored
-- ==== Proof.Gat2.Result.lean ====
/-
  The second attention layer's algebraic claim.
-/
module

public import proofs.«01_k».proof.Proof.Gat2.Arrays
public import proofs.«01_k».proof.Proof.Gat2.RefResult
public import proofs.«01_k».proof.Proof.Gat2.Given
public import proofs.«01_k».proof.Defs
public import proofs.«01_k».proof.Proof.Gen.Kernel3Ideal
public import proofs.«01_k».proof.Proof.Gen.Reference3Ideal

@[expose] public section

set_option maxRecDepth 16384

noncomputable section

namespace Cert.Gat2Result

open Idealize.ShloMosaic Idealize.ShloMosaic.TcCoe Idealize.SL.Sem Cert.Gat2

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- Both launches hold the same arguments. -/
def Agree : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)

variable {m m' c}

theorem Agree.pr (h : Agree m m' c) : Cert.Reference3Ideal.Gat2.pr (StableHlo.launchContents m' c) = Cert.Kernel3Ideal.Gat2.pr m c :=
  congrFun h.1 ix0
theorem Agree.ed (h : Agree m m' c) : Cert.Reference3Ideal.Gat2.ed (StableHlo.launchContents m' c) = Cert.Kernel3Ideal.Gat2.ed m c :=
  funext fun i => funext fun j => congrFun h.2.1 (ix2 i j)
theorem Agree.nd (h : Agree m m' c) : Cert.Reference3Ideal.Gat2.nd (StableHlo.launchContents m' c) = Cert.Kernel3Ideal.Gat2.nd m c :=
  funext fun i => funext fun j => congrFun h.2.2.1 (ix2 i j)
theorem Agree.mx (h : Agree m m' c) : Cert.Reference3Ideal.Gat2.mx (StableHlo.launchContents m' c) = Cert.Kernel3Ideal.Gat2.mx m c :=
  funext fun k => congrFun h.2.2.2.1 (ix2 0 k)
theorem Agree.pl (h : Agree m m' c) : Cert.Reference3Ideal.Gat2.pl (StableHlo.launchContents m' c) = Cert.Kernel3Ideal.Gat2.pl m c :=
  funext fun j => funext fun p => congrFun h.2.2.2.2.1 (ix2 j p)
theorem Agree.av (h : Agree m m' c) : Cert.Reference3Ideal.Gat2.av (StableHlo.launchContents m' c) = Cert.Kernel3Ideal.Gat2.av m c :=
  funext fun q => congrFun h.2.2.2.2.2 (ix2 q 0)

/-- The precondition, of the reference's arguments. -/
theorem Agree.scored (h : Agree m m' c) (hp : Cert.Pre_Kernel3Ideal_scored m) : Cert.Reference3Ideal.Gat2.Scored (StableHlo.launchContents m' c) := by
  obtain ⟨h0, h1, h2, h3, h4, h5, h6⟩ := hp c
  constructor
  · rw [h.pr]
    exact Cert.Pre_scored.position _ _ _ _ _ _ h0
  · rw [h.ed]
    exact Cert.Pre_scored.edges _ _ _ _ _ _ h1
  · rw [h.ed]
    exact Cert.Pre_scored.rows _ _ _ _ _ _ h1 h2
  · rw [h.nd]
    exact Cert.Pre_scored.nodes _ _ _ _ _ _ h3
  · rw [h.mx]
    exact Cert.Pre_scored.mixes _ _ _ _ _ _ h4
  · rw [h.pl]
    exact Cert.Pre_scored.locs _ _ _ _ _ _ h5
  · rw [h.av]
    exact Cert.Pre_scored.vecs _ _ _ _ _ _ h6

theorem Agree.value (h : Agree m m' c) : Cert.Reference3Ideal.Gat2.value (StableHlo.launchContents m' c) = Cert.Kernel3Ideal.Gat2.value m c := by
  unfold Cert.Reference3Ideal.Gat2.value Cert.Kernel3Ideal.Gat2.value
  rw [h.ed, h.nd, h.mx, h.pl, h.av]
  simp only [h.pr]

theorem results (h : Agree m m' c) (hp : Cert.Pre_Kernel3Ideal_scored m) (k : Fin 2000) (hk : First (Cert.Kernel3Ideal.Gat2.value m c) k) :
    Cert.Reference3Ideal.Gat2.result (StableHlo.launchContents m' c) = Cert.Kernel3Ideal.Gat2.single k := by
  funext y
  obtain rfl : ix2 0 0 = y := funext fun a => by fin_cases a <;> exact Subsingleton.elim (α := Fin 1) _ _
  exact Cert.Reference3Ideal.Gat2.result_at _ (h.scored hp) k (h.value.symm ▸ hk)

theorem algebraic : Cert.algebraic_Kernel3Ideal_Reference3Ideal_pre_scored := by
  intro m g m' g' hp hagree
  have hA : ∀ c, Agree m m' c := hagree
  choose k hk using fun c => exists_first (Cert.Kernel3Ideal.Gat2.value m c)
  refine ⟨fun c => Cert.Kernel3Ideal.Gat2.single (k c), ?_, ?_⟩
  · refine (θ_run _ _ _).mono (fun r h c => ?_) (θ_run_and (Cert.Kernel3Ideal.Gat2.unchanged m g trivial) (Cert.Kernel3Ideal.Gat2.run_main m g trivial))
    exact ⟨((h.2 c).1 8).trans (Cert.Kernel3Ideal.Gat2.arr8 m trivial c (k c) (hk c)), h.1 c⟩
  · refine (θ_run _ _ _).mono (fun r h c => ?_) (Cert.Reference3Ideal.Gat2.run_result m' g')
    obtain ⟨h0, hrest⟩ := h c
    exact ⟨h0.trans (results (hA c) hp (k c) (hk c)), hrest⟩

end Cert.Gat2Result
-- ==== Proof.lean ====
/-
  The proof of the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_first_four
public import proofs.«01_k».proof.Proof.Seq.FrameKernel
public import proofs.«01_k».proof.Proof.Seq.FrameKernelIdeal
public import proofs.«01_k».proof.Proof.Seq.Result
public import proofs.«01_k».proof.Proof.Seq.MixResult
public import proofs.«01_k».proof.Proof.Gen.Pre_located
public import proofs.«01_k».proof.Proof.Gat1.Result
public import proofs.«01_k».proof.Proof.Gen.Kernel2
public import proofs.«01_k».proof.Proof.Gen.Kernel2Ideal
public import proofs.«01_k».proof.Proof.Gen.Reference2Ideal
public import proofs.«01_k».proof.Proof.Gen.Pre_graph
public import proofs.«01_k».proof.Proof.Gen.Kernel2.Frame
public import proofs.«01_k».proof.Proof.Gat2.Frame
public import proofs.«01_k».proof.Proof.Gat2.FrameIdeal
public import proofs.«01_k».proof.Proof.Gat2.Result
public import proofs.«01_k».proof.Proof.Gen.Kernel3
public import proofs.«01_k».proof.Proof.Gen.Kernel3Ideal
public import proofs.«01_k».proof.Proof.Gen.Reference3Ideal
public import proofs.«01_k».proof.Proof.Gen.Pre_scored

@[expose] public section

noncomputable section

namespace Cert.Proof

open Idealize.ShloMosaic Idealize.SL.Sem

section
open Cert.ReferenceIdeal

/-- The reference's arguments end unchanged, and it has no counters. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20)) ∧ r.2.sem = fun _ => 0) :=
  (θ_run _ _ _).mono (fun r h => ⟨fun c => (h c).2.2.2.2.2, sem_eq_zero_of_no_sems rfl _⟩) (Cert.ReferenceIdeal.Value.run m ρ)

end

section
open Cert.Reference2Ideal

/-- The layer's reference likewise. -/
theorem ref2_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) :=
  (θ_run _ _ _).mono (fun r h => ⟨fun c => (h c).2.2, sem_eq_zero_of_no_sems rfl _⟩) (Cert.Reference2Ideal.Gat1.run_result m ρ)

end

section
open Cert.Reference3Ideal

/-- The second layer's reference likewise. -/
theorem ref3_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) ∧ r.2.sem = fun _ => 0) :=
  (θ_run _ _ _).mono (fun r h => ⟨fun c => (h c).2, sem_eq_zero_of_no_sems rfl _⟩) (Cert.Reference3Ideal.Gat2.run_result m ρ)

end

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_located.Gen.facts, Cert.Pre_graph.Gen.facts, Cert.Pre_scored.Gen.facts, Cert.On_first_four.Gen.facts,
    fun m ρ _ => Cert.Kernel.Seq.frame m ρ, fun m ρ _ => Cert.KernelIdeal.Seq.frame m ρ,
    fun m ρ _ => Cert.KernelIdeal.Seq.frame m ρ, fun m ρ _ => ref_frame m ρ, fun m ρ _ => ref_frame m ρ,
    fun m ρ _ => Cert.Kernel2.Gen.frame m ρ, fun m ρ _ => Cert.Kernel2Ideal.Gen.frame m ρ, fun m ρ _ => Cert.Kernel2Ideal.Gen.frame m ρ,
    fun m ρ _ => ref2_frame m ρ, fun m ρ _ => ref2_frame m ρ,
    fun m ρ _ => Cert.Kernel3.Gat2.frame m ρ trivial, fun m ρ _ => Cert.Kernel3Ideal.Gat2.frame m ρ trivial,
    fun m ρ _ => Cert.Kernel3Ideal.Gat2.frame m ρ trivial, fun m ρ _ => ref3_frame m ρ, fun m ρ _ => ref3_frame m ρ,
    trivial, Cert.SeqResult.algebraic, Cert.SeqResult.algebraic_located, trivial, Cert.Gat1Result.algebraic, trivial, Cert.Gat2Result.algebraic⟩

end Cert.Proof

end
